-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_on_the_grid_KernelIdeal [hPre_on_the_grid_KernelIdeal : Cert.Pre_on_the_grid_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_on_the_grid_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_on_the_grid_ReferenceIdeal [hPre_on_the_grid_ReferenceIdeal : Cert.Pre_on_the_grid_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_on_the_grid_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_on_the_grid_KernelIdeal [hKernelIdeal : Cert.KernelIdeal.Facts] [hPre_on_the_grid_KernelIdeal : Cert.Pre_on_the_grid_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_on_the_grid_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_on_the_grid_ReferenceIdeal [hReferenceIdeal : Cert.ReferenceIdeal.Facts] [hPre_on_the_grid_ReferenceIdeal : Cert.Pre_on_the_grid_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_on_the_grid_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_on_the_grid_KernelIdeal [hKernelIdeal : Cert.KernelIdeal.Facts] [hReferenceIdeal : Cert.ReferenceIdeal.Facts] [hPre_on_the_grid_KernelIdeal : Cert.Pre_on_the_grid_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_on_the_grid_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v79) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_on_the_grid_KernelIdeal : Cert.Pre_on_the_grid_KernelIdeal.Facts) (hPre_on_the_grid_ReferenceIdeal : Cert.Pre_on_the_grid_ReferenceIdeal.Facts),
    quiescent_Kernel (hKernel := hKernel)
    ∧ quiescent_KernelIdeal (hKernelIdeal := hKernelIdeal)
    ∧ quiescent_KernelIdeal_pre_on_the_grid_KernelIdeal (hKernelIdeal := hKernelIdeal) (hPre_on_the_grid_KernelIdeal := hPre_on_the_grid_KernelIdeal)
    ∧ quiescent_ReferenceIdeal (hReferenceIdeal := hReferenceIdeal)
    ∧ quiescent_ReferenceIdeal_pre_on_the_grid_ReferenceIdeal (hReferenceIdeal := hReferenceIdeal) (hPre_on_the_grid_ReferenceIdeal := hPre_on_the_grid_ReferenceIdeal)
    ∧ preserves_Kernel_KernelIdeal
    ∧ algebraic_KernelIdeal_ReferenceIdeal_pre_on_the_grid_KernelIdeal (hKernelIdeal := hKernelIdeal) (hReferenceIdeal := hReferenceIdeal) (hPre_on_the_grid_KernelIdeal := hPre_on_the_grid_KernelIdeal)
-- ==== Pre_on_the_grid_KernelIdeal.lean ====
abbrev S4096x128 : Shape := ⟨2, ![4096, 128]⟩
abbrev S128x8192 : Shape := ⟨2, ![128, 8192]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x128_S128x8192_S4096x8192_1_0_0_1_n_n_wf : DotDims.WF S4096x128 S128x8192 S4096x8192 [1] [0] [0] [1] [] []

variable [Facts]

def dot_S4096x128_S128x8192_S4096x8192_1_0_0_1_n_n : DotDims S4096x128 S128x8192 S4096x8192 where
  lhsContracting := [1]
  rhsContracting := [0]
  lhsNonContracting := [0]
  rhsNonContracting := [1]
  lhsBatch := []
  rhsBatch := []
  wf := dot_S4096x128_S128x8192_S4096x8192_1_0_0_1_n_n_wf
def fn_round {F : FTy → Type} [FloatOps F] (arg0 : FVec F S4096x8192 .f32) : FVec F S4096x8192 .f32 :=
  let v0 : FVec F S4096x8192 .f32 := Host.roundeven arg0
  v0

def fn {F : FTy → Type} [FloatOps F] (main_arg0 : FVec F S4096x128 .bf16) (main_arg1 : FVec F S128x8192 .bf16) : IVec S_ 1 :=
  let main_v0 : FVec F S4096x8192 .f32 := (fun l r => Host.dotGeneral dot_S4096x128_S128x8192_S4096x8192_1_0_0_1_n_n none l r) main_arg0 main_arg1
  let main_cst : FVec F S_ .f32 := constant S_ .f32 0x45000000#32
  let main_v1 : FVec F S4096x8192 .f32 := broadcastInDim S4096x8192 ![] bcast_S_S4096x8192 main_cst
  let main_v2 : FVec F S4096x8192 .f32 := mulf main_v0 main_v1
  let main_v3 : FVec F S4096x8192 .f32 := fn_round (F := F) main_v2
  let main_v4 : IVec S4096x8192 1 := cmpf .oeq main_v3 main_v2
  let main_v5 : FVec F S4096x8192 .f32 := Host.absf main_v2
  let main_cst_0 : FVec F S_ .f32 := constant S_ .f32 0x447FC000#32
  let main_v6 : FVec F S4096x8192 .f32 := broadcastInDim S4096x8192 ![] bcast_S_S4096x8192 main_cst_0
  let main_v7 : IVec S4096x8192 1 := cmpf .ole main_v5 main_v6
  let main_v8 : IVec S4096x8192 1 := andi main_v4 main_v7
  let main_c : IVec S_ 1 := constantI S_ 1 1#1
  let main_v9 : IVec S_ 1 := (fun x v => Host.reduce IntOp.andi x v reducesTo_S4096x8192_S_d0_1 h_S_) main_v8 main_c
  main_v9
-- ==== Pre_on_the_grid_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn_round {F : FTy → Type} [FloatOps F] (arg0 : FVec F S4096x8192 .f32) : FVec F S4096x8192 .f32 :=
  let v0 : FVec F S4096x8192 .f32 := Host.roundeven arg0
  v0

def fn {F : FTy → Type} [FloatOps F] (main_arg0 : FVec F S4096x4096 .bf16) (main_arg1 : FVec F S4096x8192 .bf16) : IVec S_ 1 :=
  let main_v0 : FVec F S4096x8192 .f32 := (fun l r => Host.dotGeneral dot_S4096x4096_S4096x8192_S4096x8192_1_0_0_1_n_n none l r) main_arg0 main_arg1
  let main_cst : FVec F S_ .f32 := constant S_ .f32 0x45000000#32
  let main_v1 : FVec F S4096x8192 .f32 := broadcastInDim S4096x8192 ![] bcast_S_S4096x8192 main_cst
  let main_v2 : FVec F S4096x8192 .f32 := mulf main_v0 main_v1
  let main_v3 : FVec F S4096x8192 .f32 := fn_round (F := F) main_v2
  let main_v4 : IVec S4096x8192 1 := cmpf .oeq main_v3 main_v2
  let main_v5 : FVec F S4096x8192 .f32 := Host.absf main_v2
  let main_cst_0 : FVec F S_ .f32 := constant S_ .f32 0x447FC000#32
  let main_v6 : FVec F S4096x8192 .f32 := broadcastInDim S4096x8192 ![] bcast_S_S4096x8192 main_cst_0
  let main_v7 : IVec S4096x8192 1 := cmpf .ole main_v5 main_v6
  let main_v8 : IVec S4096x8192 1 := andi main_v4 main_v7
  let main_c : IVec S_ 1 := constantI S_ 1 1#1
  let main_v9 : IVec S_ 1 := (fun x v => Host.reduce IntOp.andi x v reducesTo_S4096x8192_S_d0_1 h_S_) main_v8 main_c
  main_v9
-- ==== Kernel.lean ====
abbrev S4096x128 : Shape := ⟨2, ![4096, 128]⟩
abbrev S128x8192 : Shape := ⟨2, ![128, 8192]⟩
abbrev S32 : Shape := ⟨1, ![32]⟩
abbrev S_ : Shape := ⟨0, ![]⟩
abbrev S1 : Shape := ⟨1, ![1]⟩
abbrev S3 : Shape := ⟨1, ![3]⟩
abbrev S4096x8192 : Shape := ⟨2, ![4096, 8192]⟩
abbrev S128x4096 : Shape := ⟨2, ![128, 4096]⟩
abbrev S2x128x4096 : Shape := ⟨3, ![2, 128, 4096]⟩
abbrev S8x128 : Shape := ⟨2, ![8, 128]⟩
abbrev S5x8x128 : Shape := ⟨3, ![5, 8, 128]⟩
abbrev S2 : Shape := ⟨1, ![2]⟩
abbrev S5 : Shape := ⟨1, ![5]⟩
abbrev S128x128 : Shape := ⟨2, ![128, 128]⟩
abbrev S1x128x4096 : Shape := ⟨3, ![1, 128, 4096]⟩
abbrev S1x1x1 : Shape := ⟨3, ![1, 1, 1]⟩
abbrev S1x8x128 : Shape := ⟨3, ![1, 8, 128]⟩

abbrev nBuf : Space → Nat
  | .hbm => 49
  | .vmem => 13
  | .smem => 2
  | _ => 0

abbrev bufTy : (tb : Table) → Fin (tcTables nBuf tb) → BufTy
  | .hbm, ⟨0, _⟩ => ⟨S4096x128, .bf16⟩
  | .hbm, ⟨1, _⟩ => ⟨S128x8192, .bf16⟩
  | .hbm, ⟨2, _⟩ => ⟨S32, .i32⟩
  | .hbm, ⟨3, _⟩ => ⟨S32, .i32⟩
  | .hbm, ⟨4, _⟩ => ⟨S_, .bf16⟩
  | .hbm, ⟨5, _⟩ => ⟨S128x8192, .bf16⟩
  | .hbm, ⟨6, _⟩ => ⟨S128x8192, .bf16⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S1, .i32⟩
  | .hbm, ⟨46, _⟩ => ⟨S1, .i32⟩
  | .hbm, ⟨47, _⟩ => ⟨S3, .i32⟩
  | .hbm, ⟨48, _⟩ => ⟨S4096x8192, .bf16⟩
  | .local _ .vmem, ⟨0, _⟩ => ⟨S4096x128, .bf16⟩
  | .local _ .vmem, ⟨1, _⟩ => ⟨S128x8192, .bf16⟩
  | .local _ .vmem, ⟨2, _⟩ => ⟨S128x4096, .i16⟩
  | .local _ .vmem, ⟨3, _⟩ => ⟨S128x4096, .i16⟩
  | .local _ .vmem, ⟨4, _⟩ => ⟨S128x4096, .i16⟩
  | .local _ .vmem, ⟨5, _⟩ => ⟨S128x4096, .i16⟩
  | .local _ .vmem, ⟨6, _⟩ => ⟨S128x4096, .i16⟩
  | .local _ .vmem, ⟨7, _⟩ => ⟨S128x4096, .i16⟩
  | .local _ .vmem, ⟨8, _⟩ => ⟨S128x4096, .i16⟩
  | .local _ .vmem, ⟨9, _⟩ => ⟨S128x4096, .i16⟩
  | .local _ .vmem, ⟨10, _⟩ => ⟨S2x128x4096, .bf16⟩
  | .local _ .vmem, ⟨11, _⟩ => ⟨S8x128, .f32⟩
  | .local _ .vmem, ⟨12, _⟩ => ⟨S5x8x128, .f32⟩
  | .local _ .smem, ⟨0, _⟩ => ⟨S3, .i32⟩
  | .local _ .smem, ⟨1, _⟩ => ⟨S32, .i32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 3 20 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_3 : Ref sig .tc := ⟨.hbm, 13, rfl⟩
abbrev main_v7 : Ref sig .tc := ⟨.hbm, 14, rfl⟩
abbrev main_c_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_5 : Ref sig .tc := ⟨.hbm, 20, rfl⟩
abbrev main_v12 : Ref sig .tc := ⟨.hbm, 21, rfl⟩
abbrev main_c_6 : Ref sig .tc := ⟨.hbm, 22, rfl⟩
abbrev main_v13 : Ref sig .tc := ⟨.hbm, 23, rfl⟩
abbrev main_c_7 : Ref sig .tc := ⟨.hbm, 24, rfl⟩
abbrev main_v14 : Ref sig .tc := ⟨.hbm, 25, rfl⟩
abbrev main_c_8 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_9 : Ref sig .tc := ⟨.hbm, 31, rfl⟩
abbrev main_v19 : Ref sig .tc := ⟨.hbm, 32, rfl⟩
abbrev main_c_10 : Ref sig .tc := ⟨.hbm, 33, rfl⟩
abbrev main_v20 : Ref sig .tc := ⟨.hbm, 34, rfl⟩
abbrev main_c_11 : Ref sig .tc := ⟨.hbm, 35, rfl⟩
abbrev main_v21 : Ref sig .tc := ⟨.hbm, 36, rfl⟩
abbrev main_c_12 : Ref sig .tc := ⟨.hbm, 37, rfl⟩
abbrev main_v22 : Ref sig .tc := ⟨.hbm, 38, rfl⟩
abbrev main_c_13 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg2_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 32
abbrev τ : Topo := Topo.v7x

variable {F : FTy → Type} [FloatOps F]

abbrev grid0 : Pipeline.Grid := .none

def k0_dev1 (v2 : BitVec 32) : Nat :=
  let c0_i32 : BitVec 32 := 0#32
  let c1_i32_0 : BitVec 32 := 1#32
  let v4 : BitVec 32 := Scalar.muli v2 c1_i32_0
  let v5 : BitVec 32 := Scalar.addi c0_i32 v4
  v5.toNat

def k0_dev2 (v1 : BitVec 32) : Nat :=
  let c0_i32_3 : BitVec 32 := 0#32
  let c1_i32_2 : BitVec 32 := 1#32
  let v6 : BitVec 32 := Scalar.muli v1 c1_i32_2
  let v7 : BitVec 32 := Scalar.addi c0_i32_3 v6
  v7.toNat

def k0_off1 (v0 : BitVec 32) : Fin 2 → Nat :=
  let c128_i32 : BitVec 32 := 128#32
  let v8 : BitVec 32 := Scalar.muli v0 c128_i32
  let v9 : Index := Scalar.indexCast v8
  let c0_4 : Index := 0#32
  ![v9.toNat, 0]

@[reducible] def k0_t1_loop : Scf.Loop 32 :=
  let c0_i32_15 : BitVec 32 := 0#32
  let c31_i32 : BitVec 32 := 31#32
  let v32 : BitVec 32 := Scalar.addi c0_i32_15 c31_i32
  let c1_i32_16 : BitVec 32 := 1#32
  ⟨c0_i32_15, v32, c1_i32_16⟩
def k0_dev3 (v1 : BitVec 32) : Nat :=
  let c0_i32_151 : BitVec 32 := 0#32
  let c1_i32_150 : BitVec 32 := 1#32
  let v263 : BitVec 32 := Scalar.muli v1 c1_i32_150
  let v264 : BitVec 32 := Scalar.addi c0_i32_151 v263
  v264.toNat
def k0_dev4 (v2 : BitVec 32) : Nat :=
  let c0_i32_155 : BitVec 32 := 0#32
  let c1_i32_154 : BitVec 32 := 1#32
  let v269 : BitVec 32 := Scalar.muli v2 c1_i32_154
  let v270 : BitVec 32 := Scalar.addi c0_i32_155 v269
  v270.toNat
def k0_off2 (v0 : BitVec 32) (k0_t1 : Fin k0_t1_loop.trips) : Fin 2 → Nat :=
  let c64_i32 : BitVec 32 := 64#32
  let v275 : BitVec 32 := Scalar.addi v0 c64_i32
  let c1_i32_156 : BitVec 32 := 1#32
  let v276 : BitVec 32 := Scalar.subi v275 c1_i32_156
  let c0_i32_15 : BitVec 32 := 0#32
  let c1_i32_16 : BitVec 32 := 1#32
  let arg23 : BitVec 32 := Scf.iv c0_i32_15 c1_i32_16 k0_t1
  let v277 : BitVec 32 := Scalar.subi v276 arg23
  let c32_i32_157 : BitVec 32 := 32#32
  let v278 : BitVec 32 := Scalar.remsi v277 c32_i32_157
  let c128_i32_160 : BitVec 32 := 128#32
  let v282 : BitVec 32 := Scalar.muli v278 c128_i32_160
  let v283 : Index := Scalar.indexCast v282
  let c0_161 : Index := 0#32
  ![v283.toNat, 0]
def k0_off3 (v0 : BitVec 32) (k0_t1 : Fin k0_t1_loop.trips) : Fin 2 → Nat :=
  let c1_i32_158 : BitVec 32 := 1#32
  let v279 : BitVec 32 := Scalar.addi v0 c1_i32_158
  let c0_i32_15 : BitVec 32 := 0#32
  let c1_i32_16 : BitVec 32 := 1#32
  let arg23 : BitVec 32 := Scf.iv c0_i32_15 c1_i32_16 k0_t1
  let v280 : BitVec 32 := Scalar.addi v279 arg23
  let c32_i32_159 : BitVec 32 := 32#32
  let v281 : BitVec 32 := Scalar.remsi v280 c32_i32_159
  let c128_i32_165 : BitVec 32 := 128#32
  let v289 : BitVec 32 := Scalar.muli v281 c128_i32_165
  let v290 : Index := Scalar.indexCast v289
  let c0_166 : Index := 0#32
  ![v290.toNat, 0]
def k0_cond2 (k0_t1 : Fin k0_t1_loop.trips) : BitVec 1 :=
  let c0_i32_15 : BitVec 32 := 0#32
  let c1_i32_16 : BitVec 32 := 1#32
  let arg23 : BitVec 32 := Scf.iv c0_i32_15 c1_i32_16 k0_t1
  let c30_i32 : BitVec 32 := 30#32
  let v324 : BitVec 1 := Scalar.cmpi .slt arg23 c30_i32
  let v325 : BitVec 32 := Scalar.extui v324
  let c0_i32_192 : BitVec 32 := 0#32
  let v326 : BitVec 1 := Scalar.cmpi .ne v325 c0_i32_192
  v326

def k0_dev5 (v2 : BitVec 32) : Nat :=
  let c0_i32_195 : BitVec 32 := 0#32
  let c1_i32_194 : BitVec 32 := 1#32
  let v327 : BitVec 32 := Scalar.muli v2 c1_i32_194
  let v328 : BitVec 32 := Scalar.addi c0_i32_195 v327
  v328.toNat
def k0_dev6 (v1 : BitVec 32) : Nat :=
  let c0_i32_198 : BitVec 32 := 0#32
  let c1_i32_197 : BitVec 32 := 1#32
  let v329 : BitVec 32 := Scalar.muli v1 c1_i32_197
  let v330 : BitVec 32 := Scalar.addi c0_i32_198 v329
  v330.toNat
@[reducible] def k0_t2_loop : Scf.Loop 32 :=
  let c0_i32_36 : BitVec 32 := 0#32
  let c5_i32 : BitVec 32 := 5#32
  let v61 : BitVec 32 := Scalar.addi c0_i32_36 c5_i32
  let c1_i32_37 : BitVec 32 := 1#32
  ⟨c0_i32_36, v61, c1_i32_37⟩
def k0_off4 (v0 : BitVec 32) (k0_t2 : Fin k0_t2_loop.trips) : Fin 1 → Nat :=
  let c1_i32_148 : BitVec 32 := 1#32
  let c0_i32_36 : BitVec 32 := 0#32
  let c1_i32_37 : BitVec 32 := 1#32
  let arg23 : BitVec 32 := Scf.iv c0_i32_36 c1_i32_37 k0_t2
  let v264 : BitVec 32 := Scalar.shli c1_i32_148 arg23
  let v265 : BitVec 32 := Scalar.addi v0 v264
  let c32_i32_149 : BitVec 32 := 32#32
  let v266 : BitVec 32 := Scalar.remsi v265 c32_i32_149
  let v267 : Index := Scalar.indexCast v266
  ![v267.toNat]
def k0_off5 (k0_t2 : Fin k0_t2_loop.trips) : Fin 1 → Nat :=
  let c0_i32_36 : BitVec 32 := 0#32
  let c1_i32_37 : BitVec 32 := 1#32
  let arg23 : BitVec 32 := Scf.iv c0_i32_36 c1_i32_37 k0_t2
  ![arg23.toNat]
def k0_off6 (k0_t2 : Fin k0_t2_loop.trips) : Fin 3 → Nat :=
  let c0_i32_36 : BitVec 32 := 0#32
  let c1_i32_37 : BitVec 32 := 1#32
  let arg23 : BitVec 32 := Scf.iv c0_i32_36 c1_i32_37 k0_t2
  let c0_i32_152 : BitVec 32 := 0#32
  let c0_i32_153 : BitVec 32 := 0#32
  ![arg23.toNat, 0, 0]
def k0_dev7 (v268 : BitVec 32) : Nat :=
  let c0_i32_151 : BitVec 32 := 0#32
  let c1_i32_150 : BitVec 32 := 1#32
  let v269 : BitVec 32 := Scalar.muli v268 c1_i32_150
  let v270 : BitVec 32 := Scalar.addi c0_i32_151 v269
  v270.toNat

def k0_chk4 (v268 : BitVec 32) : Prop :=
  ((k0_dev7 v268) < nD)
theorem k0_dev7_lt : ∀ (v268 : BitVec 32) (k0_hw4 : k0_chk4 v268), (k0_dev7 v268) < nD := fun v268 k0_hw4 => k0_hw4

def k0_off7 (k0_t2 : Fin k0_t2_loop.trips) : Fin 1 → Nat :=
  let c0_i32_36 : BitVec 32 := 0#32
  let c1_i32_37 : BitVec 32 := 1#32
  let arg23 : BitVec 32 := Scf.iv c0_i32_36 c1_i32_37 k0_t2
  ![arg23.toNat]
def k0_off8 (k0_t2 : Fin k0_t2_loop.trips) : Fin 3 → Nat :=
  let c0_i32_36 : BitVec 32 := 0#32
  let c1_i32_37 : BitVec 32 := 1#32
  let arg23 : BitVec 32 := Scf.iv c0_i32_36 c1_i32_37 k0_t2
  let c0_i32_155 : BitVec 32 := 0#32
  let c0_i32_156 : BitVec 32 := 0#32
  ![arg23.toNat, 0, 0]
def k0_off9 (k0_t2 : Fin k0_t2_loop.trips) : Fin 3 → Nat :=
  let c0_i32_36 : BitVec 32 := 0#32
  let c1_i32_37 : BitVec 32 := 1#32
  let arg23 : BitVec 32 := Scf.iv c0_i32_36 c1_i32_37 k0_t2
  let v287 : Index := Scalar.indexCast arg23
  let c0_161 : Index := 0#32
  let c0_162 : Index := 0#32
  ![v287.toNat, 0, 0]
def k0_off10 (v0 : BitVec 32) : Fin 2 → Nat :=
  let c1_i32_18 : BitVec 32 := 1#32
  let v33 : BitVec 32 := Scalar.addi v0 c1_i32_18
  let c32_i32 : BitVec 32 := 32#32
  let v34 : BitVec 32 := Scalar.remsi v33 c32_i32
  let c128_i32_81 : BitVec 32 := 128#32
  let v151 : BitVec 32 := Scalar.muli v34 c128_i32_81
  let c0_i32_84 : BitVec 32 := 0#32
  ![v151.toNat, 0]
def k0_off11 (v0 : BitVec 32) : Fin 2 → Nat :=
  let c32_i32_19 : BitVec 32 := 32#32
  let v35 : BitVec 32 := Scalar.addi v0 c32_i32_19
  let c1_i32_20 : BitVec 32 := 1#32
  let v36 : BitVec 32 := Scalar.subi v35 c1_i32_20
  let c32_i32_21 : BitVec 32 := 32#32
  let v37 : BitVec 32 := Scalar.remsi v36 c32_i32_21
  let c128_i32_127 : BitVec 32 := 128#32
  let v243 : BitVec 32 := Scalar.muli v37 c128_i32_127
  let c4096_i32 : BitVec 32 := 4096#32
  ![v243.toNat, 4096]
@[reducible] def k0_t3_loop : Scf.Loop 32 :=
  let c0_i32_142 : BitVec 32 := 0#32
  let c31_i32_143 : BitVec 32 := 31#32
  let v259 : BitVec 32 := Scalar.addi c0_i32_142 c31_i32_143
  let c1_i32_144 : BitVec 32 := 1#32
  ⟨c0_i32_142, v259, c1_i32_144⟩
def k0_dev8 (v1 : BitVec 32) : Nat :=
  let c0_i32_151 : BitVec 32 := 0#32
  let c1_i32_150 : BitVec 32 := 1#32
  let v263 : BitVec 32 := Scalar.muli v1 c1_i32_150
  let v264 : BitVec 32 := Scalar.addi c0_i32_151 v263
  v264.toNat
def k0_dev9 (v2 : BitVec 32) : Nat :=
  let c0_i32_155 : BitVec 32 := 0#32
  let c1_i32_154 : BitVec 32 := 1#32
  let v269 : BitVec 32 := Scalar.muli v2 c1_i32_154
  let v270 : BitVec 32 := Scalar.addi c0_i32_155 v269
  v270.toNat
def k0_off12 (v0 : BitVec 32) (k0_t3 : Fin k0_t3_loop.trips) : Fin 2 → Nat :=
  let c32_i32_170 : BitVec 32 := 32#32
  let v287 : BitVec 32 := Scalar.addi v0 c32_i32_170
  let c0_i32_142 : BitVec 32 := 0#32
  let c1_i32_144 : BitVec 32 := 1#32
  let arg23 : BitVec 32 := Scf.iv c0_i32_142 c1_i32_144 k0_t3
  let v288 : BitVec 32 := Scalar.subi v287 arg23
  let c32_i32_171 : BitVec 32 := 32#32
  let v289 : BitVec 32 := Scalar.remsi v288 c32_i32_171
  let c128_i32_213 : BitVec 32 := 128#32
  let v378 : BitVec 32 := Scalar.muli v289 c128_i32_213
  let c0_i32_216 : BitVec 32 := 0#32
  ![v378.toNat, 0]
def k0_off13 (v0 : BitVec 32) (k0_t3 : Fin k0_t3_loop.trips) : Fin 2 → Nat :=
  let c0_i32_142 : BitVec 32 := 0#32
  let c1_i32_144 : BitVec 32 := 1#32
  let arg23 : BitVec 32 := Scf.iv c0_i32_142 c1_i32_144 k0_t3
  let v290 : BitVec 32 := Scalar.addi v0 arg23
  let c32_i32_172 : BitVec 32 := 32#32
  let v291 : BitVec 32 := Scalar.remsi v290 c32_i32_172
  let c128_i32_259 : BitVec 32 := 128#32
  let v470 : BitVec 32 := Scalar.muli v291 c128_i32_259
  let c4096_i32_262 : BitVec 32 := 4096#32
  ![v470.toNat, 4096]

def k0_chk3 (v0 : BitVec 32) : Prop :=
  (∀ a, (k0_off1 v0) a + S128x128.size a ≤ S4096x128.size a) ∧
  (∀ k0_t1 : Fin k0_t1_loop.trips, ∀ a, (k0_off2 v0 k0_t1) a + S128x128.size a ≤ S4096x128.size a) ∧
  (∀ k0_t1 : Fin k0_t1_loop.trips, ∀ a, (k0_off3 v0 k0_t1) a + S128x128.size a ≤ S4096x128.size a) ∧
  (∀ k0_t2 : Fin k0_t2_loop.trips, ∀ a, (k0_off4 v0 k0_t2) a + S1.size a ≤ S32.size a) ∧
  (∀ a, (k0_off10 v0) a + S128x4096.size a ≤ S4096x8192.size a) ∧
  (∀ (hinb : ∀ a, (k0_off10 v0) a + S128x4096.size a ≤ S4096x8192.size a), (Rect.unit (s := S4096x8192) (k0_off10 v0) S128x4096.size hinb).WholeWords (EltTy.packing .bf16)) ∧
  (∀ a, (k0_off11 v0) a + S128x4096.size a ≤ S4096x8192.size a) ∧
  (∀ (hinb : ∀ a, (k0_off11 v0) a + S128x4096.size a ≤ S4096x8192.size a), (Rect.unit (s := S4096x8192) (k0_off11 v0) S128x4096.size hinb).WholeWords (EltTy.packing .bf16)) ∧
  (∀ k0_t3 : Fin k0_t3_loop.trips, ∀ a, (k0_off12 v0 k0_t3) a + S128x4096.size a ≤ S4096x8192.size a) ∧
  (∀ k0_t3 : Fin k0_t3_loop.trips, ∀ (hinb : ∀ a, (k0_off12 v0 k0_t3) a + S128x4096.size a ≤ S4096x8192.size a), (Rect.unit (s := S4096x8192) (k0_off12 v0 k0_t3) S128x4096.size hinb).WholeWords (EltTy.packing .bf16)) ∧
  (∀ k0_t3 : Fin k0_t3_loop.trips, ∀ a, (k0_off13 v0 k0_t3) a + S128x4096.size a ≤ S4096x8192.size a) ∧
  (∀ k0_t3 : Fin k0_t3_loop.trips, ∀ (hinb : ∀ a, (k0_off13 v0 k0_t3) a + S128x4096.size a ≤ S4096x8192.size a), (Rect.unit (s := S4096x8192) (k0_off13 v0 k0_t3) S128x4096.size hinb).WholeWords (EltTy.packing .bf16))
theorem k0_off1_inb : ∀ (v0 : BitVec 32) (k0_hw3 : k0_chk3 v0), ∀ a, (k0_off1 v0) a + S128x128.size a ≤ S4096x128.size a := fun v0 k0_hw3 => k0_hw3.1
theorem k0_off2_inb : ∀ (v0 : BitVec 32) (k0_hw3 : k0_chk3 v0) (k0_t1 : Fin k0_t1_loop.trips), ∀ a, (k0_off2 v0 k0_t1) a + S128x128.size a ≤ S4096x128.size a := fun v0 k0_hw3 k0_t1 => k0_hw3.2.1 k0_t1
theorem k0_off3_inb : ∀ (v0 : BitVec 32) (k0_hw3 : k0_chk3 v0) (k0_t1 : Fin k0_t1_loop.trips), ∀ a, (k0_off3 v0 k0_t1) a + S128x128.size a ≤ S4096x128.size a := fun v0 k0_hw3 k0_t1 => k0_hw3.2.2.1 k0_t1
theorem k0_off4_inb : ∀ (v0 : BitVec 32) (k0_hw3 : k0_chk3 v0) (k0_t2 : Fin k0_t2_loop.trips), ∀ a, (k0_off4 v0 k0_t2) a + S1.size a ≤ S32.size a := fun v0 k0_hw3 k0_t2 => k0_hw3.2.2.2.1 k0_t2
theorem k0_off10_inb : ∀ (v0 : BitVec 32) (k0_hw3 : k0_chk3 v0), ∀ a, (k0_off10 v0) a + S128x4096.size a ≤ S4096x8192.size a := fun v0 k0_hw3 => k0_hw3.2.2.2.2.1
theorem k0_off10_wordsbf16 : ∀ (v0 : BitVec 32) (k0_hw3 : k0_chk3 v0), (Rect.unit (s := S4096x8192) (k0_off10 v0) S128x4096.size (k0_off10_inb v0 k0_hw3)).WholeWords (EltTy.packing .bf16) := fun v0 k0_hw3 => k0_hw3.2.2.2.2.2.1 (k0_off10_inb v0 k0_hw3)
theorem k0_off11_inb : ∀ (v0 : BitVec 32) (k0_hw3 : k0_chk3 v0), ∀ a, (k0_off11 v0) a + S128x4096.size a ≤ S4096x8192.size a := fun v0 k0_hw3 => k0_hw3.2.2.2.2.2.2.1
theorem k0_off11_wordsbf16 : ∀ (v0 : BitVec 32) (k0_hw3 : k0_chk3 v0), (Rect.unit (s := S4096x8192) (k0_off11 v0) S128x4096.size (k0_off11_inb v0 k0_hw3)).WholeWords (EltTy.packing .bf16) := fun v0 k0_hw3 => k0_hw3.2.2.2.2.2.2.2.1 (k0_off11_inb v0 k0_hw3)
theorem k0_off12_inb : ∀ (v0 : BitVec 32) (k0_hw3 : k0_chk3 v0) (k0_t3 : Fin k0_t3_loop.trips), ∀ a, (k0_off12 v0 k0_t3) a + S128x4096.size a ≤ S4096x8192.size a := fun v0 k0_hw3 k0_t3 => k0_hw3.2.2.2.2.2.2.2.2.1 k0_t3
theorem k0_off12_wordsbf16 : ∀ (v0 : BitVec 32) (k0_hw3 : k0_chk3 v0) (k0_t3 : Fin k0_t3_loop.trips), (Rect.unit (s := S4096x8192) (k0_off12 v0 k0_t3) S128x4096.size (k0_off12_inb v0 k0_hw3 k0_t3)).WholeWords (EltTy.packing .bf16) := fun v0 k0_hw3 k0_t3 => k0_hw3.2.2.2.2.2.2.2.2.2.1 k0_t3 (k0_off12_inb v0 k0_hw3 k0_t3)
theorem k0_off13_inb : ∀ (v0 : BitVec 32) (k0_hw3 : k0_chk3 v0) (k0_t3 : Fin k0_t3_loop.trips), ∀ a, (k0_off13 v0 k0_t3) a + S128x4096.size a ≤ S4096x8192.size a := fun v0 k0_hw3 k0_t3 => k0_hw3.2.2.2.2.2.2.2.2.2.2.1 k0_t3
theorem k0_off13_wordsbf16 : ∀ (v0 : BitVec 32) (k0_hw3 : k0_chk3 v0) (k0_t3 : Fin k0_t3_loop.trips), (Rect.unit (s := S4096x8192) (k0_off13 v0 k0_t3) S128x4096.size (k0_off13_inb v0 k0_hw3 k0_t3)).WholeWords (EltTy.packing .bf16) := fun v0 k0_hw3 k0_t3 => k0_hw3.2.2.2.2.2.2.2.2.2.2.2 k0_t3 (k0_off13_inb v0 k0_hw3 k0_t3)

def k0_cond5 (k0_t3 : Fin k0_t3_loop.trips) : BitVec 1 :=
  let c0_i32_142 : BitVec 32 := 0#32
  let c1_i32_144 : BitVec 32 := 1#32
  let arg23 : BitVec 32 := Scf.iv c0_i32_142 c1_i32_144 k0_t3
  let c30_i32_276 : BitVec 32 := 30#32
  let v489 : BitVec 1 := Scalar.cmpi .slt arg23 c30_i32_276
  let v490 : BitVec 32 := Scalar.extui v489
  let c0_i32_277 : BitVec 32 := 0#32
  let v491 : BitVec 1 := Scalar.cmpi .ne v490 c0_i32_277
  v491

def k0_dev10 (v2 : BitVec 32) : Nat :=
  let c0_i32_280 : BitVec 32 := 0#32
  let c1_i32_279 : BitVec 32 := 1#32
  let v492 : BitVec 32 := Scalar.muli v2 c1_i32_279
  let v493 : BitVec 32 := Scalar.addi c0_i32_280 v492
  v493.toNat

def k0_chk1 (v2 : BitVec 32) : Prop :=
  ((k0_dev1 v2) < nD) ∧
  ((k0_dev4 v2) < nD) ∧
  (∀ k0_t1 : Fin k0_t1_loop.trips, ∀ (k0_h2 : k0_cond2 k0_t1 = 1#1), (k0_dev5 v2) < nD) ∧
  ((k0_dev9 v2) < nD) ∧
  (∀ k0_t3 : Fin k0_t3_loop.trips, ∀ (k0_h5 : k0_cond5 k0_t3 = 1#1), (k0_dev10 v2) < nD)
theorem k0_dev1_lt : ∀ (v2 : BitVec 32) (k0_hw1 : k0_chk1 v2), (k0_dev1 v2) < nD := fun v2 k0_hw1 => k0_hw1.1
theorem k0_dev4_lt : ∀ (v2 : BitVec 32) (k0_hw1 : k0_chk1 v2), (k0_dev4 v2) < nD := fun v2 k0_hw1 => k0_hw1.2.1
theorem k0_dev5_lt : ∀ (v2 : BitVec 32) (k0_hw1 : k0_chk1 v2) (k0_t1 : Fin k0_t1_loop.trips), ∀ (k0_h2 : k0_cond2 k0_t1 = 1#1), (k0_dev5 v2) < nD := fun v2 k0_hw1 k0_t1 k0_h2 => k0_hw1.2.2.1 k0_t1 k0_h2
theorem k0_dev9_lt : ∀ (v2 : BitVec 32) (k0_hw1 : k0_chk1 v2), (k0_dev9 v2) < nD := fun v2 k0_hw1 => k0_hw1.2.2.2.1
theorem k0_dev10_lt : ∀ (v2 : BitVec 32) (k0_hw1 : k0_chk1 v2) (k0_t3 : Fin k0_t3_loop.trips), ∀ (k0_h5 : k0_cond5 k0_t3 = 1#1), (k0_dev10 v2) < nD := fun v2 k0_hw1 k0_t3 k0_h5 => k0_hw1.2.2.2.2 k0_t3 k0_h5

def k0_dev11 (v1 : BitVec 32) : Nat :=
  let c0_i32_283 : BitVec 32 := 0#32
  let c1_i32_282 : BitVec 32 := 1#32
  let v494 : BitVec 32 := Scalar.muli v1 c1_i32_282
  let v495 : BitVec 32 := Scalar.addi c0_i32_283 v494
  v495.toNat

def k0_chk2 (v1 : BitVec 32) : Prop :=
  ((k0_dev2 v1) < nD) ∧
  ((k0_dev3 v1) < nD) ∧
  (∀ k0_t1 : Fin k0_t1_loop.trips, ∀ (k0_h2 : k0_cond2 k0_t1 = 1#1), (k0_dev6 v1) < nD) ∧
  ((k0_dev8 v1) < nD) ∧
  (∀ k0_t3 : Fin k0_t3_loop.trips, ∀ (k0_h5 : k0_cond5 k0_t3 = 1#1), (k0_dev11 v1) < nD)
theorem k0_dev2_lt : ∀ (v1 : BitVec 32) (k0_hw2 : k0_chk2 v1), (k0_dev2 v1) < nD := fun v1 k0_hw2 => k0_hw2.1
theorem k0_dev3_lt : ∀ (v1 : BitVec 32) (k0_hw2 : k0_chk2 v1), (k0_dev3 v1) < nD := fun v1 k0_hw2 => k0_hw2.2.1
theorem k0_dev6_lt : ∀ (v1 : BitVec 32) (k0_hw2 : k0_chk2 v1) (k0_t1 : Fin k0_t1_loop.trips), ∀ (k0_h2 : k0_cond2 k0_t1 = 1#1), (k0_dev6 v1) < nD := fun v1 k0_hw2 k0_t1 k0_h2 => k0_hw2.2.2.1 k0_t1 k0_h2
theorem k0_dev8_lt : ∀ (v1 : BitVec 32) (k0_hw2 : k0_chk2 v1), (k0_dev8 v1) < nD := fun v1 k0_hw2 => k0_hw2.2.2.2.1
theorem k0_dev11_lt : ∀ (v1 : BitVec 32) (k0_hw2 : k0_chk2 v1) (k0_t3 : Fin k0_t3_loop.trips), ∀ (k0_h5 : k0_cond5 k0_t3 = 1#1), (k0_dev11 v1) < nD := fun v1 k0_hw2 k0_t3 k0_h5 => k0_hw2.2.2.2.2 k0_t3 k0_h5

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 161
  | .vmem => 0
  | .smem => 0
  | _ => 0

abbrev hbmTy0_0 (i : Nat) : BufTy := match i % 128 with
  | 0 => ⟨S4096x4096, .bf16⟩
  | 1 => ⟨S4096x8192, .bf16⟩
  | 2 => ⟨S4096x8192, .f32⟩
  | 3 => ⟨S4096x8192, .f32⟩
  | 4 => ⟨S_, .f32⟩
  | 5 => ⟨S_, .f32⟩
  | 6 => ⟨S_, .f32⟩
  | 7 => ⟨S_, .f32⟩
  | 8 => ⟨S4096x8192, .f32⟩
  | 9 => ⟨S4096x8192, .f32⟩
  | 10 => ⟨S4096x8192, .f32⟩
  | 11 => ⟨S_, .f32⟩
  | 12 => ⟨S4096x8192, .f32⟩
  | 13 => ⟨S4096x8192, .i1⟩
  | 14 => ⟨S_, .f32⟩
  | 15 => ⟨S_, .f32⟩
  | 16 => ⟨S4096x8192, .f32⟩
  | 17 => ⟨S4096x8192, .f32⟩
  | 18 => ⟨S4096x8192, .f32⟩
  | 19 => ⟨S_, .f32⟩
  | 20 => ⟨S4096x8192, .f32⟩
  | 21 => ⟨S4096x8192, .f32⟩
  | 22 => ⟨S_, .f32⟩
  | 23 => ⟨S4096x8192, .f32⟩
  | 24 => ⟨S4096x8192, .i1⟩
  | 25 => ⟨S_, .f32⟩
  | 26 => ⟨S_, .f32⟩
  | 27 => ⟨S4096x8192, .f32⟩
  | 28 => ⟨S4096x8192, .f32⟩
  | 29 => ⟨S4096x8192, .f32⟩
  | 30 => ⟨S4096x8192, .f32⟩
  | 31 => ⟨S_, .f32⟩
  | 32 => ⟨S4096x8192, .f32⟩
  | 33 => ⟨S4096x8192, .i1⟩
  | 34 => ⟨S_, .f32⟩
  | 35 => ⟨S_, .f32⟩
  | 36 => ⟨S4096x8192, .f32⟩
  | 37 => ⟨S4096x8192, .f32⟩
  | 38 => ⟨S4096x8192, .f32⟩
  | 39 => ⟨S4096x8192, .f32⟩
  | 40 => ⟨S_, .f32⟩
  | 41 => ⟨S4096x8192, .f32⟩
  | 42 => ⟨S4096x8192, .i1⟩
  | 43 => ⟨S_, .f32⟩
  | 44 => ⟨S_, .f32⟩
  | 45 => ⟨S4096x8192, .f32⟩
  | 46 => ⟨S4096x8192, .f32⟩
  | 47 => ⟨S4096x8192, .f32⟩
  | 48 => ⟨S4096x8192, .f32⟩
  | 49 => ⟨S_, .f32⟩
  | 50 => ⟨S4096x8192, .f32⟩
  | 51 => ⟨S4096x8192, .i1⟩
  | 52 => ⟨S_, .f32⟩
  | 53 => ⟨S_, .f32⟩
  | 54 => ⟨S4096x8192, .f32⟩
  | 55 => ⟨S4096x8192, .f32⟩
  | 56 => ⟨S4096x8192, .f32⟩
  | 57 => ⟨S4096x8192, .f32⟩
  | 58 => ⟨S_, .f32⟩
  | 59 => ⟨S4096x8192, .f32⟩
  | 60 => ⟨S4096x8192, .i1⟩
  | 61 => ⟨S_, .f32⟩
  | 62 => ⟨S_, .f32⟩
  | 63 => ⟨S4096x8192, .f32⟩
  | 64 => ⟨S4096x8192, .f32⟩
  | 65 => ⟨S4096x8192, .f32⟩
  | 66 => ⟨S4096x8192, .f32⟩
  | 67 => ⟨S_, .f32⟩
  | 68 => ⟨S4096x8192, .f32⟩
  | 69 => ⟨S4096x8192, .i1⟩
  | 70 => ⟨S_, .f32⟩
  | 71 => ⟨S_, .f32⟩
  | 72 => ⟨S4096x8192, .f32⟩
  | 73 => ⟨S4096x8192, .f32⟩
  | 74 => ⟨S4096x8192, .f32⟩
  | 75 => ⟨S4096x8192, .f32⟩
  | 76 => ⟨S_, .f32⟩
  | 77 => ⟨S4096x8192, .f32⟩
  | 78 => ⟨S4096x8192, .i1⟩
  | 79 => ⟨S_, .f32⟩
  | 80 => ⟨S_, .f32⟩
  | 81 => ⟨S4096x8192, .f32⟩
  | 82 => ⟨S4096x8192, .f32⟩
  | 83 => ⟨S4096x8192, .f32⟩
  | 84 => ⟨S4096x8192, .f32⟩
  | 85 => ⟨S_, .f32⟩
  | 86 => ⟨S4096x8192, .f32⟩
  | 87 => ⟨S4096x8192, .i1⟩
  | 88 => ⟨S_, .f32⟩
  | 89 => ⟨S_, .f32⟩
  | 90 => ⟨S4096x8192, .f32⟩
  | 91 => ⟨S4096x8192, .f32⟩
  | 92 => ⟨S4096x8192, .f32⟩
  | 93 => ⟨S4096x8192, .f32⟩
  | 94 => ⟨S_, .f32⟩
  | 95 => ⟨S4096x8192, .f32⟩
  | 96 => ⟨S4096x8192, .i1⟩
  | 97 => ⟨S_, .f32⟩
  | 98 => ⟨S_, .f32⟩
  | 99 => ⟨S4096x8192, .f32⟩
  | 100 => ⟨S4096x8192, .f32⟩
  | 101 => ⟨S4096x8192, .f32⟩
  | 102 => ⟨S4096x8192, .f32⟩
  | 103 => ⟨S_, .f32⟩
  | 104 => ⟨S4096x8192, .f32⟩
  | 105 => ⟨S4096x8192, .i1⟩
  | 106 => ⟨S_, .f32⟩
  | 107 => ⟨S_, .f32⟩
  | 108 => ⟨S4096x8192, .f32⟩
  | 109 => ⟨S4096x8192, .f32⟩
  | 110 => ⟨S4096x8192, .f32⟩
  | 111 => ⟨S4096x8192, .f32⟩
  | 112 => ⟨S_, .f32⟩
  | 113 => ⟨S4096x8192, .f32⟩
  | 114 => ⟨S4096x8192, .i1⟩
  | 115 => ⟨S_, .f32⟩
  | 116 => ⟨S_, .f32⟩
  | 117 => ⟨S4096x8192, .f32⟩
  | 118 => ⟨S4096x8192, .f32⟩
  | 119 => ⟨S4096x8192, .f32⟩
  | 120 => ⟨S4096x8192, .f32⟩
  | 121 => ⟨S_, .f32⟩
  | 122 => ⟨S4096x8192, .f32⟩
  | 123 => ⟨S4096x8192, .i1⟩
  | 124 => ⟨S_, .f32⟩
  | 125 => ⟨S_, .f32⟩
  | 126 => ⟨S4096x8192, .f32⟩
  | 127 => ⟨S4096x8192, .f32⟩
  | _ => ⟨S4096x4096, .bf16⟩

abbrev hbmTy0_1 (i : Nat) : BufTy := match i % 128 with
  | 0 => ⟨S4096x8192, .f32⟩
  | 1 => ⟨S4096x8192, .f32⟩
  | 2 => ⟨S_, .f32⟩
  | 3 => ⟨S4096x8192, .f32⟩
  | 4 => ⟨S4096x8192, .i1⟩
  | 5 => ⟨S_, .f32⟩
  | 6 => ⟨S_, .f32⟩
  | 7 => ⟨S4096x8192, .f32⟩
  | 8 => ⟨S4096x8192, .f32⟩
  | 9 => ⟨S4096x8192, .f32⟩
  | 10 => ⟨S4096x8192, .f32⟩
  | 11 => ⟨S_, .f32⟩
  | 12 => ⟨S4096x8192, .f32⟩
  | 13 => ⟨S4096x8192, .i1⟩
  | 14 => ⟨S_, .f32⟩
  | 15 => ⟨S_, .f32⟩
  | 16 => ⟨S4096x8192, .f32⟩
  | 17 => ⟨S4096x8192, .f32⟩
  | 18 => ⟨S4096x8192, .f32⟩
  | 19 => ⟨S4096x8192, .f32⟩
  | 20 => ⟨S4096x8192, .f32⟩
  | 21 => ⟨S4096x8192, .f32⟩
  | 22 => ⟨S4096x8192, .f32⟩
  | 23 => ⟨S4096x8192, .f32⟩
  | 24 => ⟨S4096x8192, .f32⟩
  | 25 => ⟨S_, .f32⟩
  | 26 => ⟨S4096x8192, .f32⟩
  | 27 => ⟨S4096x8192, .f32⟩
  | 28 => ⟨S4096x8192, .f32⟩
  | 29 => ⟨S4096x8192, .f32⟩
  | 30 => ⟨S4096x8192, .f32⟩
  | 31 => ⟨S4096x8192, .f32⟩
  | 32 => ⟨S4096x8192, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_cst_7 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_v15 : Ref sig .tc := ⟨.hbm, 30, rfl⟩
abbrev main_cst_8 : Ref sig .tc := ⟨.hbm, 31, rfl⟩
abbrev main_v16 : Ref sig .tc := ⟨.hbm, 32, rfl⟩
abbrev main_v17 : Ref sig .tc := ⟨.hbm, 33, rfl⟩
abbrev main_cst_9 : Ref sig .tc := ⟨.hbm, 34, rfl⟩
abbrev main_cst_10 : Ref sig .tc := ⟨.hbm, 35, rfl⟩
abbrev main_call2_v0 : Ref sig .tc := ⟨.hbm, 36, rfl⟩
abbrev main_call2_v1 : Ref sig .tc := ⟨.hbm, 37, rfl⟩
abbrev main_v18 : Ref sig .tc := ⟨.hbm, 38, rfl⟩
abbrev main_v19 : Ref sig .tc := ⟨.hbm, 39, rfl⟩
abbrev main_cst_11 : Ref sig .tc := ⟨.hbm, 40, rfl⟩
abbrev main_v20 : Ref sig .tc := ⟨.hbm, 41, rfl⟩
abbrev main_v21 : Ref sig .tc := ⟨.hbm, 42, rfl⟩
abbrev main_cst_12 : Ref sig .tc := ⟨.hbm, 43, rfl⟩
abbrev main_cst_13 : Ref sig .tc := ⟨.hbm, 44, rfl⟩
abbrev main_call3_v0 : Ref sig .tc := ⟨.hbm, 45, rfl⟩
abbrev main_call3_v1 : Ref sig .tc := ⟨.hbm, 46, rfl⟩
abbrev main_v22 : Ref sig .tc := ⟨.hbm, 47, rfl⟩
abbrev main_v23 : Ref sig .tc := ⟨.hbm, 48, rfl⟩
abbrev main_cst_14 : Ref sig .tc := ⟨.hbm, 49, rfl⟩
abbrev main_v24 : Ref sig .tc := ⟨.hbm, 50, rfl⟩
abbrev main_v25 : Ref sig .tc := ⟨.hbm, 51, rfl⟩
abbrev main_cst_15 : Ref sig .tc := ⟨.hbm, 52, rfl⟩
abbrev main_cst_16 : Ref sig .tc := ⟨.hbm, 53, rfl⟩
abbrev main_call4_v0 : Ref sig .tc := ⟨.hbm, 54, rfl⟩
abbrev main_call4_v1 : Ref sig .tc := ⟨.hbm, 55, rfl⟩
abbrev main_v26 : Ref sig .tc := ⟨.hbm, 56, rfl⟩
abbrev main_v27 : Ref sig .tc := ⟨.hbm, 57, rfl⟩
abbrev main_cst_17 : Ref sig .tc := ⟨.hbm, 58, rfl⟩
abbrev main_v28 : Ref sig .tc := ⟨.hbm, 59, rfl⟩
abbrev main_v29 : Ref sig .tc := ⟨.hbm, 60, rfl⟩
abbrev main_cst_18 : Ref sig .tc := ⟨.hbm, 61, rfl⟩
abbrev main_cst_19 : Ref sig .tc := ⟨.hbm, 62, rfl⟩
abbrev main_call5_v0 : Ref sig .tc := ⟨.hbm, 63, rfl⟩
abbrev main_call5_v1 : Ref sig .tc := ⟨.hbm, 64, rfl⟩
abbrev main_v30 : Ref sig .tc := ⟨.hbm, 65, rfl⟩
abbrev main_v31 : Ref sig .tc := ⟨.hbm, 66, rfl⟩
abbrev main_cst_20 : Ref sig .tc := ⟨.hbm, 67, rfl⟩
abbrev main_v32 : Ref sig .tc := ⟨.hbm, 68, rfl⟩
abbrev main_v33 : Ref sig .tc := ⟨.hbm, 69, rfl⟩
abbrev main_cst_21 : Ref sig .tc := ⟨.hbm, 70, rfl⟩
abbrev main_cst_22 : Ref sig .tc := ⟨.hbm, 71, rfl⟩
abbrev main_call6_v0 : Ref sig .tc := ⟨.hbm, 72, rfl⟩
abbrev main_call6_v1 : Ref sig .tc := ⟨.hbm, 73, rfl⟩
abbrev main_v34 : Ref sig .tc := ⟨.hbm, 74, rfl⟩
abbrev main_v35 : Ref sig .tc := ⟨.hbm, 75, rfl⟩
abbrev main_cst_23 : Ref sig .tc := ⟨.hbm, 76, rfl⟩
abbrev main_v36 : Ref sig .tc := ⟨.hbm, 77, rfl⟩
abbrev main_v37 : Ref sig .tc := ⟨.hbm, 78, rfl⟩
abbrev main_cst_24 : Ref sig .tc := ⟨.hbm, 79, rfl⟩
abbrev main_cst_25 : Ref sig .tc := ⟨.hbm, 80, rfl⟩
abbrev main_call7_v0 : Ref sig .tc := ⟨.hbm, 81, rfl⟩
abbrev main_call7_v1 : Ref sig .tc := ⟨.hbm, 82, rfl⟩
abbrev main_v38 : Ref sig .tc := ⟨.hbm, 83, rfl⟩
abbrev main_v39 : Ref sig .tc := ⟨.hbm, 84, rfl⟩
abbrev main_cst_26 : Ref sig .tc := ⟨.hbm, 85, rfl⟩
abbrev main_v40 : Ref sig .tc := ⟨.hbm, 86, rfl⟩
abbrev main_v41 : Ref sig .tc := ⟨.hbm, 87, rfl⟩
abbrev main_cst_27 : Ref sig .tc := ⟨.hbm, 88, rfl⟩
abbrev main_cst_28 : Ref sig .tc := ⟨.hbm, 89, rfl⟩
abbrev main_call8_v0 : Ref sig .tc := ⟨.hbm, 90, rfl⟩
abbrev main_call8_v1 : Ref sig .tc := ⟨.hbm, 91, rfl⟩
abbrev main_v42 : Ref sig .tc := ⟨.hbm, 92, rfl⟩
abbrev main_v43 : Ref sig .tc := ⟨.hbm, 93, rfl⟩
abbrev main_cst_29 : Ref sig .tc := ⟨.hbm, 94, rfl⟩
abbrev main_v44 : Ref sig .tc := ⟨.hbm, 95, rfl⟩
abbrev main_v45 : Ref sig .tc := ⟨.hbm, 96, rfl⟩
abbrev main_cst_30 : Ref sig .tc := ⟨.hbm, 97, rfl⟩
abbrev main_cst_31 : Ref sig .tc := ⟨.hbm, 98, rfl⟩
abbrev main_call9_v0 : Ref sig .tc := ⟨.hbm, 99, rfl⟩
abbrev main_call9_v1 : Ref sig .tc := ⟨.hbm, 100, rfl⟩
abbrev main_v46 : Ref sig .tc := ⟨.hbm, 101, rfl⟩
abbrev main_v47 : Ref sig .tc := ⟨.hbm, 102, rfl⟩
abbrev main_cst_32 : Ref sig .tc := ⟨.hbm, 103, rfl⟩
abbrev main_v48 : Ref sig .tc := ⟨.hbm, 104, rfl⟩
abbrev main_v49 : Ref sig .tc := ⟨.hbm, 105, rfl⟩
abbrev main_cst_33 : Ref sig .tc := ⟨.hbm, 106, rfl⟩
abbrev main_cst_34 : Ref sig .tc := ⟨.hbm, 107, rfl⟩
abbrev main_call10_v0 : Ref sig .tc := ⟨.hbm, 108, rfl⟩
abbrev main_call10_v1 : Ref sig .tc := ⟨.hbm, 109, rfl⟩
abbrev main_v50 : Ref sig .tc := ⟨.hbm, 110, rfl⟩
abbrev main_v51 : Ref sig .tc := ⟨.hbm, 111, rfl⟩
abbrev main_cst_35 : Ref sig .tc := ⟨.hbm, 112, rfl⟩
abbrev main_v52 : Ref sig .tc := ⟨.hbm, 113, rfl⟩
abbrev main_v53 : Ref sig .tc := ⟨.hbm, 114, rfl⟩
abbrev main_cst_36 : Ref sig .tc := ⟨.hbm, 115, rfl⟩
abbrev main_cst_37 : Ref sig .tc := ⟨.hbm, 116, rfl⟩
abbrev main_call11_v0 : Ref sig .tc := ⟨.hbm, 117, rfl⟩
abbrev main_call11_v1 : Ref sig .tc := ⟨.hbm, 118, rfl⟩
abbrev main_v54 : Ref sig .tc := ⟨.hbm, 119, rfl⟩
abbrev main_v55 : Ref sig .tc := ⟨.hbm, 120, rfl⟩
abbrev main_cst_38 : Ref sig .tc := ⟨.hbm, 121, rfl⟩
abbrev main_v56 : Ref sig .tc := ⟨.hbm, 122, rfl⟩
abbrev main_v57 : Ref sig .tc := ⟨.hbm, 123, rfl⟩
abbrev main_cst_39 : Ref sig .tc := ⟨.hbm, 124, rfl⟩
abbrev main_cst_40 : Ref sig .tc := ⟨.hbm, 125, rfl⟩
abbrev main_call12_v0 : Ref sig .tc := ⟨.hbm, 126, rfl⟩
abbrev main_call12_v1 : Ref sig .tc := ⟨.hbm, 127, rfl⟩
abbrev main_v58 : Ref sig .tc := ⟨.hbm, 128, rfl⟩
abbrev main_v59 : Ref sig .tc := ⟨.hbm, 129, rfl⟩
abbrev main_cst_41 : Ref sig .tc := ⟨.hbm, 130, rfl⟩
abbrev main_v60 : Ref sig .tc := ⟨.hbm, 131, rfl⟩
abbrev main_v61 : Ref sig .tc := ⟨.hbm, 132, rfl⟩
abbrev main_cst_42 : Ref sig .tc := ⟨.hbm, 133, rfl⟩
abbrev main_cst_43 : Ref sig .tc := ⟨.hbm, 134, rfl⟩
abbrev main_call13_v0 : Ref sig .tc := ⟨.hbm, 135, rfl⟩
abbrev main_call13_v1 : Ref sig .tc := ⟨.hbm, 136, rfl⟩
abbrev main_v62 : Ref sig .tc := ⟨.hbm, 137, rfl⟩
abbrev main_v63 : Ref sig .tc := ⟨.hbm, 138, rfl⟩
abbrev main_cst_44 : Ref sig .tc := ⟨.hbm, 139, rfl⟩
abbrev main_v64 : Ref sig .tc := ⟨.hbm, 140, rfl⟩
abbrev main_v65 : Ref sig .tc := ⟨.hbm, 141, rfl⟩
abbrev main_cst_45 : Ref sig .tc := ⟨.hbm, 142, rfl⟩
abbrev main_cst_46 : Ref sig .tc := ⟨.hbm, 143, rfl⟩
abbrev main_call14_v0 : Ref sig .tc := ⟨.hbm, 144, rfl⟩
abbrev main_call14_v1 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_cst_47 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩

abbrev nD : Nat := 1
abbrev τ : Topo := Topo.v7x

variable {F : FTy → Type} [FloatOps F]
-- ==== Proof.OwnsRules.lean ====
/-
  Program steps stated on owned memrefs: a core that owns a memref at named contents loads from it, stores to it (or to a
  slice of it), copies it and sends it, each step keeping the contents named. Nothing here depends on the kernel.
-/
module

public import Idealize.ShloMosaic.Lib.Pipeline.Launch
public import Idealize.ShloMosaic.Lib.Tactic
public import Idealize.ShloMosaic.Lib.Memref

@[expose] public section

noncomputable section

namespace Cert.Proof.OwnsRules

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix] {D : Type} [DecidableEq D]
variable {Val : EltTy → Type} {Name : Type} [DecidableEq Name]
variable {U : Type} [URA U] {Lvl : Type} {Λ : Labels}

local notation "𝕄" => MT nD τ sig Ix Val Name U Lvl

variable [Preorder Lvl] {defs : Defs nD τ sig Val Λ} (𝒱 : Variants)
variable (E : Emb (URounds (GSem nD τ sig) D) (MT nD τ sig Ix Val Name U Lvl)) (Rd : Schedule (GSem nD τ sig) D (MT nD τ sig Ix Val Name U Lvl))
variable (c : Thread nD τ) (bd : Option 𝒱.V) {Γ : PendingWaitsCtx sig Ix}
variable {α : Type} {Q : α → sProp (MT nD τ sig Ix Val Name U Lvl)}
variable {sp sp' : Space} {s : Shape} {e : EltTy}

/-- A load reads what the memref is owned at. -/
theorem wp_load_owns {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} {Es : Set Name} :
    (owns c m q X : sProp 𝕄)
      ⊢ iprop((owns c m q X -∗ wp frame (wpE' defs 𝒱 c bd Γ) Es (k (fun x => X (r.idx x))) Q)
        -∗ wp frame (wpE' defs 𝒱 c bd Γ) Es (.op (.load m r hl) k) Q) := by
  unfold owns
  iintro ⟨%f, %hf, H⟩ Hk
  iapply (wp_load 𝒱 c bd Es (m := m) (r := r) (show m.view.setOn r.set ⊆ m.view.set from
    Finset.map_subset_map.mpr (Finset.subset_univ _))) $$ H
  iintro H
  have h : m.view.readAt Val r f = fun x => X (r.idx x) := by funext x; rw [View.readAt_apply, hf]
  rw [h]
  iapply Hk
  iexists f; isplitr; · ipureintro; exact hf
  iexact H

/-- A load of elements all of which lie in an owned slice reads what the slice is owned at. -/
theorem wp_load_slot {cs : CoreSpace} {m : Memref sig c.2.kind cs s e} {r : Rect s} (hr : ∀ a, r.stride a = 1) {r' : LoadRect s}
    (φ : r'.shape.Idx → r.shape.Idx) (hφ : ∀ x, r'.idx x = r.emb (φ x)) (hsub : r'.set ⊆ r.set) {hl : m.view.LoadsAt r'}
    {k : (r'.shape.Idx → Val e) → Prog (TpuEff nD τ sig Val Λ c.2) α} {q : PosShare TreeShare} {X : r.shape.Idx → Val e} {Es : Set Name} :
    (owns c (m.slice r hr) q X : sProp 𝕄)
      ⊢ iprop((owns c (m.slice r hr) q X -∗ wp frame (wpE' defs 𝒱 c bd Γ) Es (k (fun x => X (φ x))) Q)
        -∗ wp frame (wpE' defs 𝒱 c bd Γ) Es (.op (.load m r' hl) k) Q) := by
  unfold owns
  iintro ⟨%f, %hf, H⟩ Hk
  iapply (wp_load 𝒱 c bd Es (m := m) (r := r') (S := (m.slice r hr).view.set) (show m.view.setOn r'.set ⊆ (m.slice r hr).view.set from by
    show _ ⊆ (m.view.slice r).set
    rw [View.set_slice]
    exact Finset.map_subset_map.mpr hsub)) $$ H
  iintro H
  have h : m.view.readAt Val r' f = fun x => X (φ x) := by
    funext x; rw [View.readAt_apply, hφ, ← hf]; rfl
  rw [h]
  iapply Hk
  iexists f; isplitr; · ipureintro; exact hf
  iexact H

/-- A store over a slice the core owns leaves the slice owned at what was stored. -/
theorem wp_store_owns_slice {cs : CoreSpace} {m : Memref sig c.2.kind cs s e} {r : Rect s} {w : r.shape.Idx → Val e}
    {hx : (m.access r).Stores Finset.univ} {hm}
    {k : PUnit → Prog (TpuEff nD τ sig Val Λ c.2) α} (hr : ∀ a, r.stride a = 1) {X : r.shape.Idx → Val e} {Es : Set Name} :
    (owns c (m.slice r hr) fullShare X : sProp 𝕄)
      ⊢ iprop((owns c (m.slice r hr) fullShare w -∗ wp frame (wpE' defs 𝒱 c bd Γ) Es (k ⟨⟩) Q)
        -∗ wp frame (wpE' defs 𝒱 c bd Γ) Es (.op (.store m r w Finset.univ hx hm) k) Q) := by
  unfold owns
  iintro ⟨%f, %hf, H⟩ Hk
  iapply (wp_store 𝒱 c bd Es (m := m) (r := r) (Mk := Finset.univ) (f := f) (S := (m.slice r hr).view.set) (Finset.Subset.refl _)) $$ H
  iintro H
  iapply Hk
  iexists _; isplitr
  swap; · iexact H
  ipureintro
  exact View.read_write_univ _ _

/-- A store over a whole buffer leaves it owned at what was stored. -/
theorem wp_store_owns_whole {cs : CoreSpace} {m : Memref sig c.2.kind cs s e} {off : Fin s.rank → Nat} (hz : off = fun _ => 0)
    {inb : ∀ a, off a + s.size a ≤ s.size a} {w : s.Idx → Val e}
    {hx : (m.access (Rect.unit off s.size inb)).Stores Finset.univ} {hm}
    {k : PUnit → Prog (TpuEff nD τ sig Val Λ c.2) α} {X : s.Idx → Val e} {Es : Set Name} :
    (owns c m fullShare X : sProp 𝕄)
      ⊢ iprop((owns c m fullShare w -∗ wp frame (wpE' defs 𝒱 c bd Γ) Es (k ⟨⟩) Q)
        -∗ wp frame (wpE' defs 𝒱 c bd Γ) Es (.op (.store m (Rect.unit off s.size inb) w Finset.univ hx hm) k) Q) := by
  subst hz
  unfold owns
  iintro ⟨%f, %hf, H⟩ Hk
  iapply (wp_store 𝒱 c bd Es (m := m) (r := Rect.unit (fun _ => 0) s.size inb) (Mk := Finset.univ) (f := f) (S := m.view.set) (View.set_slice_subset _ _)) $$ H
  iintro H
  iapply Hk
  iexists _; isplitr
  swap; · iexact H
  ipureintro
  have hid : ∀ x : s.Idx, (Rect.unit (fun _ => 0) s.size inb : Rect s).emb x = x := by
    intro x; funext a; apply Fin.ext
    show 0 + 1 * (x a).val = (x a).val
    omega
  funext x
  have h := congrFun (View.read_write_univ (v := m.access (Rect.unit (fun _ => 0) s.size inb)) (Val := Val) f w) x
  rw [← h]
  show _ = m.view.read Val _ ((Rect.unit (fun _ => 0) s.size inb : Rect s).emb x)
  rw [hid]

/-- Owning a squeezed memref is owning the memref, the contents re-indexed. -/
theorem owns_squeeze (m : Memref sig c.2.kind sp s e) (s' : Shape) (h : s.Squeezes s') (q : PosShare TreeShare) (X : s.Idx → Val e) :
    (owns c (m.squeeze s' h) q (fun j => X (Shape.reshapeEquiv h.numel_eq j)) : sProp 𝕄) = owns c m q X := by
  have key : ∀ f : m.view.ty.Contents Val, (m.squeeze s' h).view.read Val f = (fun j => X (Shape.reshapeEquiv h.numel_eq j)) ↔ m.view.read Val f = X := by
    intro f; constructor
    · intro hf; funext x
      have := congrFun hf ((Shape.reshapeEquiv h.numel_eq).symm x)
      have e1 : (m.squeeze s' h).view.read Val f ((Shape.reshapeEquiv h.numel_eq).symm x) = m.view.read Val f x := by
        show m.view.read Val f (Shape.reshapeEquiv h.numel_eq ((Shape.reshapeEquiv h.numel_eq).symm x)) = _
        rw [Equiv.apply_symm_apply]
      rw [← e1, this]; rw [Equiv.apply_symm_apply]
    · intro hf; funext j
      show m.view.read Val f (Shape.reshapeEquiv h.numel_eq j) = _
      rw [hf]
  have hs : (m.squeeze s' h).view.set = m.view.set := View.set_reshape _ _
  have h₁ : (owns c (m.squeeze s' h) q (fun j => X (Shape.reshapeEquiv h.numel_eq j)) : sProp 𝕄) ⊢ owns c m q X := by
    unfold owns
    iintro ⟨%f, %hf, H⟩
    iexists f; isplitr; · ipureintro; exact (key f).1 hf
    rw [← hs]; iexact H
  have h₂ : (owns c m q X : sProp 𝕄) ⊢ owns c (m.squeeze s' h) q (fun j => X (Shape.reshapeEquiv h.numel_eq j)) := by
    unfold owns
    iintro ⟨%f, %hf, H⟩
    iexists f; isplitr; · ipureintro; exact (key f).2 hf
    rw [hs]; iexact H
  exact BI.equiv_iff.mp ⟨h₁, h₂⟩

/-- Some contents are named when the elements are held. -/
theorem owns_exists (m : Memref sig c.2.kind sp s e) (q : PosShare TreeShare) :
    (iprop(∃ f, m.view.loc c ↦[m.view.set]{q} f) : sProp 𝕄) ⊢ iprop(∃ X, owns c m q X) := by
  iintro ⟨%f, H⟩
  iexists m.view.read Val f
  iapply (owns_intro c m q f) $$ H

/-- A local copy of an owned memref over another: the landing makes the payload from the destination at the source's
    contents and the source. -/
theorem wp_copy_owns {src : Memref sig c.2.kind sp s e} {dst : Memref sig c.2.kind sp' s e} {sem : SemLoc sig}
    {hsrc : src.view.WordExact} {hdst : dst.view.WordExact} {hsem : DmaTarget.Typed (nD := nD) sp sem (.here dst)}
    {k : PUnit → Prog (TpuEff nD τ sig Val Λ c.2) α} {q : PosShare TreeShare} {X Y : s.Idx → Val e} {r : ℕ} {d : D}
    {κ : Name} (hd : d ∈ Rd.duties (c, sem) r) (ι : Ix) (N : ℕ)
    (hN : dst.view.amount sem = N) (hk : Rd.amount (c, sem) r d = N)
    (hpay : iprop(owns c dst fullShare X ∗ owns c src q X) ⊢ Rd.payload (c, sem) r d) {Es : Set Name} :
    iprop(cellInv E Rd κ (c, sem) ∗ owns c src q X ∗ owns c dst fullShare Y ∗ dutyTok E (c, sem) r d ∗ reached E (c, sem) r)
      ⊢ iprop((cred (tallyAt (c, sem) ι N) -∗ wp frame (wpE' defs 𝒱 c bd Γ) Es (k ⟨⟩) Q)
          -∗ wp frame (wpE' defs 𝒱 c bd Γ) Es (.op (.enqueueDma src (.here dst) sem hsrc hdst hsem) k) Q) := by
  iintro ⟨Hi, Hs, Hd, Htok, Hr⟩ Hk
  ihave Hs := (show owns c src q X ⊢ iprop(∃ f, ⌜src.view.read Val f = X⌝ ∗ (src.view.loc c ↦[src.view.set]{q} f)) from .rfl) $$ Hs
  ihave Hd := (show owns c dst fullShare Y ⊢ iprop(∃ f, ⌜dst.view.read Val f = Y⌝ ∗ (dst.view.loc c ↦[dst.view.set]{fullShare} f)) from .rfl) $$ Hd
  icases Hs with ⟨%fs, %hfs, Hs⟩
  icases Hd with ⟨%fd, %hfd, Hd⟩
  iapply (wp_copy_pointsTo 𝒱 E Rd c bd (src := src) (dst := dst) (q := q) (fs := fs) (fd := fd) hd ι N hN hk (κ := κ) (by
    refine BIBase.Entails.trans ?_ hpay
    iintro ⟨H1, H2⟩
    isplitl [H1]
    · unfold owns; iexists _; isplitr
      swap; · iexact H1
      ipureintro; rw [View.read_write_univ, hfs]
    · unfold owns; iexists _; isplitr
      swap; · iexact H2
      ipureintro; exact hfs)) $$ [Hi Hs Hd Htok Hr]
  · isplitl [Hi]; · iexact Hi
    isplitl [Hs]; · iexact Hs
    isplitl [Hd]; · iexact Hd
    isplitl [Htok] <;> iassumption
  iexact Hk

/-- An addressed transfer of an owned memref over one owned on the target: the source comes back with the sender's own
    cell, the destination at the source's contents, with `R`, makes the target's payload. -/
theorem wp_send_owns {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare}
    {X Y : s.Idx → Val e} {R : sProp 𝕄} {r₁ r₂ : ℕ} {d₁ d₂ : D}
    {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : owns c src q X ⊢ Rd.payload (c, sS) r₁ d₁)
    (hpay₂ : iprop(owns c' dst fullShare X ∗ R) ⊢ Rd.payload (c', sem) r₂ d₂) {Es : Set Name} (hr : τ.routes c c' = true := by routes) :
    iprop(cellInv E Rd κ₁ (c, sS) ∗ cellInv E Rd κ₂ (c', sem)
        ∗ owns c src q X ∗ (owns c' dst fullShare Y ∗ R)
        ∗ owes c O₀ W
        ∗ dutyTok E (c, sS) r₁ d₁ ∗ reached E (c, sS) r₁
        ∗ dutyTok E (c', sem) r₂ d₂ ∗ reached E (c', sem) r₂)
      ⊢ iprop(((cred (tallyAt (c, sS) ι' N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  iintro ⟨Hi, Hi2, Hs, ⟨Hd, HR⟩, Ho, Hrest⟩ Hk
  ihave Hs := (show owns c src q X ⊢ iprop(∃ f, ⌜src.view.read Val f = X⌝ ∗ (src.view.loc c ↦[src.view.set]{q} f)) from .rfl) $$ Hs
  ihave Hd := (show owns c' dst fullShare Y ⊢ iprop(∃ f, ⌜dst.view.read Val f = Y⌝ ∗ (dst.view.loc c' ↦[dst.view.set]{fullShare} f)) from .rfl) $$ Hd
  icases Hs with ⟨%fs, %hfs, Hs⟩
  icases Hd with ⟨%fd, %hfd, Hd⟩
  iapply (wp_send_pointsTo_with 𝒱 E Rd c bd (src := src) (dst := dst) (q := q) (fs := fs) (fd := fd) (F := R) hd₁ hd₂ ι ι' N hN hk₁ hk₂ O hO (κ₁ := κ₁) (κ₂ := κ₂)
    (by
      refine BIBase.Entails.trans ?_ hpay₁
      iintro H
      unfold owns; iexists _; isplitr
      swap; · iexact H
      ipureintro; exact hfs)
    (by
      refine BIBase.Entails.trans ?_ hpay₂
      iintro ⟨H1, H2⟩
      isplitl [H1]
      · unfold owns; iexists _; isplitr
        swap; · iexact H1
        ipureintro; rw [View.read_write_univ, hfs]
      · iexact H2) hr) $$ [Hi Hi2 Hs Hd HR Ho Hrest]
  · isplitl [Hi]; · iexact Hi
    isplitl [Hi2]; · iexact Hi2
    isplitl [Hs]; · iexact Hs
    isplitl [Hd HR]
    · isplitl [Hd] <;> iassumption
    isplitl [Ho] <;> iassumption
  iexact Hk

/-- A wait for the whole of a round of one duty hands over its payload. -/
theorem wp_wait_one {w : TpuEff nD τ sig Val Λ c.2 PUnit} {sm : SemLoc sig} {k' : ℕ} {Es : Set Name}
    {κ : Name} (hw : ∀ K : PUnit → sProp 𝕄, wpE' defs 𝒱 c bd Γ Es w K = waitSpec c Es sm k' K) (hE : κ ∈ Es)
    {k : PUnit → Prog (TpuEff nD τ sig Val Λ c.2) α} (ι : Ix) {O : CellTallies nD τ sig Ix} {W : Waits sig Ix}
    (R : ℕ) (d : D) (hd : Rd.duties (c, sm) R = {d}) (hk : Rd.amount (c, sm) R d = k') :
    iprop(cellInv E Rd κ (c, sm) ∗ cred (tallyAt (c, sm) ι k') ∗ owes c O W ∗ MayWait c sm ι O ∗ atPos E (c, sm) R ∅ 0)
      ⊢ iprop(((owes c O (insert (sm, ι) W)
              ∗ atPos E (c, sm) (R + 1) ∅ 0 ∗ reached E (c, sm) (R + 1)
              ∗ Rd.payload (c, sm) R d)
            -∗ wp frame (wpE' defs 𝒱 c bd Γ) Es (k ⟨⟩) Q)
          -∗ wp frame (wpE' defs 𝒱 c bd Γ) Es (.op w k) Q) := by
  have h := wp_wait_rest_token 𝒱 E Rd c bd (Q := Q) hw hE (k := k) ι (O := O) (W := W) (R := R) (m := 0) (T := ∅)
    (by unfold Schedule.expect Schedule.amountOf; rw [hd, Finset.sum_singleton, hk, Nat.zero_add])
  rw [Finset.sdiff_empty, hd, bigSep_singleton] at h
  exact h

end Cert.Proof.OwnsRules

end
-- ==== Proof.KernelIdealRing.lean ====
/-
  The ring of devices and the words the kernel computes from a device's place on it.

  The kernel walks the devices along a fixed ring (a snake over the torus). `rg p` is the device at place `p`, `iv c` the
  place of device `c`, `hop c j` the device `j` places further on. Every device id, row offset and slot number the kernel
  computes is stated here as a function of the device's place.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KernelIdealRun

open Cert.KernelIdeal Cert.KernelIdeal.Gen
open Idealize.ShloMosaic
open Idealize.ShloMosaic.TcCoe

/-! ## Places on the ring -/

/-- The device at a place. -/
def rg : Fin 32 → Dev nD :=
  ![0, 8, 16, 24, 27, 19, 11, 3, 4, 12, 20, 28, 31, 23, 15, 7, 6, 14, 22, 30, 29, 21, 13, 5, 2, 10, 18, 26, 25, 17, 9, 1]
/-- The place of a device. -/
def iv : Dev nD → Fin 32 :=
  ![0, 31, 24, 7, 8, 23, 16, 15, 1, 30, 25, 6, 9, 22, 17, 14, 2, 29, 26, 5, 10, 21, 18, 13, 3, 28, 27, 4, 11, 20, 19, 12]

theorem iv_rg : ∀ p, iv (rg p) = p := by decide +kernel
theorem rg_iv : ∀ c, rg (iv c) = c := by decide +kernel

/-- The device `j` places after `c`. -/
def hop (c : Dev nD) (j : ℕ) : Dev nD := rg ⟨((iv c).val + j) % 32, Nat.mod_lt _ (by decide)⟩

theorem iv_hop (c : Dev nD) (j : ℕ) : (iv (hop c j)).val = ((iv c).val + j) % 32 := by unfold hop; rw [iv_rg]
theorem iv_inj {c d : Dev nD} (h : (iv c).val = (iv d).val) : c = d := by
  rw [← rg_iv c, ← rg_iv d, Fin.ext h]
theorem hop_hop (c : Dev nD) (a b : ℕ) : hop (hop c a) b = hop c (a + b) := by
  apply iv_inj; rw [iv_hop, iv_hop, iv_hop]; omega
theorem hop_congr (c : Dev nD) {a b : ℕ} (h : a % 32 = b % 32) : hop c a = hop c b := by
  apply iv_inj; rw [iv_hop, iv_hop]; omega
theorem hop_zero (c : Dev nD) : hop c 0 = c := by
  apply iv_inj; rw [iv_hop]; have := (iv c).isLt; omega
theorem hop_self (c : Dev nD) {a : ℕ} (h : a % 32 = 0) : hop c a = c := by
  rw [hop_congr c (b := 0) (by omega), hop_zero]
theorem hop_back (c : Dev nD) {a b : ℕ} (h : (a + b) % 32 = 0) : hop (hop c a) b = c := by
  rw [hop_hop, hop_self c h]
theorem hop_inj {c d : Dev nD} {a : ℕ} (h : hop c a = hop d a) : c = d := by
  apply iv_inj
  have := congrArg (fun e => (iv e).val) h
  simp only [iv_hop] at this
  have := (iv c).isLt; have := (iv d).isLt; omega

/-- How far along the ring a transfer of each direction goes: one place on, or one place back. -/
def st : Bool → ℕ | false => 1 | true => 31

/-- The device a transfer of direction `b` goes to, -/
def succ (b : Bool) (c : Dev nD) : Dev nD := hop c (st b)
/-- and the one it comes from. -/
def pred (b : Bool) (c : Dev nD) : Dev nD := hop c (st (!b))

theorem succ_pred (b : Bool) (c : Dev nD) : succ b (pred b c) = c := by
  unfold succ pred; exact hop_back c (by cases b <;> rfl)
theorem pred_succ (b : Bool) (c : Dev nD) : pred b (succ b c) = c := by
  unfold succ pred; exact hop_back c (by cases b <;> rfl)
theorem succ_not (b : Bool) (c : Dev nD) : succ (!b) c = pred b c := rfl
theorem pred_not (b : Bool) (c : Dev nD) : pred (!b) c = succ b c := by unfold pred succ; rw [Bool.not_not]

/-- Moving `j` places as a permutation of the devices. -/
def hopEquiv (j : ℕ) : Dev nD ≃ Dev nD where
  toFun c := hop c j
  invFun c := hop c (31 * j)
  left_inv c := hop_back c (by omega)
  right_inv c := hop_back c (by omega)

/-! ## The words -/

/-- The word of a device's place, -/
def posW (c : Dev nD) : BitVec 32 := BitVec.ofNat 32 (iv c).val
/-- and the word that names a device. -/
def devW (d : Dev nD) : BitVec 32 := BitVec.ofNat 32 d.val

theorem dev1_val : ∀ d : Dev nD, k0_dev1 (devW d) = d.val := by decide +kernel
theorem dev2_val : ∀ d : Dev nD, k0_dev2 (devW d) = d.val := by decide +kernel
theorem dev3_val : ∀ d : Dev nD, k0_dev3 (devW d) = d.val := by decide +kernel
theorem dev4_val : ∀ d : Dev nD, k0_dev4 (devW d) = d.val := by decide +kernel
theorem dev5_val : ∀ d : Dev nD, k0_dev5 (devW d) = d.val := by decide +kernel
theorem dev6_val : ∀ d : Dev nD, k0_dev6 (devW d) = d.val := by decide +kernel
theorem dev7_val : ∀ d : Dev nD, k0_dev7 (devW d) = d.val := by decide +kernel
theorem dev8_val : ∀ d : Dev nD, k0_dev8 (devW d) = d.val := by decide +kernel
theorem dev9_val : ∀ d : Dev nD, k0_dev9 (devW d) = d.val := by decide +kernel
theorem dev10_val : ∀ d : Dev nD, k0_dev10 (devW d) = d.val := by decide +kernel
theorem dev11_val : ∀ d : Dev nD, k0_dev11 (devW d) = d.val := by decide +kernel

theorem trips1 : k0_t1_loop.trips = 31 := by decide +kernel
theorem trips2 : k0_t2_loop.trips = 5 := by decide +kernel
theorem trips3 : k0_t3_loop.trips = 31 := by decide +kernel

/-- The rows of `x` a device multiplies first: its own place's; -/
theorem off1_eq : ∀ c : Dev nD, k0_off1 (posW c) = ![128 * (iv c).val, 0] := by decide +kernel
/-- at a reduce-scatter step, those of the place `s + 1` back, or on. -/
theorem off2_eq : ∀ (c : Dev nD) (t : Fin k0_t1_loop.trips), k0_off2 (posW c) t = ![128 * (((iv c).val + 63 - t.val) % 32), 0] := by
  decide +kernel
theorem off3_eq : ∀ (c : Dev nD) (t : Fin k0_t1_loop.trips), k0_off3 (posW c) t = ![128 * (((iv c).val + 1 + t.val) % 32), 0] := by
  decide +kernel
/-- The ring entry a device reads at a step of the maximum's exchange. -/
theorem off4_eq : ∀ (c : Dev nD) (t : Fin k0_t2_loop.trips), k0_off4 (posW c) t = ![((iv c).val + 2 ^ t.val) % 32] := by
  decide +kernel
theorem off5_eq : ∀ t : Fin k0_t2_loop.trips, k0_off5 t = ![t.val] := by decide +kernel
theorem off6_eq : ∀ t : Fin k0_t2_loop.trips, k0_off6 t = ![t.val, 0, 0] := by decide +kernel
theorem off7_eq : ∀ t : Fin k0_t2_loop.trips, k0_off7 t = ![t.val] := by decide +kernel
theorem off8_eq : ∀ t : Fin k0_t2_loop.trips, k0_off8 t = ![t.val, 0, 0] := by decide +kernel
theorem off9_eq : ∀ t : Fin k0_t2_loop.trips, k0_off9 t = ![t.val, 0, 0] := by decide +kernel

/-- The corner of the result's chunk of place `i` in its left or right half. -/
def chunkOff (i : Fin 32) (b : Bool) : Fin 2 → ℕ := ![128 * i.val, if b then 4096 else 0]

/-- The place `j` places after `c`'s. -/
def plc (c : Dev nD) (j : ℕ) : Fin 32 := ⟨((iv c).val + j) % 32, Nat.mod_lt _ (by decide)⟩

theorem plc_hop (c : Dev nD) (j : ℕ) : plc c j = iv (hop c j) := Fin.ext (iv_hop c j).symm

theorem off10_eq : ∀ c : Dev nD, k0_off10 (posW c) = chunkOff (plc c 1) false := by decide +kernel
theorem off11_eq : ∀ c : Dev nD, k0_off11 (posW c) = chunkOff (plc c 31) true := by decide +kernel
theorem off12_eq : ∀ (c : Dev nD) (t : Fin k0_t3_loop.trips), k0_off12 (posW c) t = chunkOff (plc c (32 - t.val)) false := by
  decide +kernel
theorem off13_eq : ∀ (c : Dev nD) (t : Fin k0_t3_loop.trips), k0_off13 (posW c) t = chunkOff (plc c t.val) true := by
  decide +kernel

theorem chunk_inb (i : Fin 32) (b : Bool) : ∀ a, chunkOff i b a + S128x4096.size a ≤ S4096x8192.size a := by
  revert i b; decide +kernel
theorem chunk_words : ∀ (i : Fin 32) (b : Bool),
    (Rect.unit (s := S4096x8192) (chunkOff i b) S128x4096.size (chunk_inb i b)).WholeWords (EltTy.packing .bf16) := by
  decide +kernel

theorem chunk_words' {off : Fin 2 → ℕ} {i : Fin 32} {b : Bool} (h : off = chunkOff i b)
    (hinb : ∀ a, off a + S128x4096.size a ≤ S4096x8192.size a) :
    (Rect.unit (s := S4096x8192) off S128x4096.size hinb).WholeWords (EltTy.packing .bf16) := by
  subst h; exact chunk_words i b

/-- The rows starting at a place are within `x`. -/
theorem rows_inb {i : ℕ} (hi : i < 32) : ∀ a, (![128 * i, 0] : Fin 2 → ℕ) a + S128x128.size a ≤ S4096x128.size a := by
  intro a; fin_cases a
  · show 128 * i + 128 ≤ 4096; omega
  · show 0 + 128 ≤ 128; omega

/-! ## The side conditions the kernel assumes -/

theorem chk1 (d : Dev nD) : k0_chk1 (devW d) := by
  unfold k0_chk1
  rw [dev1_val, dev4_val, dev5_val, dev9_val, dev10_val]
  exact ⟨d.isLt, d.isLt, fun _ _ => d.isLt, d.isLt, fun _ _ => d.isLt⟩
theorem chk2 (d : Dev nD) : k0_chk2 (devW d) := by
  unfold k0_chk2
  rw [dev2_val, dev3_val, dev6_val, dev8_val, dev11_val]
  exact ⟨d.isLt, d.isLt, fun _ _ => d.isLt, d.isLt, fun _ _ => d.isLt⟩
theorem chk4 (d : Dev nD) : k0_chk4 (devW d) := by
  unfold k0_chk4; rw [dev7_val]; exact d.isLt
theorem chk3 (c : Dev nD) : k0_chk3 (posW c) := by
  unfold k0_chk3
  refine ⟨?_, ?_, ?_, ?_, ?_, ?_, ?_, ?_, ?_, ?_, ?_, ?_⟩
  · rw [off1_eq]; exact rows_inb (iv c).isLt
  · intro t; rw [off2_eq]; exact rows_inb (Nat.mod_lt _ (by decide))
  · intro t; rw [off3_eq]; exact rows_inb (Nat.mod_lt _ (by decide))
  · intro t; rw [off4_eq]; intro a; fin_cases a
    show ((iv c).val + 2 ^ t.val) % 32 + 1 ≤ 32
    have := Nat.mod_lt ((iv c).val + 2 ^ t.val) (show 0 < 32 by decide); omega
  · rw [off10_eq]; exact chunk_inb _ _
  · exact chunk_words' (off10_eq c)
  · rw [off11_eq]; exact chunk_inb _ _
  · exact chunk_words' (off11_eq c)
  · intro t; rw [off12_eq]; exact chunk_inb _ _
  · intro t; exact chunk_words' (off12_eq c t)
  · intro t; rw [off13_eq]; exact chunk_inb _ _
  · intro t; exact chunk_words' (off13_eq c t)

/-! ## The conditions on the trip -/

theorem cond2_iff : ∀ t : Fin k0_t1_loop.trips, k0_cond2 t = 1#1 ↔ t.val < 30 := by decide +kernel
theorem cond5_iff : ∀ t : Fin k0_t3_loop.trips, k0_cond5 t = 1#1 ↔ t.val < 30 := by decide +kernel
theorem cond1_iff : ∀ t : Fin k0_t1_loop.trips,
    Scalar.cmpi .ne (Scalar.extui (Scalar.cmpi .sgt (Scf.iv 0#32 1#32 t) 0#32 : BitVec 1) : BitVec 32) 0#32 = 1#1 ↔ 0 < t.val := by decide +kernel
theorem cond4_iff : ∀ t : Fin k0_t3_loop.trips,
    Scalar.cmpi .ne (Scalar.extui (Scalar.cmpi .slt (Scf.iv 0#32 1#32 t) 30#32 : BitVec 1) : BitVec 32) 0#32 = 1#1 ↔ t.val < 30 := by decide +kernel

end Cert.Proof.KernelIdealRun

end
-- ==== Proof.KernelIdealContents.lean ====
/-
  What each buffer holds at each step, as functions of the devices' input blocks.

  Two streams run round the ring in opposite directions (`false`: to the next place, `true`: to the previous one). `acc`
  is a stream's partial sum after a number of reduce-scatter steps, `ag` the block in hand at an all-gather step, `mx` the
  running maximum of the exchange, `qv` the rounded block that is stored into the result.
-/
module

public import proofs.«01_k».proof.Proof.KernelIdealRing

@[expose] public section

noncomputable section

namespace Cert.Proof.KernelIdealRun

open Cert.KernelIdeal Cert.KernelIdeal.Gen
open Idealize.ShloMosaic
open Idealize.ShloMosaic.TcCoe

variable {F : FTy → Type} [FloatOps F]

/-- The devices' input blocks as the kernel reads them: `x`, and `w` already scaled. -/
structure Ins (F : FTy → Type) where
  /-- The block of `x`, -/
  x : Dev nD → Vec F S4096x128 .bf16
  /-- and of the scaled `w`. -/
  w : Dev nD → Vec F S128x8192 .bf16

variable (I : Ins F)

/-- The rows of a device's `x` at an offset. -/
def rows (c : Dev nD) (off : Fin 2 → ℕ) (h : ∀ a, off a + S128x128.size a ≤ S4096x128.size a) : Vec F S128x128 .bf16 :=
  fun j => I.x c ((Rect.unit (s := S4096x128) off S128x128.size h).toLoadRect.idx j)

theorem rows_congr (c : Dev nD) {off off' : Fin 2 → ℕ} (e : off = off') (h : ∀ a, off a + S128x128.size a ≤ S4096x128.size a)
    (h' : ∀ a, off' a + S128x128.size a ≤ S4096x128.size a) : rows I c off h = rows I c off' h' := by
  subst e; rfl

/-- The rows of the chunk of a place. -/
def rowsP (c : Dev nD) (i : Fin 32) : Vec F S128x128 .bf16 := rows I c ![128 * i.val, 0] (rows_inb i.isLt)

/-- The left half of a device's scaled `w`, -/
def wl (c : Dev nD) : Vec F S128x4096 .bf16 :=
  fun j => I.w c ((Rect.unit (s := S128x8192) ![0, 0] S128x4096.size inb_S128x8192_S128x4096_0_0).toLoadRect.idx j)
/-- and the right. -/
def wr (c : Dev nD) : Vec F S128x4096 .bf16 :=
  fun j => I.w c ((Rect.unit (s := S128x8192) ![0, 4096] S128x4096.size inb_S128x8192_S128x4096_0_4096).toLoadRect.idx j)

/-- A stream's partial sum on a device after `s` reduce-scatter steps. -/
def acc : Bool → ℕ → Dev nD → Vec F S128x4096 .i16
  | false, 0, c => k0_pay19 (rowsP I c (iv c)) (wl I c)
  | true, 0, c => k0_pay21 (k0_pay20 (rowsP I c (iv c)) (wr I c))
  | false, s + 1, c => k0_pay3 (k0_pay1 (rowsP I c (plc c (63 - s))) (wl I c)) (acc false s (pred false c))
  | true, s + 1, c => k0_pay4 (k0_pay2 (rowsP I c (plc c (1 + s)))) (wr I c) (acc true s (pred true c))

/-- The block a device sends at an all-gather step. -/
def ag : Bool → ℕ → Dev nD → Vec F S128x4096 .i16
  | false, 0, c => k0_pay22 (F := F) (acc I false 31 c)
  | true, 0, c => k0_pay23 (F := F) (acc I true 31 c)
  | false, s + 1, c => k0_pay17 (F := F) (ag false s (pred false c))
  | true, s + 1, c => k0_pay18 (F := F) (ag true s (pred true c))

/-- The device `j` places before. -/
def bk (c : Dev nD) (j : ℕ) : Dev nD := hop c (31 * j)

/-- The running maximum after `k` steps of the exchange. -/
def mx : ℕ → Dev nD → F .f32
  | 0, c => k0_pay24 (acc I false 31 c) (acc I true 31 c)
  | k + 1, c => k0_pay26 (mx k c) (fun _ => mx k (bk c (2 ^ k)))

/-- The scale a device divides by, -/
def isc (c : Dev nD) : F .f32 := k0_pay27 (mx I 5 c)
/-- and the one it multiplies back by. -/
def osc (c : Dev nD) : F .f32 := k0_pay28 (mx I 5 c)

/-- The rounded block a device stores at a step: its own first, then each one received. -/
def qv : Bool → ℕ → Dev nD → Vec F S1x128x4096 .bf16
  | false, 0, c => k0_pay35 (osc I c) (k0_pay29 (mx I 5 c) (ag I false 0 c))
      (k0_pay34 (k0_pay30 (mx I 5 c) (ag I false 0 c)) (k0_pay31 (mx I 5 c) (ag I false 0 c)) (k0_pay32 (mx I 5 c) (ag I false 0 c)) k0_pay33)
  | true, 0, c => k0_pay42 (osc I c) (k0_pay36 (isc I c) (ag I true 0 c)) (k0_pay37 (isc I c) (ag I true 0 c))
      (k0_pay40 (k0_pay37 (isc I c) (ag I true 0 c)) (k0_pay38 (isc I c) (ag I true 0 c)) (k0_pay39 (isc I c) (ag I true 0 c)))
      (k0_pay41 (k0_pay37 (isc I c) (ag I true 0 c)))
  | false, s + 1, c => k0_pay11 (osc I c)
      (k0_pay9 (k0_pay6 (isc I c) (ag I false s (pred false c))) (k0_pay7 (isc I c) (ag I false s (pred false c))) k0_pay8)
      (k0_pay10 (k0_pay5 (isc I c) (ag I false s (pred false c))))
  | true, s + 1, c => k0_pay16 (osc I c) (k0_pay12 (isc I c) (ag I true s (pred true c))) (k0_pay13 (isc I c) (ag I true s (pred true c)))
      (k0_pay15 (k0_pay13 (isc I c) (ag I true s (pred true c))) (k0_pay14 (isc I c) (ag I true s (pred true c))))

/-- The same as a flat block. -/
def outT (b : Bool) (t : ℕ) (c : Dev nD) : Vec F S128x4096 .bf16 :=
  fun j => qv I b t c (Shape.reshapeEquiv squeezes_S1x128x4096_S128x4096.numel_eq j)

/-- The place of the chunk a device stores at a step. -/
def place : Bool → Dev nD → ℕ → Fin 32
  | false, c, t => plc c (33 - t)
  | true, c, t => plc c (31 + t)

end Cert.Proof.KernelIdealRun

end
-- ==== Proof.KernelIdealProtocol.lean ====
/-
  The kernel's protocol: its buffers, its semaphores, and what every unit paid to a semaphore hands to the device that waits
  for it.

  Each device has, for each of the two directions, a semaphore for what it sent, one for what it received, a credit one and
  one for its stores into the result; a barrier; and a pair for each of the five steps of the maximum's exchange.
-/
module

public import proofs.«01_k».proof.Proof.KernelIdealContents
public import proofs.«01_k».proof.Proof.OwnsRules

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline's rounds beside the protocol's. -/
abbrev UP : Type := URounds (GSem nD τ sig) Unit
abbrev UK : Type := URounds (GSem nD τ sig) Bool
abbrev UU : Type := UP × UK

local notation "𝕄" => MT nD τ sig ℕ (Elt F) ℕ UU ℕ

def EP : Emb UP (MT nD τ sig ℕ (Elt F) ℕ UU ℕ) :=
  (Emb.inl : Emb UP UU).trans (uEmb (nD := nD) (sig := sig) (Ix := ℕ) (Val := Elt F) (Name := ℕ) (U := UU) (Lvl := ℕ)).toEmb
def ER : Emb UK (MT nD τ sig ℕ (Elt F) ℕ UU ℕ) :=
  (Emb.inr : Emb UK UU).trans (uEmb (nD := nD) (sig := sig) (Ix := ℕ) (Val := Elt F) (Name := ℕ) (U := UU) (Lvl := ℕ)).toEmb

instance EP_landsIn : (EP : Emb UP 𝕄).LandsIn (upEmb : UEmb _ 𝕄) := by unfold EP; infer_instance
instance ER_landsIn : (ER : Emb UK 𝕄).LandsIn (upEmb : UEmb _ 𝕄) := by unfold ER; infer_instance

/-! ## Buffers -/

/-- The partial sum of a direction, -/
abbrev accM : Bool → Memref sig .tc .vmem S128x4096 .i16
  | false => Memref.whole cc0_scratch0
  | true => Memref.whole cc0_scratch1
/-- where the neighbour's lands, -/
abbrev recvM : Bool → Memref sig .tc .vmem S128x4096 .i16
  | false => Memref.whole cc0_scratch2
  | true => Memref.whole cc0_scratch3
/-- the all-gather's block in hand, -/
abbrev agsM : Bool → Memref sig .tc .vmem S128x4096 .i16
  | false => Memref.whole cc0_scratch4
  | true => Memref.whole cc0_scratch5
/-- and where the next lands. -/
abbrev agrM : Bool → Memref sig .tc .vmem S128x4096 .i16
  | false => Memref.whole cc0_scratch6
  | true => Memref.whole cc0_scratch7
/-- The two halves of the staging buffer of the result, unsqueezed, -/
abbrev qS : Bool → Memref sig .tc .vmem S1x128x4096 .bf16
  | false => (Memref.whole cc0_scratch8).slice (Rect.unit (s := S2x128x4096) ![0, 0, 0] S1x128x4096.size inb_S2x128x4096_S1x128x4096_0_0_0) (fun _ => rfl)
  | true => (Memref.whole cc0_scratch8).slice (Rect.unit (s := S2x128x4096) ![1, 0, 0] S1x128x4096.size inb_S2x128x4096_S1x128x4096_1_0_0) (fun _ => rfl)
/-- and as copied. -/
abbrev qM (b : Bool) : Memref sig .tc .vmem S128x4096 .bf16 := (qS b).squeeze S128x4096 squeezes_S1x128x4096_S128x4096
/-- The maximum to send, -/
abbrev mxM : Memref sig .tc .vmem S8x128 .f32 := Memref.whole cc0_scratch9

theorem slot_inb (k : Fin 5) : ∀ a, (![k.val, 0, 0] : Fin 3 → ℕ) a + S1x8x128.size a ≤ S5x8x128.size a := by revert k; decide

/-- the slots where the exchange's maxima land, unsqueezed, -/
abbrev mxS (k : Fin 5) : Memref sig .tc .vmem S1x8x128 .f32 :=
  (Memref.whole cc0_scratch10).slice (Rect.unit (s := S5x8x128) ![k.val, 0, 0] S1x8x128.size (slot_inb k)) (fun _ => rfl)
/-- and as transferred. -/
abbrev mxrM (k : Fin 5) : Memref sig .tc .vmem S8x128 .f32 := (mxS k).squeeze S8x128 squeezes_S1x8x128_S8x128
/-- A chunk of the result. -/
abbrev chunkM (i : Fin 32) (b : Bool) : Memref sig .tc .hbm S128x4096 .bf16 :=
  (Memref.whole main_v31).slice (Rect.unit (s := S4096x8192) (chunkOff i b) S128x4096.size (chunk_inb i b)) (fun _ => rfl)

/-- What a transfer of a partial sum credits, -/
def NE : ℕ := (recvM false).view.dmaCredit
/-- of a maximum, -/
def NX : ℕ := mxM.view.dmaCredit
/-- and of a rounded block. -/
def NQ : ℕ := (qM false).view.dmaCredit

theorem NE_pos : 0 < NE := View.dmaCredit_pos _ (by decide)
theorem NX_pos : 0 < NX := View.dmaCredit_pos _ (by decide)
theorem NQ_pos : 0 < NQ := View.dmaCredit_pos _ (by decide)

/-- A memref owned at some contents. -/
def anyOwns (d : Dev nD) {sp : Space} {s : Shape} {e : EltTy} (m : Memref sig .tc sp s e) : sProp 𝕄 :=
  iprop(∃ X, owns (d : Thread nD τ) m fullShare X)

/-- A memref owned whole at named contents. -/
def own (d : Dev nD) {sp : Space} {s : Shape} {e : EltTy} (m : Memref sig .tc sp s e) (X : s.Idx → Elt F e) : sProp 𝕄 :=
  owns (d : Thread nD τ) m fullShare X

/-! ## Semaphores -/

/-- What a semaphore is for. -/
inductive Kind where
  | bar | send (b : Bool) | recv (b : Bool) | credit (b : Bool) | store (b : Bool) | mxs (k : Fin 5) | mxr (k : Fin 5)
deriving DecidableEq

open Kind

instance : Fintype Kind where
  elems := ⟨([bar, send false, send true, recv false, recv true, credit false, credit true, store false, store true,
    mxs 0, mxs 1, mxs 2, mxs 3, mxs 4, mxr 0, mxr 1, mxr 2, mxr 3, mxr 4] : List Kind), by decide⟩
  complete k := by
    cases k with
    | bar => decide
    | send b => revert b; decide
    | recv b => revert b; decide
    | credit b => revert b; decide
    | store b => revert b; decide
    | mxs k => revert k; decide
    | mxr k => revert k; decide

/-- The semaphore of a kind, -/
def locOf : Kind → SemLoc sig
  | bar => .reg 2
  | send b => .dma (cond b 5 4)
  | recv b => .dma (cond b 7 6)
  | credit b => .reg (cond b 1 0)
  | store b => .dma (cond b 9 8)
  | mxs k => .dma ⟨10 + k.val, by have := k.isLt; show _ < 20; omega⟩
  | mxr k => .dma ⟨15 + k.val, by have := k.isLt; show _ < 20; omega⟩

/-- and the kind of a semaphore: the first four are the pipeline's. -/
def kindOf : SemLoc sig → Option Kind
  | .reg i => (![some (credit false), some (credit true), some bar] : Fin 3 → Option Kind) i
  | .dma i => (![none, none, none, none, some (send false), some (send true), some (recv false), some (recv true),
      some (store false), some (store true), some (mxs 0), some (mxs 1), some (mxs 2), some (mxs 3), some (mxs 4),
      some (mxr 0), some (mxr 1), some (mxr 2), some (mxr 3), some (mxr 4)] : Fin 20 → Option Kind) i

theorem kindOf_locOf : ∀ k, kindOf (locOf k) = some k := by decide

theorem locOf_inj {k k' : Kind} (h : locOf k = locOf k') : k = k' := by
  have := congrArg kindOf h
  rwa [kindOf_locOf, kindOf_locOf, Option.some.injEq] at this

/-- A device's cell of a kind. -/
abbrev cell (k : Kind) (d : Dev nD) : GSem nD τ sig := ((d : Thread nD τ), locOf k)

theorem cell_inj {k k' : Kind} {d d' : Dev nD} (h : cell k d = cell k' d') : k = k' ∧ d = d' := by
  have h1 := congrArg Prod.snd h
  have h2 := congrArg (fun g : GSem nD τ sig => g.1.1) h
  exact ⟨locOf_inj h1, h2⟩

/-! ## The schedule -/

/-- The rounds of each kind, -/
def rnds : Kind → ℕ
  | bar => 1 | send _ => 62 | recv _ => 62 | credit _ => 60 | store _ => 32 | mxs _ => 1 | mxr _ => 1
/-- the contributions of a round: the barrier has one from each neighbour, -/
def duts : Kind → Finset Bool
  | bar => Finset.univ | _ => {false}
/-- and the units of each. -/
def amt : Kind → ℕ
  | bar => 1 | send _ => NE | recv _ => NE | credit _ => 1 | store _ => NQ | mxs _ => NX | mxr _ => NX

theorem amt_pos (k : Kind) : 0 < amt k := by
  cases k
  exacts [Nat.one_pos, NE_pos, NE_pos, Nat.one_pos, NQ_pos, NX_pos, NX_pos]

variable (I : Ins F)

/-- A place where a maximum may land, with the fact that its owner is ready for it. -/
def slotPay (k : Fin 5) (e : Dev nD) : sProp 𝕄 := iprop(anyOwns e (mxrM k) ∗ reached ER (cell (mxr k) e) 0)

/-- The slots that travel with a transfer of the second direction, at a step. -/
def route (r : ℕ) (d : Dev nD) : sProp 𝕄 :=
  bigSep Finset.univ fun k : Fin 5 => if r < 2 ^ k.val then slotPay k (hop d (r + 1)) else iprop(emp)

/-- A device has finished the reduce-scatter. -/
def doneRs (e : Dev nD) : sProp 𝕄 := iprop(reached ER (cell (recv false) e) 31 ∗ reached ER (cell (recv true) e) 31)

/-- What the units of a kind hand to device `d` in round `r`. -/
def pay : Kind → Dev nD → ℕ → Bool → sProp 𝕄
  | bar, d, _, u => iprop(anyOwns (succ u d) (recvM u) ∗ anyOwns (succ u d) (agrM u) ∗ reached ER (cell (recv u) (succ u d)) 0)
  | send b, d, r, _ => if r ≤ 30 then own d (accM b) (acc I b r d) else own d (agsM b) (ag I b (r - 31) d)
  | recv b, d, r, _ =>
      if r ≤ 30 then iprop(own d (recvM b) (acc I b r (pred b d)) ∗ reached ER (cell (credit b) (pred b d)) r
        ∗ (if b then route r d else iprop(emp)))
      else iprop(own d (agrM b) (ag I b (r - 31) (pred b d)) ∗ reached ER (cell (credit b) (pred b d)) (r - 1))
  | credit b, d, r, _ =>
      if r ≤ 29 then iprop(anyOwns (succ b d) (recvM b) ∗ reached ER (cell (recv b) (succ b d)) (r + 1))
      else iprop(anyOwns (succ b d) (agrM b) ∗ reached ER (cell (recv b) (succ b d)) (r + 2))
  | store b, d, r, _ => iprop(own d (chunkM (place b d r) b) (outT I b r d) ∗ anyOwns d (qM b))
  | mxs k, d, _, _ => own d mxM (fun _ => mx I k.val d)
  | mxr k, d, _, _ => iprop(own d (mxrM k) (fun _ => mx I k.val (bk d (2 ^ k.val)))
      ∗ bigSep (Finset.range (2 ^ k.val)) fun j => doneRs (bk d (2 ^ k.val + j)))

/-- The schedule of all the cells. -/
def Rd : Schedule (GSem nD τ sig) Bool 𝕄 where
  duties g r := match kindOf g.2 with
    | some k => if r < rnds k then duts k else ∅
    | none => ∅
  amount g _ _ := match kindOf g.2 with
    | some k => amt k
    | none => 1
  payload g r u := match kindOf g.2 with
    | some k => pay I k g.1.1 r u
    | none => iprop(emp)
  amount_pos g r d hd := by
    cases kindOf g.2 with
    | some k => exact amt_pos k
    | none => exact Nat.one_pos

instance own_storable (d : Dev nD) {sp : Space} {s : Shape} {e : EltTy} (m : Memref sig .tc sp s e) (X : s.Idx → Elt F e) :
    Storable (upEmb : UEmb _ 𝕄) (own d m X) := by unfold own owns; infer_instance
instance anyOwns_storable (d : Dev nD) {sp : Space} {s : Shape} {e : EltTy} (m : Memref sig .tc sp s e) :
    Storable (upEmb : UEmb _ 𝕄) (anyOwns (F := F) d m) := by unfold anyOwns owns; infer_instance
instance slotPay_storable (k : Fin 5) (e : Dev nD) : Storable (upEmb : UEmb _ 𝕄) (slotPay (F := F) k e) := by unfold slotPay; infer_instance
instance route_storable (r : ℕ) (d : Dev nD) : Storable (upEmb : UEmb _ 𝕄) (route (F := F) r d) := by
  unfold route
  have : ∀ k : Fin 5, Storable (upEmb : UEmb _ 𝕄) (if r < 2 ^ k.val then slotPay (F := F) k (hop d (r + 1)) else iprop(emp)) := by
    intro k; split <;> infer_instance
  infer_instance
instance doneRs_storable (e : Dev nD) : Storable (upEmb : UEmb _ 𝕄) (doneRs (F := F) e) := by unfold doneRs; infer_instance

instance pay_storable (k : Kind) (d : Dev nD) (r : ℕ) (u : Bool) : Storable (upEmb : UEmb _ 𝕄) (pay I k d r u) := by
  cases k <;> dsimp only [pay] <;> (repeat' split) <;> infer_instance

instance payload_storable (g : GSem nD τ sig) (r : ℕ) (d : Bool) : Storable (upEmb : UEmb _ 𝕄) ((Rd I).payload g r d) := by
  dsimp only [Rd]
  split
  · infer_instance
  · infer_instance

theorem duties_cell (k : Kind) (d : Dev nD) {r : ℕ} (h : r < rnds k) : (Rd I).duties (cell k d) r = duts k := by
  dsimp only [Rd]; rw [kindOf_locOf]; exact if_pos h
theorem duties_later (k : Kind) (d : Dev nD) {r : ℕ} (h : rnds k ≤ r) : (Rd I).duties (cell k d) r = ∅ := by
  dsimp only [Rd]; rw [kindOf_locOf]; exact if_neg (Nat.not_lt.mpr h)
theorem amount_cell (k : Kind) (d : Dev nD) (r : ℕ) (u : Bool) : (Rd I).amount (cell k d) r u = amt k := by
  dsimp only [Rd]; rw [kindOf_locOf]
theorem payload_cell (k : Kind) (d : Dev nD) (r : ℕ) (u : Bool) : (Rd I).payload (cell k d) r u = pay I k d r u := by
  dsimp only [Rd]; rw [kindOf_locOf]

/-! ## What a device owes, and the levels -/

theorem sum_Ico_bot {A : Type} [AddCommMonoid A] {s n : ℕ} (h : s < n) (f : ℕ → A) :
    ∑ r ∈ Finset.Ico s n, f r = f s + ∑ r ∈ Finset.Ico (s + 1) n, f r := by
  rw [show Finset.Ico s n = insert s (Finset.Ico (s + 1) n) by ext x; simp only [Finset.mem_Ico, Finset.mem_insert]; omega,
    Finset.sum_insert (by rw [Finset.mem_Ico]; omega)]

/-- The units owed to a cell from round `s` up to round `n`. -/
def tsum (g : GSem nD τ sig) (n a s : ℕ) : CellTallies nD τ sig ℕ := ∑ r ∈ Finset.Ico s n, tallyAt g r a

theorem tsum_peel (g : GSem nD τ sig) {n a s : ℕ} (h : s < n) : tsum g n a s = tsum g n a (s + 1) + tallyAt g s a := by
  unfold tsum; rw [sum_Ico_bot h, add_comm]
theorem tsum_done (g : GSem nD τ sig) (n a : ℕ) : tsum g n a n = 0 := by unfold tsum; rw [Finset.Ico_self, Finset.sum_empty]
theorem tsum_pos {g : GSem nD τ sig} {n a s : ℕ} {g' : GSem nD τ sig} {ι : ℕ} (h : 0 < tsum g n a s g' ι) : g' = g ∧ s ≤ ι ∧ ι < n := by
  unfold tsum at h
  rw [Finset.sum_apply, Finsupp.finset_sum_apply] at h
  obtain ⟨r, hr, hp⟩ := Finset.exists_ne_zero_of_sum_ne_zero (Nat.pos_iff_ne_zero.mp h)
  rw [tallyAt_apply] at hp
  by_cases hc : g' = g ∧ ι = r
  · obtain ⟨rfl, rfl⟩ := hc
    exact ⟨rfl, (Finset.mem_Ico.mp hr).1, (Finset.mem_Ico.mp hr).2⟩
  · rw [if_neg hc] at hp; exact absurd rfl hp

/-- A step of the exchange as a slot number. -/
def fk (j : ℕ) : Fin 5 := ⟨j % 5, Nat.mod_lt _ (by decide)⟩

theorem fk_val {j : ℕ} (h : j < 5) : (fk j).val = j := Nat.mod_eq_of_lt h
theorem fk_fin (k : Fin 5) : fk k.val = k := Fin.ext (fk_val k.isLt)

/-- The maxima a device still has to send. -/
def xsum (c : Dev nD) (s : ℕ) : CellTallies nD τ sig ℕ := ∑ j ∈ Finset.Ico s 5, tallyAt (cell (mxr (fk j)) (hop c (2 ^ j))) 0 NX

theorem xsum_peel (c : Dev nD) {s : ℕ} (h : s < 5) : xsum c s = xsum c (s + 1) + tallyAt (cell (mxr (fk s)) (hop c (2 ^ s))) 0 NX := by
  unfold xsum; rw [sum_Ico_bot h, add_comm]
theorem xsum_done (c : Dev nD) : xsum c 5 = 0 := by unfold xsum; rw [Finset.Ico_self, Finset.sum_empty]
theorem xsum_pos {c : Dev nD} {s : ℕ} {g' : GSem nD τ sig} {ι : ℕ} (h : 0 < xsum c s g' ι) :
    ∃ j, s ≤ j ∧ j < 5 ∧ g' = cell (mxr (fk j)) (hop c (2 ^ j)) ∧ ι = 0 := by
  unfold xsum at h
  rw [Finset.sum_apply, Finsupp.finset_sum_apply] at h
  obtain ⟨r, hr, hp⟩ := Finset.exists_ne_zero_of_sum_ne_zero (Nat.pos_iff_ne_zero.mp h)
  rw [tallyAt_apply] at hp
  by_cases hc : g' = cell (mxr (fk r)) (hop c (2 ^ r)) ∧ ι = 0
  · exact ⟨r, (Finset.mem_Ico.mp hr).1, (Finset.mem_Ico.mp hr).2, hc.1, hc.2⟩
  · rw [if_neg hc] at hp; exact absurd rfl hp

/-- What a device owes once past the barrier: transfers from rounds `a₁`, `a₂`, credits from rounds `b₁`, `b₂`, maxima from
    step `k`. -/
def OW (c : Dev nD) (a₁ a₂ b₁ b₂ k : ℕ) : CellTallies nD τ sig ℕ :=
  tsum (cell (recv false) (succ false c)) 62 NE a₁ + tsum (cell (recv true) (succ true c)) 62 NE a₂
    + tsum (cell (credit false) (pred false c)) 60 1 b₁ + tsum (cell (credit true) (pred true c)) 60 1 b₂ + xsum c k

/-- And at launch: both neighbours' barrier units besides. -/
def O₀ (c : Dev nD) : CellTallies nD τ sig ℕ :=
  OW c 0 0 0 0 0 + tallyAt (cell bar (pred true c)) 0 1 + tallyAt (cell bar (pred false c)) 0 1

theorem OW_a₁ (c : Dev nD) {a₁ a₂ b₁ b₂ k : ℕ} (h : a₁ < 62) :
    OW c a₁ a₂ b₁ b₂ k = OW c (a₁ + 1) a₂ b₁ b₂ k + tallyAt (cell (recv false) (succ false c)) a₁ NE := by
  unfold OW; rw [tsum_peel (cell (recv false) (succ false c)) h]; ac_rfl
theorem OW_a₂ (c : Dev nD) {a₁ a₂ b₁ b₂ k : ℕ} (h : a₂ < 62) :
    OW c a₁ a₂ b₁ b₂ k = OW c a₁ (a₂ + 1) b₁ b₂ k + tallyAt (cell (recv true) (succ true c)) a₂ NE := by
  unfold OW; rw [tsum_peel (cell (recv true) (succ true c)) h]; ac_rfl
theorem OW_b₁ (c : Dev nD) {a₁ a₂ b₁ b₂ k : ℕ} (h : b₁ < 60) :
    OW c a₁ a₂ b₁ b₂ k = OW c a₁ a₂ (b₁ + 1) b₂ k + tallyAt (cell (credit false) (pred false c)) b₁ 1 := by
  unfold OW; rw [tsum_peel (cell (credit false) (pred false c)) h]; ac_rfl
theorem OW_b₂ (c : Dev nD) {a₁ a₂ b₁ b₂ k : ℕ} (h : b₂ < 60) :
    OW c a₁ a₂ b₁ b₂ k = OW c a₁ a₂ b₁ (b₂ + 1) k + tallyAt (cell (credit true) (pred true c)) b₂ 1 := by
  unfold OW; rw [tsum_peel (cell (credit true) (pred true c)) h]; ac_rfl
theorem OW_k (c : Dev nD) {a₁ a₂ b₁ b₂ k : ℕ} (h : k < 5) :
    OW c a₁ a₂ b₁ b₂ k = OW c a₁ a₂ b₁ b₂ (k + 1) + tallyAt (cell (mxr (fk k)) (hop c (2 ^ k))) 0 NX := by
  unfold OW; rw [xsum_peel c h]; ac_rfl
theorem OW_done (c : Dev nD) : OW c 62 62 60 60 5 = 0 := by
  unfold OW; simp only [tsum_done, xsum_done, add_zero]

/-- The indices units are owed at, -/
def L (g : GSem nD τ sig) : Finset ℕ := if g.1.2 = .tc then Finset.range 64 else ∅
/-- and their levels: a wait is below all that is owed during it. -/
def levOf : Option Kind → ℕ → ℕ
  | some bar, _ => 1
  | some (recv _), r => if r ≤ 30 then 2 * r + 2 else 100 + 2 * r
  | some (credit _), r => if r ≤ 29 then 2 * r + 3 else 103 + 2 * r
  | some (mxr k), _ => 70 + k.val
  | _, _ => 0
def lv (g : GSem nD τ sig) (r : ℕ) : ℕ := levOf (kindOf g.2) r

theorem L_of_ne (g : GSem nD τ sig) (h : g.1.2 ≠ .tc) : L g = ∅ := if_neg h
theorem L_tc (c : Dev nD) (sm : SemLoc sig) : L ((c : Thread nD τ), sm) = Finset.range 64 := if_pos rfl
theorem lv_cell (k : Kind) (d : Dev nD) (r : ℕ) : lv (cell k d) r = levOf (some k) r := by unfold lv; rw [kindOf_locOf]

theorem levOf_recv {b : Bool} {s r : ℕ} (h : s ≤ r) : levOf (some (recv b)) s ≤ levOf (some (recv b)) r := by
  show (if s ≤ 30 then 2 * s + 2 else 100 + 2 * s) ≤ (if r ≤ 30 then 2 * r + 2 else 100 + 2 * r)
  split <;> split <;> omega
theorem levOf_credit {b : Bool} {s r : ℕ} (h : s ≤ r) : levOf (some (credit b)) s ≤ levOf (some (credit b)) r := by
  show (if s ≤ 29 then 2 * s + 3 else 103 + 2 * s) ≤ (if r ≤ 29 then 2 * r + 3 else 103 + 2 * r)
  split <;> split <;> omega

/-- Everything owed is indexed, and above a bound below its first rounds. -/
theorem OW_above {c : Dev nD} {a₁ a₂ b₁ b₂ k n : ℕ}
    (h₁ : a₁ < 62 → n < levOf (some (recv false)) a₁) (h₂ : a₂ < 62 → n < levOf (some (recv true)) a₂)
    (h₃ : b₁ < 60 → n < levOf (some (credit false)) b₁) (h₄ : b₂ < 60 → n < levOf (some (credit true)) b₂)
    (h₅ : k < 5 → n < 70 + k) {g : GSem nD τ sig} {ι : ℕ} (h : 0 < OW c a₁ a₂ b₁ b₂ k g ι) : ι ∈ L g ∧ n < lv g ι := by
  unfold OW at h
  simp only [Pi.add_apply, Finsupp.add_apply] at h
  have cases5 : 0 < tsum (cell (recv false) (succ false c)) 62 NE a₁ g ι ∨ 0 < tsum (cell (recv true) (succ true c)) 62 NE a₂ g ι
      ∨ 0 < tsum (cell (credit false) (pred false c)) 60 1 b₁ g ι ∨ 0 < tsum (cell (credit true) (pred true c)) 60 1 b₂ g ι
      ∨ 0 < xsum c k g ι := by omega
  rcases cases5 with h | h | h | h | h
  · obtain ⟨rfl, h1, h2⟩ := tsum_pos h
    exact ⟨by rw [L_tc]; exact Finset.mem_range.mpr (by omega), by rw [lv_cell]; exact lt_of_lt_of_le (h₁ (by omega)) (levOf_recv h1)⟩
  · obtain ⟨rfl, h1, h2⟩ := tsum_pos h
    exact ⟨by rw [L_tc]; exact Finset.mem_range.mpr (by omega), by rw [lv_cell]; exact lt_of_lt_of_le (h₂ (by omega)) (levOf_recv h1)⟩
  · obtain ⟨rfl, h1, h2⟩ := tsum_pos h
    exact ⟨by rw [L_tc]; exact Finset.mem_range.mpr (by omega), by rw [lv_cell]; exact lt_of_lt_of_le (h₃ (by omega)) (levOf_credit h1)⟩
  · obtain ⟨rfl, h1, h2⟩ := tsum_pos h
    exact ⟨by rw [L_tc]; exact Finset.mem_range.mpr (by omega), by rw [lv_cell]; exact lt_of_lt_of_le (h₄ (by omega)) (levOf_credit h1)⟩
  · obtain ⟨j, h1, h2, rfl, rfl⟩ := xsum_pos h
    refine ⟨by rw [L_tc]; exact Finset.mem_range.mpr (by omega), ?_⟩
    rw [lv_cell]
    show n < 70 + (fk j).val
    rw [fk_val h2]
    have := h₅ (by omega)
    omega

/-- The levels, as one resource. -/
@[irreducible] def levs : sProp 𝕄 := levAts L lv

instance levs_persistent : BI.Persistent (levs (F := F)) := by unfold levs; infer_instance

/-- A wait at level `n` is allowed when everything owed is above. -/
theorem mayWait_OW {c : Dev nD} {a₁ a₂ b₁ b₂ k : ℕ} (n : ℕ) (sm : SemLoc sig) (ι : ℕ) (hι : ι < 64) (hn : lv ((c : Thread nD τ), sm) ι ≤ n)
    (h₁ : a₁ < 62 → n < levOf (some (recv false)) a₁) (h₂ : a₂ < 62 → n < levOf (some (recv true)) a₂)
    (h₃ : b₁ < 60 → n < levOf (some (credit false)) b₁) (h₄ : b₂ < 60 → n < levOf (some (credit true)) b₂)
    (h₅ : k < 5 → n < 70 + k) :
    (levs : sProp 𝕄) ⊢ MayWait (c : Thread nD τ) sm ι (OW c a₁ a₂ b₁ b₂ k) := by
  unfold levs
  exact MayOwe.of_cut (L := L) (lev := lv) n (fun p hp => by rw [Finset.mem_singleton.mp hp, L_tc]; exact Finset.mem_range.mpr hι)
    (fun g i hg => (OW_above h₁ h₂ h₃ h₄ h₅ hg).1) (fun p hp => by rw [Finset.mem_singleton.mp hp]; exact hn)
    (fun g i hg => (OW_above h₁ h₂ h₃ h₄ h₅ hg).2)

/-- At launch everything owed is above zero. -/
theorem O₀_above {c : Dev nD} {g : GSem nD τ sig} {ι : ℕ} (h : 0 < O₀ c g ι) : ι ∈ L g ∧ 0 < lv g ι := by
  unfold O₀ at h
  simp only [Pi.add_apply, Finsupp.add_apply, tallyAt_apply] at h
  have hbar : ∀ d, 0 < lv (cell bar d) 0 := fun d => by rw [lv_cell]; exact Nat.one_pos
  by_cases h1 : g = cell bar (pred true c) ∧ ι = 0
  · obtain ⟨rfl, rfl⟩ := h1; exact ⟨by rw [L_tc]; exact Finset.mem_range.mpr (by omega), hbar _⟩
  by_cases h2 : g = cell bar (pred false c) ∧ ι = 0
  · obtain ⟨rfl, rfl⟩ := h2; exact ⟨by rw [L_tc]; exact Finset.mem_range.mpr (by omega), hbar _⟩
  rw [if_neg h1, if_neg h2] at h
  exact OW_above (n := 0) (c := c) (a₁ := 0) (a₂ := 0) (b₁ := 0) (b₂ := 0) (k := 0) (fun _ => by decide) (fun _ => by decide) (fun _ => by decide) (fun _ => by decide) (fun _ => by decide) (by simpa using h)

end Cert.Proof.KernelIdealRun

end
-- ==== Proof.KernelIdealSteps.lean ====
/-
  The kernel's communication steps under its protocol: waiting for a round, sending along the ring, returning a credit.
-/
module

public import proofs.«01_k».proof.Proof.KernelIdealProtocol

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kind

variable {F : FTy → Type} [FloatOps F]

local notation "𝕄" => MT nD τ sig ℕ (Elt F) ℕ UU ℕ

abbrev 𝒱₀ : Variants := Variants.none

theorem own_eq (d : Dev nD) {sp : Space} {s : Shape} {e : EltTy} (m : Memref sig .tc sp s e) (X : s.Idx → Elt F e) :
    (own d m X : sProp 𝕄) = owns (d : Thread nD τ) m fullShare X := rfl

variable (I : Ins F) (K : GSem nD τ sig → ℕ)

/-- The invariants of all the cells, and the levels: what every step may use. -/
def ctx : sProp 𝕄 :=
  iprop((bigSep Finset.univ fun p : Kind × Dev nD => cellInv ER (Rd I) (K (cell p.1 p.2)) (cell p.1 p.2)) ∗ levs)

instance ctx_persistent : BI.Persistent (ctx I K) := by unfold ctx; infer_instance

theorem ctx_inv (k : Kind) (d : Dev nD) : ctx I K ⊢ cellInv ER (Rd I) (K (cell k d)) (cell k d) := by
  unfold ctx
  iintro ⟨H, -⟩
  have h : (bigSep Finset.univ fun p : Kind × Dev nD => cellInv ER (Rd I) (K (cell p.1 p.2)) (cell p.1 p.2) : sProp 𝕄)
      ⊢ cellInv ER (Rd I) (K (cell k d)) (cell k d) := BI.bigSep_elim (Finset.mem_univ (k, d))
  iapply h $$ H

theorem ctx_lev : ctx I K ⊢ levs := by
  unfold ctx
  iintro ⟨-, H⟩
  iexact H

/-- What a device owes, whatever its waits have recorded. -/
def oweE (c : Dev nD) (O : CellTallies nD τ sig ℕ) : sProp 𝕄 := iprop(∃ W, owes (c : Thread nD τ) O W)

variable (c : Dev nD) {α : Type} {Q : α → sProp (MT nD τ sig ℕ (Elt F) ℕ UU ℕ)}

/-- A wait for a round of one contribution. -/
theorem step_wait (k : Kind) (hk : duts k = {false}) (r : ℕ) (hr : r < rnds k) (ι : ℕ) {O : CellTallies nD τ sig ℕ}
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (locOf k) (amt k) Kt)
    (hm : (levs : sProp 𝕄) ⊢ MayWait (c : Thread nD τ) (locOf k) ι O)
    {kt : PUnit → Prog (TpuEff nD τ sig (Elt F) Λ₀ .tc) α} :
    iprop(ctx I K ∗ cred (tallyAt (cell k c) ι (amt k)) ∗ oweE c O ∗ atPos ER (cell k c) r ∅ 0)
      ⊢ iprop(((oweE c O ∗ atPos ER (cell k c) (r + 1) ∅ 0 ∗ reached ER (cell k c) (r + 1) ∗ pay I k c r false)
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  unfold oweE
  iintro ⟨#Hc, Hcr, ⟨%W, HO⟩, Hat⟩ Hk
  iapply (OwnsRules.wp_wait_one 𝒱₀ ER (Rd I) (c : Thread nD τ) none (κ := K (cell k c)) hw (Set.mem_univ _) ι r false
      ((duties_cell I k c hr).trans hk) (amount_cell I k c r false)) $$ [Hcr HO Hat]
  · isplitr; · iapply (ctx_inv I K k c); iexact Hc
    isplitl [Hcr]; · iexact Hcr
    isplitl [HO]; · iexact HO
    isplitr
    · ihave Hl := (ctx_lev I K) $$ Hc; iapply hm $$ Hl
    iexact Hat
  rw [payload_cell]
  iintro ⟨HO, Hat, Hr, Hp⟩
  iapply Hk
  isplitl [HO]; · iexists _; iexact HO
  isplitl [Hat]; · iexact Hat
  isplitl [Hr]; · iexact Hr
  iexact Hp

/-- A transfer to another device: the source goes with the sender's own cell, the destination, at the source's contents,
    with `R`, to the receiver's. -/
theorem step_send {kS kR : Kind} (hkS : duts kS = {false}) (hkR : duts kR = {false}) {d : Dev nD} {s : Shape} {e : EltTy}
    {src dst : Memref sig .tc .vmem s e} (r r' ιR : ℕ) (hrS : r < rnds kS) (hrR : r' < rnds kR) (N : ℕ)
    {hsc : dst.view.ref.isScScratch = false}
    {hsrc : src.view.WordExact} {hdst : dst.view.WordExact} {hsem : DmaTarget.Typed .vmem (locOf kR) (.remote (d : Thread nD τ) dst (locOf kS) hsc)}
    {X : s.Idx → Elt F e} {R : sProp 𝕄}
    (hN : dst.view.amount (locOf kR) = N) (hNS : amt kS = N) (hNR : amt kR = N)
    {O' : CellTallies nD τ sig ℕ} (O : CellTallies nD τ sig ℕ) (hO : O' = O + tallyAt (cell kR d) ιR N)
    (hp₁ : own c src X ⊢ pay I kS c r false) (hp₂ : iprop(own d dst X ∗ R) ⊢ pay I kR d r' false)
    {kt : PUnit → Prog (TpuEff nD τ sig (Elt F) Λ₀ .tc) α} :
    iprop(ctx I K ∗ own c src X ∗ (anyOwns d dst ∗ R) ∗ oweE c O'
        ∗ dutyTok ER (cell kS c) r false ∗ reached ER (cell kS c) r ∗ dutyTok ER (cell kR d) r' false ∗ reached ER (cell kR d) r')
      ⊢ iprop(((cred (tallyAt (cell kS c) 0 N) ∗ oweE c O) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (d : Thread nD τ) dst (locOf kS) hsc) (locOf kR) hsrc hdst hsem) kt) Q) := by
  unfold oweE anyOwns
  simp only [own_eq] at hp₁ hp₂ ⊢
  iintro ⟨#Hc, Hs, ⟨⟨%Y, Hd⟩, HR⟩, ⟨%W, HO⟩, HtS, #HrS, HtR, #HrR⟩ Hk
  iapply (OwnsRules.wp_send_owns 𝒱₀ ER (Rd I) (c : Thread nD τ) none (c' := (d : Thread nD τ)) (src := src) (dst := dst) (sS := locOf kS) (sem := locOf kR)
      (q := fullShare) (X := X) (Y := Y) (R := R) (r₁ := r) (r₂ := r') (d₁ := false) (d₂ := false) (κ₁ := K (cell kS c)) (κ₂ := K (cell kR d))
      (by rw [duties_cell I kS c hrS, hkS]; exact Finset.mem_singleton_self _) (by rw [duties_cell I kR d hrR, hkR]; exact Finset.mem_singleton_self _)
      ιR 0 N hN ((amount_cell I kS c r false).trans hNS) ((amount_cell I kR d r' false).trans hNR) O hO (W := W)
      (by rw [payload_cell]; exact hp₁) (by rw [payload_cell]; exact hp₂) (hr := Topo.routes_tc _ _)) $$ [Hs Hd HR HO HtS HtR]
  · isplitr; · iapply (ctx_inv I K kS c); iexact Hc
    isplitr; · iapply (ctx_inv I K kR d); iexact Hc
    isplitl [Hs]; · iexact Hs
    isplitl [Hd HR]
    · isplitl [Hd] <;> iassumption
    isplitl [HO]; · iexact HO
    isplitl [HtS]; · iexact HtS
    isplitr; · iexact HrS
    isplitl [HtR]; · iexact HtR
    iexact HrR
  iintro ⟨Hcr, HO⟩
  iapply Hk
  isplitl [Hcr]; · iexact Hcr
  iexists W; iexact HO

/-- A copy into this device's own memory. -/
theorem step_copy {k : Kind} (hk : duts k = {false}) {sp sp' : Space} {s : Shape} {e : EltTy}
    {src : Memref sig .tc sp s e} {dst : Memref sig .tc sp' s e} (r : ℕ) (hr : r < rnds k)
    {hsrc : src.view.WordExact} {hdst : dst.view.WordExact} {hsem : DmaTarget.Typed (nD := nD) (τ := τ) (p := .tc) sp (locOf k) (.here dst)}
    {X : s.Idx → Elt F e} (hN : dst.view.amount (locOf k) = amt k)
    (hp : iprop(own c dst X ∗ own c src X) ⊢ pay I k c r false)
    {kt : PUnit → Prog (TpuEff nD τ sig (Elt F) Λ₀ .tc) α} :
    iprop(ctx I K ∗ own c src X ∗ anyOwns c dst ∗ dutyTok ER (cell k c) r false ∗ reached ER (cell k c) r)
      ⊢ iprop((cred (tallyAt (cell k c) 0 (amt k)) -∗ wp frame (wpE (defs₀ (F := F)) 𝒱₀ (c : Thread nD τ) none) Set.univ (kt ⟨⟩) Q)
          -∗ wp frame (wpE (defs₀ (F := F)) 𝒱₀ (c : Thread nD τ) none) Set.univ (.op (.enqueueDma src (.here dst) (locOf k) hsrc hdst hsem) kt) Q) := by
  unfold anyOwns
  simp only [own_eq] at hp ⊢
  iintro ⟨#Hc, Hs, ⟨%Y, Hd⟩, Ht, #Hr⟩ Hk
  iapply (OwnsRules.wp_copy_owns 𝒱₀ ER (Rd I) (c : Thread nD τ) none (src := src) (dst := dst) (sem := locOf k) (q := fullShare) (X := X) (Y := Y)
      (r := r) (d := false) (κ := K (cell k c)) (by rw [duties_cell I k c hr, hk]; exact Finset.mem_singleton_self _) 0 (amt k) hN (amount_cell I k c r false)
      (by rw [payload_cell]; exact hp)) $$ [Hs Hd Ht]
  · isplitr; · iapply (ctx_inv I K k c); iexact Hc
    isplitl [Hs]; · iexact Hs
    isplitl [Hd]; · iexact Hd
    isplitl [Ht]; · iexact Ht
    iexact Hr
  iexact Hk

/-- A unit signalled to another device. -/
theorem step_signal {k : Kind} (u : Bool) (hu : u ∈ duts k) (ha : amt k = 1) {d : Dev nD} {sem : Sem sig} (hs : SemLoc.reg sem = locOf k)
    (r ι : ℕ) (hr : r < rnds k) {O' : CellTallies nD τ sig ℕ} (O : CellTallies nD τ sig ℕ) (hO : O' = O + tallyAt (cell k d) ι 1)
    {kt : PUnit → Prog (TpuEff nD τ sig (Elt F) Λ₀ .tc) α} :
    iprop(ctx I K ∗ oweE c O' ∗ dutyTok ER (cell k d) r u ∗ pay I k d r u ∗ reached ER (cell k d) r)
      ⊢ iprop((oweE c O -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (d : Thread nD τ) sem 1) kt) Q) := by
  unfold oweE
  iintro ⟨#Hc, ⟨%W, HO⟩, Ht, Hp, Hr⟩ Hk
  iapply (Rounds.wp_signal 𝒱₀ ER (Rd I) (c : Thread nD τ) none (dst := (d : Thread nD τ)) (sem := sem) (r := r) (d := u) (κ := K (cell k d))
      (by rw [hs, duties_cell I k d hr]; exact hu) (by rw [hs, amount_cell]; exact ha) ι O (O₀ := O') (hO.trans (by rw [hs])) (W := W) (hr := Topo.routes_tc _ _)) $$ [HO Ht Hp Hr]
  · rw [hs, payload_cell]
    isplitr; · iapply (ctx_inv I K k d); iexact Hc
    isplitl [HO]; · iexact HO
    isplitl [Ht]; · iexact Ht
    isplitl [Hp]; · iexact Hp
    iexact Hr
  iintro HO
  iapply Hk
  iexists W; iexact HO

/-- The barrier's wait: both neighbours' contributions. -/
theorem step_bar {O : CellTallies nD τ sig ℕ}
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (locOf bar) 2 Kt)
    (hm : (levs : sProp 𝕄) ⊢ MayWait (c : Thread nD τ) (locOf bar) 0 O)
    {kt : PUnit → Prog (TpuEff nD τ sig (Elt F) Λ₀ .tc) α} :
    iprop(ctx I K ∗ cred (tallyAt (cell bar c) 0 2) ∗ oweE c O ∗ atPos ER (cell bar c) 0 ∅ 0)
      ⊢ iprop(((oweE c O ∗ atPos ER (cell bar c) 1 ∅ 0 ∗ pay I bar c 0 false ∗ pay I bar c 0 true)
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  unfold oweE
  iintro ⟨#Hc, Hcr, ⟨%W, HO⟩, Hat⟩ Hk
  iapply (Rounds.wp_wait_rest_token 𝒱₀ ER (Rd I) (c : Thread nD τ) none (κ := K (cell bar c)) hw (Set.mem_univ _) 0 (O := O) (W := W) (R := 0) (m := 0) (T := ∅)
      (by unfold Schedule.expect Schedule.amountOf; rw [duties_cell I bar c (by decide)]; simp only [amount_cell]; decide)) $$ [Hcr HO Hat]
  · isplitr; · iapply (ctx_inv I K bar c); iexact Hc
    isplitl [Hcr]; · iexact Hcr
    isplitl [HO]; · iexact HO
    isplitr
    · ihave Hl := (ctx_lev I K) $$ Hc; iapply hm $$ Hl
    iexact Hat
  rw [Finset.sdiff_empty, duties_cell I bar c (by decide)]
  simp only [payload_cell]
  rw [show duts bar = ({false, true} : Finset Bool) from by decide, BI.bigSep_insert (by decide), bigSep_singleton]
  iintro ⟨HO, Hat, -, Hp⟩
  ihave Hp := (show (BI.sep (pay I bar c 0 false) (pay I bar c 0 true) : sProp 𝕄) ⊢ iprop(pay I bar c 0 false ∗ pay I bar c 0 true) from .rfl) $$ Hp
  icases Hp with ⟨Hp1, Hp2⟩
  iapply Hk
  isplitl [HO]; · iexists _; iexact HO
  isplitl [Hat]; · iexact Hat
  isplitl [Hp1]; · iexact Hp1
  iexact Hp2

/-- A cell past its last round gives its counter back, at zero. -/
theorem step_close (k : Kind) (d : Dev nD) {r : ℕ} (h : rnds k ≤ r) :
    iprop(ctx I K ∗ atPos ER (cell k d) r ∅ 0) ⊢ (|={Set.univ}=> semVal (cell k d) 0 : sProp 𝕄) := by
  iintro ⟨#Hc, Hat⟩
  iapply (Rounds.cell_close ER (Rd I) (Set.mem_univ (K (cell k d))) (fun h => h) (R := r) (fun r' h' => duties_later I k d (le_trans h h')))
  isplitr; · iapply (ctx_inv I K k d); iexact Hc
  iexact Hat

end Cert.Proof.KernelIdealRun

end
-- ==== Proof.KernelIdealRounds.lean ====
/-
  One round of the ring in a direction: sending the block in hand, waiting for both ends of the transfer, waiting for the
  neighbour's credit and giving one back.
-/
module

public import proofs.«01_k».proof.Proof.KernelIdealSteps

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kind

variable {F : FTy → Type} [FloatOps F]

local notation "𝕄" => MT nD τ sig ℕ (Elt F) ℕ UU ℕ

/-- The first of an interval apart from the rest. -/
theorem peel {s n : ℕ} (h : s < n) (A : ℕ → sProp (MT nD τ sig ℕ (Elt F) ℕ UU ℕ)) :
    bigSep (Finset.Ico s n) A ⊢ iprop(A s ∗ bigSep (Finset.Ico (s + 1) n) A) := by
  rw [show Finset.Ico s n = insert s (Finset.Ico (s + 1) n) by ext x; simp only [Finset.mem_Ico, Finset.mem_insert]; omega,
    BI.bigSep_insert (by rw [Finset.mem_Ico]; omega)]
  exact .rfl

/-- A direction's transfer cells at round `r`: both positions, and what remains to be sent and received. -/
def tst (b : Bool) (c : Dev nD) (r : ℕ) : sProp 𝕄 :=
  iprop(atPos ER (cell (send b) c) r ∅ 0 ∗ reached ER (cell (send b) c) r ∗ atPos ER (cell (recv b) c) r ∅ 0
    ∗ (bigSep (Finset.Ico r 62) fun r => dutyTok ER (cell (send b) c) r false)
    ∗ (bigSep (Finset.Ico r 62) fun r => dutyTok ER (cell (recv b) (succ b c)) r false)
    ∗ bigSep (Finset.Ico r 62) fun r => cred (tallyAt (cell (recv b) c) r NE))

/-- The same between the sending and the waits. -/
def tmid (b : Bool) (c : Dev nD) (r : ℕ) : sProp 𝕄 :=
  iprop(atPos ER (cell (send b) c) r ∅ 0 ∗ atPos ER (cell (recv b) c) r ∅ 0 ∗ cred (tallyAt (cell (send b) c) 0 NE)
    ∗ cred (tallyAt (cell (recv b) c) r NE)
    ∗ (bigSep (Finset.Ico (r + 1) 62) fun r => dutyTok ER (cell (send b) c) r false)
    ∗ (bigSep (Finset.Ico (r + 1) 62) fun r => dutyTok ER (cell (recv b) (succ b c)) r false)
    ∗ bigSep (Finset.Ico (r + 1) 62) fun r => cred (tallyAt (cell (recv b) c) r NE))

/-- A direction's credit cell at round `a`. -/
def cst (b : Bool) (c : Dev nD) (a : ℕ) : sProp 𝕄 :=
  iprop(atPos ER (cell (credit b) c) a ∅ 0 ∗ reached ER (cell (credit b) c) a
    ∗ bigSep (Finset.Ico a 60) fun r => cred (tallyAt (cell (credit b) c) r 1))

/-- The credits still to be given, from round `p`. -/
def pst (b : Bool) (c : Dev nD) (p : ℕ) : sProp 𝕄 :=
  bigSep (Finset.Ico p 60) fun r => dutyTok ER (cell (credit b) (pred b c)) r false

/-- The neighbour's buffer may be written at round `r`. -/
def gate (b : Bool) (c : Dev nD) (M : Bool → Memref sig .tc .vmem S128x4096 .i16) (r : ℕ) : sProp 𝕄 :=
  iprop(anyOwns (succ b c) (M b) ∗ reached ER (cell (recv b) (succ b c)) r)

variable (I : Ins F) (K : GSem nD τ sig → ℕ) (c : Dev nD) {α : Type} {Q : α → sProp (MT nD τ sig ℕ (Elt F) ℕ UU ℕ)}

/-- Sending the block in hand. -/
theorem ring_send (b : Bool) (r : ℕ) (hr : r < 62) {sm rm : DmaSem sig} (hsm : SemLoc.dma sm = locOf (send b)) (hrm : SemLoc.dma rm = locOf (recv b))
    {n : Dev nD} (hn : n = succ b c) {M : Bool → Memref sig .tc .vmem S128x4096 .i16}
    {src dst : Memref sig .tc .vmem S128x4096 .i16} (hdM : dst = M b)
    {hsc : dst.view.ref.isScScratch = false} {hsrc : src.view.WordExact} {hdst : dst.view.WordExact}
    {hsem : DmaTarget.Typed .vmem (SemLoc.dma rm) (.remote (n : Thread nD τ) dst (SemLoc.dma sm) hsc)}
    {X : S128x4096.Idx → Elt F .i16} {R : sProp 𝕄} (hN : dst.view.dmaCredit = NE)
    {O' : CellTallies nD τ sig ℕ} (O : CellTallies nD τ sig ℕ) (hO : O' = O + tallyAt (cell (recv b) (succ b c)) r NE)
    (hp₁ : own c src X ⊢ pay I (send b) c r false) (hp₂ : iprop(own (succ b c) dst X ∗ R) ⊢ pay I (recv b) (succ b c) r false)
    {kt : PUnit → Prog (TpuEff nD τ sig (Elt F) Λ₀ .tc) α} :
    iprop(ctx I K ∗ tst b c r ∗ own c src X ∗ gate b c M r ∗ R ∗ oweE c O')
      ⊢ iprop(((tmid b c r ∗ oweE c O) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (n : Thread nD τ) dst (SemLoc.dma sm) hsc) (SemLoc.dma rm) hsrc hdst hsem) kt) Q) := by
  subst hn hdM
  have key : ∀ (l₁ l₂ : SemLoc sig) (_ : l₁ = locOf (send b)) (_ : l₂ = locOf (recv b)) {hsem : DmaTarget.Typed .vmem l₂ (.remote ((succ b c : Dev nD) : Thread nD τ) (M b) l₁ hsc)}
      (hN' : (M b).view.amount l₂ = NE),
      iprop(ctx I K ∗ tst b c r ∗ own c src X ∗ gate b c M r ∗ R ∗ oweE c O')
      ⊢ iprop(((tmid b c r ∗ oweE c O) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote ((succ b c : Dev nD) : Thread nD τ) (M b) l₁ hsc) l₂ hsrc hdst hsem) kt) Q) := by
    intro l₁ l₂ h₁ h₂ hsem hN'
    subst h₁ h₂
    unfold tst tmid gate
    iintro ⟨#Hc, ⟨HaS, #HrS, HaR, HdS, HdR, HcR⟩, Hs, ⟨Hd, #Hr⟩, HR, HO⟩ Hk
    ihave HdS := (peel hr _) $$ HdS
    ihave HdR := (peel hr _) $$ HdR
    ihave HcR := (peel hr _) $$ HcR
    icases HdS with ⟨HdS, HdS'⟩
    icases HdR with ⟨HdR, HdR'⟩
    icases HcR with ⟨HcR, HcR'⟩
    iapply (step_send I K c (kS := send b) (kR := recv b) rfl rfl (src := src) (dst := M b) r r r hr hr NE (X := X) (R := R) hN' rfl rfl O hO hp₁ hp₂) $$ [Hs Hd HR HO HdS HdR]
    · isplitr; · iexact Hc
      isplitl [Hs]; · iexact Hs
      isplitl [Hd HR]
      · isplitl [Hd]; · iexact Hd
        iexact HR
      isplitl [HO]; · iexact HO
      isplitl [HdS]; · iexact HdS
      isplitr; · iexact HrS
      isplitl [HdR]; · iexact HdR
      iexact Hr
    iintro ⟨Hcr, HO⟩
    iapply Hk
    isplitr [HO]
    · isplitl [HaS]; · iexact HaS
      isplitl [HaR]; · iexact HaR
      isplitl [Hcr]; · iexact Hcr
      isplitl [HcR]; · iexact HcR
      isplitl [HdS']; · iexact HdS'
      isplitl [HdR']; · iexact HdR'
      iexact HcR'
    iexact HO
  exact key _ _ hsm hrm hN

/-- Waiting for both ends of a transfer. -/
theorem ring_waits (b : Bool) (r : ℕ) (hr : r < 62) {O : CellTallies nD τ sig ℕ}
    {sm rm : DmaSem sig} (hsm : SemLoc.dma sm = locOf (send b)) (hrm : SemLoc.dma rm = locOf (recv b))
    {p p' q q' : Memref sig .tc .vmem S128x4096 .i16} {hp : p.view.WordExact} {hp' : p'.view.WordExact} {hq : q.view.WordExact} {hq' : q'.view.WordExact}
    (hN₁ : p'.view.dmaCredit = NE) (hN₂ : q'.view.dmaCredit = NE)
    (hm₁ : (levs : sProp 𝕄) ⊢ MayWait (c : Thread nD τ) (locOf (send b)) 0 O)
    (hm₂ : (levs : sProp 𝕄) ⊢ MayWait (c : Thread nD τ) (locOf (recv b)) r O)
    {kt : PUnit → Prog (TpuEff nD τ sig (Elt F) Λ₀ .tc) α} :
    iprop(ctx I K ∗ tmid b c r ∗ oweE c O)
      ⊢ iprop(((tst b c (r + 1) ∗ oweE c O ∗ reached ER (cell (recv b) c) (r + 1) ∗ pay I (send b) c r false ∗ pay I (recv b) c r false)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm p p' hp hp') fun _ => .op (.waitDma2 rm q q' hq hq') kt) Q) := by
  have hw₁ : ∀ Kt : PUnit → sProp 𝕄, wpE (defs₀ (F := F)) 𝒱₀ (c : Thread nD τ) none Set.univ (.waitDma2 sm p p' hp hp') Kt = waitSpec (c : Thread nD τ) Set.univ (locOf (send b)) NE Kt := by
    intro Kt; rw [wpE_waitDma2_eq 𝒱₀ (c : Thread nD τ) none Set.univ Kt, hsm, hN₁]
  have hw₂ : ∀ Kt : PUnit → sProp 𝕄, wpE (defs₀ (F := F)) 𝒱₀ (c : Thread nD τ) none Set.univ (.waitDma2 rm q q' hq hq') Kt = waitSpec (c : Thread nD τ) Set.univ (locOf (recv b)) NE Kt := by
    intro Kt; rw [wpE_waitDma2_eq 𝒱₀ (c : Thread nD τ) none Set.univ Kt, hrm, hN₂]
  unfold tst tmid
  iintro ⟨#Hc, ⟨HaS, HaR, HcS, HcR, HdS, HdR, HcR'⟩, HO⟩ Hk
  iapply (step_wait I K c (send b) rfl r hr 0 (O := O) hw₁ hm₁) $$ [HcS HO HaS]
  · isplitr; · iexact Hc
    isplitl [HcS]; · iexact HcS
    isplitl [HO]; · iexact HO
    iexact HaS
  iintro ⟨HO, HaS, #HrS, HpS⟩
  iapply (step_wait I K c (recv b) rfl r hr r (O := O) hw₂ hm₂) $$ [HcR HO HaR]
  · isplitr; · iexact Hc
    isplitl [HcR]; · iexact HcR
    isplitl [HO]; · iexact HO
    iexact HaR
  iintro ⟨HO, HaR, #HrR, HpR⟩
  iapply Hk
  isplitr [HO HpS HpR]
  · isplitl [HaS]; · iexact HaS
    isplitr; · iexact HrS
    isplitl [HaR]; · iexact HaR
    isplitl [HdS]; · iexact HdS
    isplitl [HdR]; · iexact HdR
    iexact HcR'
  isplitl [HO]; · iexact HO
  isplitr; · iexact HrR
  isplitl [HpS]; · iexact HpS
  iexact HpR

theorem cst_reached (b : Bool) (a : ℕ) : (cst b c a : sProp 𝕄) ⊢ iprop(cst b c a ∗ reached ER (cell (credit b) c) a) := by
  unfold cst
  iintro ⟨Ha, #Hr, H⟩
  isplitl
  · isplitl [Ha]; · iexact Ha
    isplitr; · iexact Hr
    iexact H
  iexact Hr

/-- A wait for a credit. -/
theorem credit_wait (b : Bool) (a : ℕ) (ha : a < 60) {O : CellTallies nD τ sig ℕ}
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (locOf (credit b)) 1 Kt)
    (hm : (levs : sProp 𝕄) ⊢ MayWait (c : Thread nD τ) (locOf (credit b)) a O)
    {kt : PUnit → Prog (TpuEff nD τ sig (Elt F) Λ₀ .tc) α} :
    iprop(ctx I K ∗ cst b c a ∗ oweE c O)
      ⊢ iprop(((cst b c (a + 1) ∗ oweE c O ∗ pay I (credit b) c a false)
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  unfold cst
  iintro ⟨#Hc, ⟨Ha, -, Hcr⟩, HO⟩ Hk
  ihave Hcr := (peel ha _) $$ Hcr
  icases Hcr with ⟨Hcr, Hcr'⟩
  iapply (step_wait I K c (credit b) rfl a ha a (O := O) hw hm) $$ [Hcr HO Ha]
  · isplitr; · iexact Hc
    isplitl [Hcr]; · iexact Hcr
    isplitl [HO]; · iexact HO
    iexact Ha
  iintro ⟨HO, Ha, #Hr, Hp⟩
  iapply Hk
  isplitr [HO Hp]
  · isplitl [Ha]; · iexact Ha
    isplitr; · iexact Hr
    iexact Hcr'
  isplitl [HO]; · iexact HO
  iexact Hp

/-- Both directions' waits for a credit, skipped at the first step, where the neighbour's buffers are already free. -/
theorem credit_gate (M : Bool → Memref sig .tc .vmem S128x4096 .i16) (s a a' r : ℕ) {P : Prop} [Decidable P] (hP : P ↔ 0 < s)
    (h0 : s = 0 → a' = a) (h1 : 0 < s → a < 60 ∧ a' = a + 1) (G : Bool → sProp (MT nD τ sig ℕ (Elt F) ℕ UU ℕ))
    (hG : ∀ b, s = 0 → G b ⊢ gate b c M r) (hp : ∀ b, 0 < s → pay I (credit b) c a false ⊢ gate b c M r)
    {O : CellTallies nD τ sig ℕ} {w₁ w₂ : TpuEff nD τ sig (Elt F) Λ₀ .tc PUnit}
    (hw₁ : ∀ Kt : PUnit → sProp 𝕄, wpE (defs₀ (F := F)) 𝒱₀ (c : Thread nD τ) none Set.univ w₁ Kt = waitSpec (c : Thread nD τ) Set.univ (locOf (credit false)) 1 Kt)
    (hw₂ : ∀ Kt : PUnit → sProp 𝕄, wpE (defs₀ (F := F)) 𝒱₀ (c : Thread nD τ) none Set.univ w₂ Kt = waitSpec (c : Thread nD τ) Set.univ (locOf (credit true)) 1 Kt)
    (hm : ∀ b, 0 < s → (levs : sProp 𝕄) ⊢ MayWait (c : Thread nD τ) (locOf (credit b)) a O)
    {β : Type} {rest : Prog (TpuEff nD τ sig (Elt F) Λ₀ .tc) β} {kt : β → Prog (TpuEff nD τ sig (Elt F) Λ₀ .tc) α} :
    iprop(ctx I K ∗ cst false c a ∗ cst true c a ∗ G false ∗ G true ∗ oweE c O)
      ⊢ iprop(((cst false c a' ∗ cst true c a' ∗ gate false c M r ∗ gate true c M r ∗ oweE c O)
            -∗ wp frame (wpE (defs₀ (F := F)) 𝒱₀ (c : Thread nD τ) none) Set.univ (rest >>= kt) Q)
          -∗ wp frame (wpE (defs₀ (F := F)) 𝒱₀ (c : Thread nD τ) none) Set.univ
              ((if _ : P then Prog.op w₁ fun _ => .op w₂ fun _ => rest else rest) >>= kt) Q) := by
  by_cases hs : 0 < s
  · obtain ⟨ha, rfl⟩ := h1 hs
    rw [dif_pos (hP.mpr hs)]
    simp only [Prog.bind_op]
    iintro ⟨#Hc, H1, H2, -, -, HO⟩ Hk
    iapply (credit_wait I K c false a ha hw₁ (hm false hs)) $$ [H1 HO]
    · isplitr; · iexact Hc
      isplitl [H1]; · iexact H1
      iexact HO
    iintro ⟨H1, HO, Hp1⟩
    iapply (credit_wait I K c true a ha hw₂ (hm true hs)) $$ [H2 HO]
    · isplitr; · iexact Hc
      isplitl [H2]; · iexact H2
      iexact HO
    iintro ⟨H2, HO, Hp2⟩
    iapply Hk
    isplitl [H1]; · iexact H1
    isplitl [H2]; · iexact H2
    isplitl [Hp1]; · iapply (hp false hs) $$ Hp1
    isplitl [Hp2]; · iapply (hp true hs) $$ Hp2
    iexact HO
  · have hs0 : s = 0 := by omega
    rw [h0 hs0, dif_neg (fun h => hs (hP.mp h))]
    iintro ⟨-, H1, H2, Hg1, Hg2, HO⟩ Hk
    iapply Hk
    isplitl [H1]; · iexact H1
    isplitl [H2]; · iexact H2
    isplitl [Hg1]; · iapply (hG false hs0) $$ Hg1
    isplitl [Hg2]; · iapply (hG true hs0) $$ Hg2
    iexact HO

/-- A credit given back. -/
theorem credit_give (b : Bool) (p : ℕ) (hp : p < 60) {sm : Sem sig} (hsm : SemLoc.reg sm = locOf (credit b)) {n : Dev nD} (hn : n = pred b c)
    {O' : CellTallies nD τ sig ℕ} (O : CellTallies nD τ sig ℕ) (hO : O' = O + tallyAt (cell (credit b) (pred b c)) p 1)
    {kt : PUnit → Prog (TpuEff nD τ sig (Elt F) Λ₀ .tc) α} :
    iprop(ctx I K ∗ pst b c p ∗ pay I (credit b) (pred b c) p false ∗ reached ER (cell (credit b) (pred b c)) p ∗ oweE c O')
      ⊢ iprop(((pst b c (p + 1) ∗ oweE c O)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) sm 1) kt) Q) := by
  subst hn
  unfold pst
  iintro ⟨#Hc, Ht, Hp, Hr, HO⟩ Hk
  ihave Ht := (peel hp _) $$ Ht
  icases Ht with ⟨Ht, Ht'⟩
  iapply (step_signal I K c (k := credit b) false (by simp [duts]) rfl (d := pred b c) hsm p p hp O hO) $$ [HO Ht Hp Hr]
  · isplitr; · iexact Hc
    isplitl [HO]; · iexact HO
    isplitl [Ht]; · iexact Ht
    isplitl [Hp]; · iexact Hp
    iexact Hr
  iintro HO
  iapply Hk
  isplitl [Ht']; · iexact Ht'
  iexact HO

/-- A load reads what the buffer is owned at. -/
theorem load_own {sp : Space} {cs : CoreSpace} {s : Shape} {e : EltTy} {m : Memref sig .tc cs s e} {r : LoadRect s} {hl : m.view.LoadsAt r}
    {X : s.Idx → Elt F e} {kt : (r.shape.Idx → Elt F e) → Prog (TpuEff nD τ sig (Elt F) Λ₀ .tc) α} :
    (own c m X : sProp 𝕄)
      ⊢ iprop((own c m X -∗ wp frame (wpE (defs₀ (F := F)) 𝒱₀ (c : Thread nD τ) none) Set.univ (kt (fun x => X (r.idx x))) Q)
        -∗ wp frame (wpE (defs₀ (F := F)) 𝒱₀ (c : Thread nD τ) none) Set.univ (.op (.load m r hl) kt) Q) :=
  OwnsRules.wp_load_owns 𝒱₀ (c : Thread nD τ) none

/-- A block the kernel loads whole. -/
theorem whole_idx (h : ∀ a, (![0, 0] : Fin 2 → ℕ) a + S128x4096.size a ≤ S128x4096.size a) (x : S128x4096.Idx) :
    (Rect.unit (s := S128x4096) ![0, 0] S128x4096.size h).toLoadRect.idx x = x := by
  funext a; apply Fin.ext
  show (![0, 0] : Fin 2 → ℕ) a + 1 * (x a).val = (x a).val
  match a with
  | 0 => show 0 + 1 * _ = _; omega
  | 1 => show 0 + 1 * _ = _; omega

theorem load_block {m : Memref sig .tc .vmem S128x4096 .i16} {h : ∀ a, (![0, 0] : Fin 2 → ℕ) a + S128x4096.size a ≤ S128x4096.size a}
    {hl : m.view.LoadsAt (Rect.unit (s := S128x4096) ![0, 0] S128x4096.size h).toLoadRect}
    {X : S128x4096.Idx → Elt F .i16} {kt : (S128x4096.Idx → Elt F .i16) → Prog (TpuEff nD τ sig (Elt F) Λ₀ .tc) α} :
    (own c m X : sProp 𝕄)
      ⊢ iprop((own c m X -∗ wp frame (wpE (defs₀ (F := F)) 𝒱₀ (c : Thread nD τ) none) Set.univ (kt X) Q)
        -∗ wp frame (wpE (defs₀ (F := F)) 𝒱₀ (c : Thread nD τ) none) Set.univ (.op (.load m (Rect.unit (s := S128x4096) ![0, 0] S128x4096.size h).toLoadRect hl) kt) Q) := by
  have h' := load_own (sp := .vmem) c (Q := Q) (m := m) (hl := hl) (X := X) (kt := kt)
  rw [show (fun x => X ((Rect.unit (s := S128x4096) ![0, 0] S128x4096.size h).toLoadRect.idx x)) = X from funext fun x => congrArg X (whole_idx h x)] at h'
  exact h'

/-- and stores whole. -/
theorem store_block {m : Memref sig .tc .vmem S128x4096 .i16} {h : ∀ a, (![0, 0] : Fin 2 → ℕ) a + S128x4096.size a ≤ S128x4096.size a}
    {w X : S128x4096.Idx → Elt F .i16} {hx : (m.access (Rect.unit (s := S128x4096) ![0, 0] S128x4096.size h)).Stores Finset.univ} {hm}
    {kt : PUnit → Prog (TpuEff nD τ sig (Elt F) Λ₀ .tc) α} :
    (own c m X : sProp 𝕄)
      ⊢ iprop((own c m w -∗ wp frame (wpE (defs₀ (F := F)) 𝒱₀ (c : Thread nD τ) none) Set.univ (kt ⟨⟩) Q)
        -∗ wp frame (wpE (defs₀ (F := F)) 𝒱₀ (c : Thread nD τ) none) Set.univ
            (.op (.store m (Rect.unit (s := S128x4096) ![0, 0] S128x4096.size h) w Finset.univ hx hm) kt) Q) :=
  OwnsRules.wp_store_owns_whole 𝒱₀ (c : Thread nD τ) none (by funext a; match a with | 0 => rfl | 1 => rfl)

end Cert.Proof.KernelIdealRun

end
-- ==== Proof.KernelIdealRs.lean ====
/-
  The reduce-scatter: a trip of its loop takes both directions' partial sums one place on.
-/
module

public import proofs.«01_k».proof.Proof.KernelIdealRounds
public import proofs.«01_k».proof.Proof.Gen.KernelIdeal.Skeleton
public import proofs.«01_k».proof.Proof.Gen.KernelIdeal.Loops

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kind

variable {F : FTy → Type} [FloatOps F]

local notation "𝕄" => MT nD τ sig ℕ (Elt F) ℕ UU ℕ

theorem sem11_0 : ((SemArray.slice cc0_scratch11 (Rect.unit (s := S2) ![0] S1.size inb_S2_S1_0)).squeeze S_ squeezes_S1_S_).sem = (4 : Fin 20) := rfl
theorem sem11_1 : ((SemArray.slice cc0_scratch11 (Rect.unit (s := S2) ![1] S1.size inb_S2_S1_1)).squeeze S_ squeezes_S1_S_).sem = (5 : Fin 20) := rfl
theorem sem12_0 : ((SemArray.slice cc0_scratch12 (Rect.unit (s := S2) ![0] S1.size inb_S2_S1_0)).squeeze S_ squeezes_S1_S_).sem = (6 : Fin 20) := rfl
theorem sem12_1 : ((SemArray.slice cc0_scratch12 (Rect.unit (s := S2) ![1] S1.size inb_S2_S1_1)).squeeze S_ squeezes_S1_S_).sem = (7 : Fin 20) := rfl
theorem sem15_0 : ((SemArray.slice cc0_scratch15 (Rect.unit (s := S2) ![0] S1.size inb_S2_S1_0)).squeeze S_ squeezes_S1_S_).sem = (8 : Fin 20) := rfl
theorem sem15_1 : ((SemArray.slice cc0_scratch15 (Rect.unit (s := S2) ![1] S1.size inb_S2_S1_1)).squeeze S_ squeezes_S1_S_).sem = (9 : Fin 20) := rfl
theorem sem13 : SemArray.sem cc0_scratch13 = (0 : Fin 3) := rfl
theorem sem14 : SemArray.sem cc0_scratch14 = (1 : Fin 3) := rfl
theorem one_toInt : (1#32).toInt = 1 := by decide

theorem acc_credit (b : Bool) : (accM b).view.dmaCredit = NE := by cases b <;> rfl
theorem recv_credit (b : Bool) : (recvM b).view.dmaCredit = NE := by cases b <;> rfl
theorem ags_credit (b : Bool) : (agsM b).view.dmaCredit = NE := by cases b <;> rfl
theorem agr_credit (b : Bool) : (agrM b).view.dmaCredit = NE := by cases b <;> rfl

/-- The block of `x`, -/
abbrev xM : Memref sig .tc .vmem S4096x128 .bf16 := Memref.whole cc0_stg2_0
/-- and of the scaled `w`. -/
abbrev wM : Memref sig .tc .vmem S128x8192 .bf16 := Memref.whole cc0_stg3_0

/-- The loop's body on the buffers the kernel is called with. -/
abbrev t1B (v0 : Elt F .i32) (h3 : k0_chk3 v0) (v1 : Elt F .i32) (h2 : k0_chk2 v1) (v2 : Elt F .i32) (h1 : k0_chk1 v2) (v28 : IVec S128x4096 16) :
    Fin k0_t1_loop.trips → Unit → Prog (TpuEff nD τ sig (Elt F) Λ₀ .tc) Unit :=
  k0_t1_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v31) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 v0 h3 v1 h2 v2 h1 v28

variable (I : Ins F) (K : GSem nD τ sig → ℕ) (c : Dev nD) {α : Type} {Q : α → sProp (MT nD τ sig ℕ (Elt F) ℕ UU ℕ)}

/-- A load of rows of `x`, -/
theorem load_x {off : Fin 2 → ℕ} {h : ∀ a, off a + S128x128.size a ≤ S4096x128.size a}
    {hl : (xM).view.LoadsAt (Rect.unit (s := S4096x128) off S128x128.size h).toLoadRect}
    {kt : (S128x128.Idx → Elt F .bf16) → Prog (TpuEff nD τ sig (Elt F) Λ₀ .tc) α} :
    (own c xM (I.x c) : sProp 𝕄)
      ⊢ iprop((own c xM (I.x c) -∗ wp frame (wpE (defs₀ (F := F)) 𝒱₀ (c : Thread nD τ) none) Set.univ (kt (rows I c off h)) Q)
        -∗ wp frame (wpE (defs₀ (F := F)) 𝒱₀ (c : Thread nD τ) none) Set.univ (.op (.load xM (Rect.unit (s := S4096x128) off S128x128.size h).toLoadRect hl) kt) Q) :=
  load_own (sp := .vmem) c (Q := Q) (m := xM) (hl := hl) (X := I.x c) (kt := kt)

/-- of the left half of `w`, -/
theorem load_wl {hl : (wM).view.LoadsAt (Rect.unit (s := S128x8192) ![0, 0] S128x4096.size inb_S128x8192_S128x4096_0_0).toLoadRect}
    {kt : (S128x4096.Idx → Elt F .bf16) → Prog (TpuEff nD τ sig (Elt F) Λ₀ .tc) α} :
    (own c wM (I.w c) : sProp 𝕄)
      ⊢ iprop((own c wM (I.w c) -∗ wp frame (wpE (defs₀ (F := F)) 𝒱₀ (c : Thread nD τ) none) Set.univ (kt (wl I c)) Q)
        -∗ wp frame (wpE (defs₀ (F := F)) 𝒱₀ (c : Thread nD τ) none) Set.univ (.op (.load wM (Rect.unit (s := S128x8192) ![0, 0] S128x4096.size inb_S128x8192_S128x4096_0_0).toLoadRect hl) kt) Q) :=
  load_own (sp := .vmem) c (Q := Q) (m := wM) (hl := hl) (X := I.w c) (kt := kt)

/-- and of the right. -/
theorem load_wr {hl : (wM).view.LoadsAt (Rect.unit (s := S128x8192) ![0, 4096] S128x4096.size inb_S128x8192_S128x4096_0_4096).toLoadRect}
    {kt : (S128x4096.Idx → Elt F .bf16) → Prog (TpuEff nD τ sig (Elt F) Λ₀ .tc) α} :
    (own c wM (I.w c) : sProp 𝕄)
      ⊢ iprop((own c wM (I.w c) -∗ wp frame (wpE (defs₀ (F := F)) 𝒱₀ (c : Thread nD τ) none) Set.univ (kt (wr I c)) Q)
        -∗ wp frame (wpE (defs₀ (F := F)) 𝒱₀ (c : Thread nD τ) none) Set.univ (.op (.load wM (Rect.unit (s := S128x8192) ![0, 4096] S128x4096.size inb_S128x8192_S128x4096_0_4096).toLoadRect hl) kt) Q) :=
  load_own (sp := .vmem) c (Q := Q) (m := wM) (hl := hl) (X := I.w c) (kt := kt)

/-- The landing buffer of the reduce-scatter: the neighbour's is free at first, the own one comes back at the end. -/
def rsGate (b : Bool) (s : ℕ) : sProp 𝕄 :=
  if s = 0 then gate b c recvM 0 else if s = 31 then iprop(anyOwns c (recvM b) ∗ reached ER (cell (recv b) c) 31) else iprop(emp)

/-- One direction at a step. -/
def rsDir (b : Bool) (s : ℕ) : sProp 𝕄 :=
  iprop(own c (accM b) (acc I b s c) ∗ tst b c s ∗ cst b c (s - 1) ∗ pst b c (min s 30) ∗ rsGate c b s)

/-- The slots for the maxima, travelling with the second direction. -/
def rsSlots (s : ℕ) : sProp 𝕄 := bigSep Finset.univ fun k : Fin 5 => slotPay k (hop c (min s (2 ^ k.val)))

/-- The loop's invariant. -/
def rsI (s : ℕ) : sProp 𝕄 :=
  iprop(own c xM (I.x c) ∗ own c wM (I.w c) ∗ rsDir I c false s ∗ rsDir I c true s ∗ rsSlots c s
    ∗ oweE c (OW c s s (min s 30) (min s 30) 0))

/-- The slots that stay with a device during a step. -/
def rsKept (s : ℕ) : sProp 𝕄 := bigSep Finset.univ fun k : Fin 5 => if s < 2 ^ k.val then iprop(emp) else slotPay k (hop c (2 ^ k.val))

theorem rsSlots_split (s : ℕ) : (rsSlots c s : sProp 𝕄) ⊢ iprop(route s (succ true c) ∗ rsKept c s) := by
  have key : ∀ k : Fin 5, (slotPay k (hop c (min s (2 ^ k.val))) : sProp 𝕄)
      ⊢ iprop((if s < 2 ^ k.val then slotPay k (hop (succ true c) (s + 1)) else iprop(emp))
        ∗ (if s < 2 ^ k.val then iprop(emp) else slotPay k (hop c (2 ^ k.val)))) := by
    intro k
    by_cases h : s < 2 ^ k.val
    · rw [if_pos h, if_pos h, min_eq_left h.le, show hop (succ true c) (s + 1) = hop c s from by
        show hop (hop c 31) (s + 1) = hop c s
        rw [hop_hop]; exact hop_congr c (by omega)]
      iintro H
      isplitl [H]; · iexact H
      iempintro
    · rw [if_neg h, if_neg h, min_eq_right (by omega)]
      iintro H
      isplitr; · iempintro
      iexact H
  unfold rsSlots route rsKept
  have h2 := BI.bigSep_mono (s := Finset.univ) fun k _ => key k
  refine BIBase.Entails.trans h2 ?_
  rw [BI.bigSep_sep']

theorem rsSlots_join (s : ℕ) : iprop(route s c ∗ rsKept c s) ⊢ (rsSlots c (s + 1) : sProp 𝕄) := by
  have key : ∀ k : Fin 5, iprop((if s < 2 ^ k.val then slotPay k (hop c (s + 1)) else iprop(emp))
        ∗ (if s < 2 ^ k.val then iprop(emp) else slotPay k (hop c (2 ^ k.val))))
      ⊢ (slotPay k (hop c (min (s + 1) (2 ^ k.val))) : sProp 𝕄) := by
    intro k
    by_cases h : s < 2 ^ k.val
    · rw [if_pos h, if_pos h, min_eq_left (by omega)]
      iintro ⟨H, -⟩
      iexact H
    · rw [if_neg h, if_neg h, min_eq_right (by omega)]
      iintro ⟨-, H⟩
      iexact H
  unfold rsSlots route rsKept
  have h2 := BI.bigSep_mono (s := Finset.univ) fun k _ => key k
  refine BIBase.Entails.trans ?_ h2
  rw [BI.bigSep_sep']

theorem dev_eq {n : ℕ} {d : Dev nD} (h : n = d.val) (hn : n < nD) : (⟨n, hn⟩ : Dev nD) = d := Fin.ext h

/-- What a transfer of the reduce-scatter takes with it. -/
def rsR (b : Bool) (s : ℕ) : sProp 𝕄 :=
  iprop(reached ER (cell (credit b) c) s ∗ (if b then route s (succ b c) else iprop(emp)))

theorem rs_pay_send (b : Bool) {s : ℕ} (hs : s < 31) : own c (accM b) (acc I b s c) ⊢ pay I (send b) c s false := by
  show _ ⊢ (if s ≤ 30 then own c (accM b) (acc I b s c) else own c (agsM b) (ag I b (s - 31) c))
  rw [if_pos (by omega)]

theorem rs_pay_recv (b : Bool) {s : ℕ} (hs : s < 31) :
    iprop(own (succ b c) (recvM b) (acc I b s c) ∗ rsR c b s) ⊢ pay I (recv b) (succ b c) s false := by
  show _ ⊢ (if s ≤ 30 then iprop(own (succ b c) (recvM b) (acc I b s (pred b (succ b c))) ∗ reached ER (cell (credit b) (pred b (succ b c))) s
        ∗ (if b then route s (succ b c) else iprop(emp))) else _)
  rw [if_pos (by omega), pred_succ]
  unfold rsR
  exact .rfl

theorem rs_payload_send (b : Bool) {s : ℕ} (hs : s < 31) : pay I (send b) c s false ⊢ own c (accM b) (acc I b s c) := by
  show (if s ≤ 30 then own c (accM b) (acc I b s c) else own c (agsM b) (ag I b (s - 31) c)) ⊢ _
  rw [if_pos (by omega)]

theorem rs_payload_recv (b : Bool) {s : ℕ} (hs : s < 31) : pay I (recv b) c s false
    ⊢ iprop(own c (recvM b) (acc I b s (pred b c)) ∗ reached ER (cell (credit b) (pred b c)) s
        ∗ (if b then route s c else iprop(emp))) := by
  show (if s ≤ 30 then iprop(own c (recvM b) (acc I b s (pred b c)) ∗ reached ER (cell (credit b) (pred b c)) s
        ∗ (if b then route s c else iprop(emp))) else _) ⊢ _
  rw [if_pos (by omega)]

theorem rs_pay_credit (b : Bool) {s : ℕ} (hs : s < 30) :
    iprop(anyOwns c (recvM b) ∗ reached ER (cell (recv b) c) (s + 1)) ⊢ pay I (credit b) (pred b c) s false := by
  show _ ⊢ (if s ≤ 29 then iprop(anyOwns (succ b (pred b c)) (recvM b) ∗ reached ER (cell (recv b) (succ b (pred b c))) (s + 1)) else _)
  rw [if_pos (by omega), succ_pred]

theorem rs_payload_credit (b : Bool) {s : ℕ} (h0 : 0 < s) (hs : s < 31) : pay I (credit b) c (s - 1) false ⊢ gate b c recvM s := by
  show (if s - 1 ≤ 29 then iprop(anyOwns (succ b c) (recvM b) ∗ reached ER (cell (recv b) (succ b c)) (s - 1 + 1)) else _) ⊢ _
  rw [if_pos (by omega), Nat.sub_add_cancel h0]
  exact .rfl

theorem any_of_own (d : Dev nD) {sp : Space} {s : Shape} {e : EltTy} (m : Memref sig .tc sp s e) (X : s.Idx → Elt F e) :
    own d m X ⊢ (anyOwns d m : sProp 𝕄) := by
  unfold own anyOwns
  iintro H
  iexists X; iexact H

theorem acc_next0 (t : Fin k0_t1_loop.trips) (h : ∀ a, k0_off2 (posW c) t a + S128x128.size a ≤ S4096x128.size a) :
    k0_pay3 (k0_pay1 (rows I c (k0_off2 (posW c) t) h) (wl I c)) (acc I false t.val (pred false c)) = acc I false (t.val + 1) c := by
  have ht : t.val < 31 := lt_of_lt_of_eq t.isLt trips1
  rw [rows_congr I c (show k0_off2 (posW c) t = ![128 * (plc c (63 - t.val)).val, 0] by
    rw [off2_eq, show (plc c (63 - t.val)).val = ((iv c).val + 63 - t.val) % 32 by show ((iv c).val + (63 - t.val)) % 32 = _; congr 1; omega]) h (rows_inb (plc c (63 - t.val)).isLt)]
  rfl

theorem acc_next1 (t : Fin k0_t1_loop.trips) (h : ∀ a, k0_off3 (posW c) t a + S128x128.size a ≤ S4096x128.size a) :
    k0_pay4 (k0_pay2 (rows I c (k0_off3 (posW c) t) h)) (wr I c) (acc I true t.val (pred true c)) = acc I true (t.val + 1) c := by
  rw [rows_congr I c (show k0_off3 (posW c) t = ![128 * (plc c (1 + t.val)).val, 0] by
    rw [off3_eq, show (plc c (1 + t.val)).val = ((iv c).val + 1 + t.val) % 32 by show ((iv c).val + (1 + t.val)) % 32 = _; congr 1; omega]) h (rows_inb (plc c (1 + t.val)).isLt)]
  rfl

theorem own_congr (d : Dev nD) {sp : Space} {s : Shape} {e : EltTy} (m : Memref sig .tc sp s e) {X Y : s.Idx → Elt F e} (h : X = Y) :
    (own d m X : sProp 𝕄) ⊢ own d m Y := by rw [h]

/-- The waits of the reduce-scatter are below what is owed. -/
theorem rs_may {k : Kind} {ι a a' p p' : ℕ} (n : ℕ) (hι : ι < 64) (hn : levOf (some k) ι ≤ n)
    (h₁ : a ≤ 30 → n < 2 * a + 2) (h₁' : a' ≤ 30 → n < 2 * a' + 2) (h₂ : p ≤ 29 → n < 2 * p + 3) (h₂' : p' ≤ 29 → n < 2 * p' + 3) (h₃ : n < 70) :
    (levs : sProp 𝕄) ⊢ MayWait (c : Thread nD τ) (locOf k) ι (OW c a a' p p' 0) := by
  refine mayWait_OW n _ _ hι (by rw [show lv ((c : Thread nD τ), locOf k) ι = levOf (some k) ι from lv_cell k c ι]; exact hn) ?_ ?_ ?_ ?_ (fun _ => by omega)
  all_goals intro _; simp only [levOf]; split <;> omega

theorem rs_last (b : Bool) {s : ℕ} (h : s = 31) : iprop(anyOwns c (recvM b) ∗ reached ER (cell (recv b) c) s)
    ⊢ (iprop(anyOwns c (recvM b) ∗ reached ER (cell (recv b) c) 31) : sProp 𝕄) := by rw [h]

set_option maxHeartbeats 1000000 in
theorem rs_body (h3 : k0_chk3 (posW c)) (h2 : k0_chk2 (devW (succ false c))) (h1 : k0_chk1 (devW (succ true c)))
    (v28 : IVec S128x4096 16) (t : Fin k0_t1_loop.trips) (u : Unit) :
    iprop(ctx I K ∗ rsI I c t.val)
      ⊢ wp frame (wpE (defs₀ (F := F)) 𝒱₀ (c : Thread nD τ) none) Set.univ
          (t1B (posW c) h3 (devW (succ false c)) h2 (devW (succ true c)) h1 v28 t u) (fun _ => rsI I c (t.val + 1)) := by
  have ht : t.val < 31 := lt_of_lt_of_eq t.isLt trips1
  unfold t1B k0_t1_body
  simp only [k0_part1_eq_skeleton, k0_part2_eq_skeleton, k0_part1_skel, k0_part2_skel, semSignalWord, semWaitWord, Prog.lift, Prog.bind_op, Prog.bind_ret, Prog.pure_eq_ret, Prog.bind_assoc, sem11_0, sem11_1, sem12_0, sem12_1, sem13, sem14, one_toInt]
  unfold rsI rsDir
  iintro ⟨#Hc, Hx, Hw, ⟨A0, T0, C0, P0, G0⟩, ⟨A1, T1, C1, P1, G1⟩, Hs, HO⟩
  iapply (credit_gate I K c recvM t.val (t.val - 1) t.val t.val (cond1_iff t) (fun h => by omega) (fun h => ⟨by omega, by omega⟩)
      (fun b => rsGate c b t.val) (fun b h => by show rsGate c b t.val ⊢ _; unfold rsGate; rw [if_pos h, h])
      (fun b h => rs_payload_credit I c b h ht)
      (wpE_semWait_eq 𝒱₀ (c : Thread nD τ) none Set.univ) (wpE_semWait_eq 𝒱₀ (c : Thread nD τ) none Set.univ)
      (fun b h => rs_may c (k := credit b) (2 * t.val + 1) (by omega) (by simp only [levOf]; split <;> omega)
        (by omega) (by omega) (by omega) (by omega) (by omega)) (O := OW c t.val t.val (min t.val 30) (min t.val 30) 0))
    $$ [C0 C1 G0 G1 HO]
  · isplitr; · iexact Hc
    isplitl [C0]; · iexact C0
    isplitl [C1]; · iexact C1
    isplitl [G0]; · iexact G0
    isplitl [G1]; · iexact G1
    iexact HO
  iintro ⟨C0, C1, G0, G1, HO⟩
  simp only [Prog.bind_op, Prog.bind_ret]
  ihave Hs := (rsSlots_split c t.val) $$ Hs
  icases Hs with ⟨Hrt, Hkept⟩
  ihave C0 := (cst_reached c false t.val) $$ C0
  icases C0 with ⟨C0, #R0⟩
  ihave C1 := (cst_reached c true t.val) $$ C1
  icases C1 with ⟨C1, #R1⟩
  iapply (ring_send I K c false t.val (by omega) (sm := (4 : Fin 20)) (rm := (6 : Fin 20)) rfl rfl (dev_eq (dev3_val _) _) (M := recvM) rfl (X := acc I false t.val c) (R := rsR c false t.val) (src := accM false) (dst := recvM false) (recv_credit false)
      (OW c (t.val + 1) t.val (min t.val 30) (min t.val 30) 0) (OW_a₁ c (by omega)) (rs_pay_send I c false ht) (rs_pay_recv I c false ht)) $$ [T0 A0 G0 HO]
  · isplitr; · iexact Hc
    isplitl [T0]; · iexact T0
    isplitl [A0]; · iexact A0
    isplitl [G0]; · iexact G0
    isplitr
    · unfold rsR
      isplitr; · iexact R0
      simp only [Bool.false_eq_true, if_false]
      iempintro
    iexact HO
  iintro ⟨T0, HO⟩
  iapply (ring_send I K c true t.val (by omega) (sm := (5 : Fin 20)) (rm := (7 : Fin 20)) rfl rfl (dev_eq (dev4_val _) _) (M := recvM) rfl (X := acc I true t.val c) (R := rsR c true t.val) (src := accM true) (dst := recvM true) (recv_credit true)
      (OW c (t.val + 1) (t.val + 1) (min t.val 30) (min t.val 30) 0) (OW_a₂ c (by omega)) (rs_pay_send I c true ht) (rs_pay_recv I c true ht)) $$ [T1 A1 G1 Hrt HO]
  · isplitr; · iexact Hc
    isplitl [T1]; · iexact T1
    isplitl [A1]; · iexact A1
    isplitl [G1]; · iexact G1
    isplitl [Hrt]
    · unfold rsR
      isplitr; · iexact R1
      simp only [if_true]
      iexact Hrt
    iexact HO
  iintro ⟨T1, HO⟩
  iapply (load_x I c) $$ Hx
  iintro Hx
  iapply (load_wl I c) $$ Hw
  iintro Hw
  iapply (load_x I c) $$ Hx
  iintro Hx
  iapply (load_wr I c) $$ Hw
  iintro Hw
  iapply (ring_waits I K c false t.val (by omega) (O := OW c (t.val + 1) (t.val + 1) (min t.val 30) (min t.val 30) 0)
      (sm := (4 : Fin 20)) (rm := (6 : Fin 20)) rfl rfl (p := recvM false) (p' := accM false) (q := accM false) (q' := recvM false) (acc_credit false) (recv_credit false)
      (rs_may c (k := send false) 0 (by omega) (by simp only [levOf]; omega) (by omega) (by omega) (by omega) (by omega) (by omega))
      (rs_may c (k := recv false) (2 * t.val + 2) (by omega) (by simp only [levOf]; split <;> omega) (by omega) (by omega) (by omega) (by omega) (by omega))) $$ [T0 HO]
  · isplitr; · iexact Hc
    isplitl [T0]; · iexact T0
    iexact HO
  iintro ⟨T0, HO, #RR0, S0, V0⟩
  iapply (ring_waits I K c true t.val (by omega) (O := OW c (t.val + 1) (t.val + 1) (min t.val 30) (min t.val 30) 0)
      (sm := (5 : Fin 20)) (rm := (7 : Fin 20)) rfl rfl (p := recvM true) (p' := accM true) (q := accM true) (q' := recvM true) (acc_credit true) (recv_credit true)
      (rs_may c (k := send true) 0 (by omega) (by simp only [levOf]; omega) (by omega) (by omega) (by omega) (by omega) (by omega))
      (rs_may c (k := recv true) (2 * t.val + 2) (by omega) (by simp only [levOf]; split <;> omega) (by omega) (by omega) (by omega) (by omega) (by omega))) $$ [T1 HO]
  · isplitr; · iexact Hc
    isplitl [T1]; · iexact T1
    iexact HO
  iintro ⟨T1, HO, #RR1, S1, V1⟩
  ihave S0 := (rs_payload_send I c false ht) $$ S0
  ihave S1 := (rs_payload_send I c true ht) $$ S1
  ihave V0 := (rs_payload_recv I c false ht) $$ V0
  ihave V1 := (rs_payload_recv I c true ht) $$ V1
  icases V0 with ⟨V0, #CR0, -⟩
  icases V1 with ⟨V1, #CR1, Hrt⟩
  iapply (load_block c) $$ V0
  iintro V0
  iapply (load_block c) $$ S0
  iintro S0
  iapply (store_block c) $$ S0
  iintro S0
  iapply (load_block c) $$ V1
  iintro V1
  iapply (load_block c) $$ S1
  iintro S1
  iapply (store_block c) $$ S1
  iintro S1
  ihave S0 := (own_congr c (accM false) (acc_next0 I c t (k0_off2_inb (posW c) h3 t))) $$ S0
  ihave S1 := (own_congr c (accM true) (acc_next1 I c t (k0_off3_inb (posW c) h3 t))) $$ S1
  ihave V0 := (any_of_own c (recvM false) _) $$ V0
  ihave V1 := (any_of_own c (recvM true) _) $$ V1
  simp only [if_true]
  ihave Hs := (rsSlots_join c t.val) $$ [Hrt Hkept]
  · isplitl [Hrt]; · iexact Hrt
    iexact Hkept
  by_cases hl : t.val < 30
  · rw [dif_pos ((cond2_iff t).mpr hl)]
    rw [show min t.val 30 = t.val by omega, show min (t.val + 1) 30 = t.val + 1 by omega]
    iapply (credit_give I K c false t.val (by omega) (sm := (0 : Fin 3)) rfl (dev_eq (dev5_val _) _) (OW c (t.val + 1) (t.val + 1) (t.val + 1) t.val 0) (OW_b₁ c (by omega))) $$ [P0 V0 HO]
    · isplitr; · iexact Hc
      isplitl [P0]; · iexact P0
      isplitl [V0]
      · iapply (rs_pay_credit I c false hl)
        isplitl [V0]; · iexact V0
        iexact RR0
      isplitr; · iexact CR0
      iexact HO
    iintro ⟨P0, HO⟩
    iapply (credit_give I K c true t.val (by omega) (sm := (1 : Fin 3)) rfl (dev_eq (dev6_val _) _) (OW c (t.val + 1) (t.val + 1) (t.val + 1) (t.val + 1) 0) (OW_b₂ c (by omega))) $$ [P1 V1 HO]
    · isplitr; · iexact Hc
      isplitl [P1]; · iexact P1
      isplitl [V1]
      · iapply (rs_pay_credit I c true hl)
        isplitl [V1]; · iexact V1
        iexact RR1
      isplitr; · iexact CR1
      iexact HO
    iintro ⟨P1, HO⟩
    rw [wp_ret]; imodintro
    unfold rsGate
    rw [if_neg (by omega), if_neg (by omega), if_neg (by omega), if_neg (by omega)]
    isplitl [Hx]; · iexact Hx
    isplitl [Hw]; · iexact Hw
    isplitl [S0 T0 C0 P0]
    · isplitl [S0]; · iexact S0
      isplitl [T0]; · iexact T0
      isplitl [C0]; · iexact C0
      isplitl [P0]; · iexact P0
      iempintro
    isplitl [S1 T1 C1 P1]
    · isplitl [S1]; · iexact S1
      isplitl [T1]; · iexact T1
      isplitl [C1]; · iexact C1
      isplitl [P1]; · iexact P1
      iempintro
    isplitl [Hs]; · iexact Hs
    iexact HO
  · rw [dif_neg (fun h => hl ((cond2_iff t).mp h))]
    rw [show min t.val 30 = 30 by omega, show min (t.val + 1) 30 = 30 by omega]
    ihave V0 := (rs_last c false (show t.val + 1 = 31 by omega)) $$ [V0]
    · isplitl [V0]; · iexact V0
      iexact RR0
    ihave V1 := (rs_last c true (show t.val + 1 = 31 by omega)) $$ [V1]
    · isplitl [V1]; · iexact V1
      iexact RR1
    rw [wp_ret]; imodintro
    unfold rsGate
    rw [if_neg (by omega), if_pos (by omega), if_neg (by omega), if_pos (by omega)]
    isplitl [Hx]; · iexact Hx
    isplitl [Hw]; · iexact Hw
    isplitl [S0 T0 C0 P0 V0]
    · isplitl [S0]; · iexact S0
      isplitl [T0]; · iexact T0
      isplitl [C0]; · iexact C0
      isplitl [P0]; · iexact P0
      iexact V0
    isplitl [S1 T1 C1 P1 V1]
    · isplitl [S1]; · iexact S1
      isplitl [T1]; · iexact T1
      isplitl [C1]; · iexact C1
      isplitl [P1]; · iexact P1
      iexact V1
    isplitl [Hs]; · iexact Hs
    iexact HO

end Cert.Proof.KernelIdealRun

end
-- ==== Proof.KernelIdealStore.lean ====
/-
  Storing a rounded block: it is written to the staging buffer, copied from there to its chunk of the result, and the copy
  is waited for.
-/
module

public import proofs.«01_k».proof.Proof.KernelIdealRs

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kind

variable {F : FTy → Type} [FloatOps F]

local notation "𝕄" => MT nD τ sig ℕ (Elt F) ℕ UU ℕ

variable (I : Ins F) (K : GSem nD τ sig → ℕ) (c : Dev nD) {α : Type} {Q : α → sProp (MT nD τ sig ℕ (Elt F) ℕ UU ℕ)}

/-- One more round at the end of a range. -/
theorem unpeel (n : ℕ) (A : ℕ → sProp (MT nD τ sig ℕ (Elt F) ℕ UU ℕ)) :
    iprop(bigSep (Finset.Ico 0 n) A ∗ A n) ⊢ bigSep (Finset.Ico 0 (n + 1)) A := by
  rw [show Finset.Ico 0 (n + 1) = insert n (Finset.Ico 0 n) by ext x; simp only [Finset.mem_Ico, Finset.mem_insert]; omega,
    BI.bigSep_insert (by rw [Finset.mem_Ico]; omega)]
  have h : iprop(bigSep (Finset.Ico 0 n) A ∗ A n) ⊢ iprop(A n ∗ bigSep (Finset.Ico 0 n) A) := by
    iintro ⟨H1, H2⟩
    isplitl [H2]; · iexact H2
    iexact H1
  exact h

/-- The staging buffer. -/
abbrev stageM : Memref sig .tc .vmem S2x128x4096 .bf16 := Memref.whole cc0_scratch8

/-- A stream's store cell at round `r`, -/
def sst (b : Bool) (r : ℕ) : sProp 𝕄 :=
  iprop(atPos ER (cell (store b) c) r ∅ 0 ∗ reached ER (cell (store b) c) r ∗ bigSep (Finset.Ico r 32) fun r => dutyTok ER (cell (store b) c) r false)
/-- and while a copy is on its way. -/
def smid (b : Bool) (r : ℕ) : sProp 𝕄 :=
  iprop(atPos ER (cell (store b) c) r ∅ 0 ∗ cred (tallyAt (cell (store b) c) 0 NQ) ∗ bigSep (Finset.Ico (r + 1) 32) fun r => dutyTok ER (cell (store b) c) r false)

/-- A half of the staging buffer at a block, as copied. -/
theorem own_stage (b : Bool) (w : S1x128x4096.Idx → Elt F .bf16) :
    (own c (qM b) (fun j => w (Shape.reshapeEquiv squeezes_S1x128x4096_S128x4096.numel_eq j)) : sProp 𝕄) = owns (c : Thread nD τ) (qS b) fullShare w :=
  OwnsRules.owns_squeeze (Val := Elt F) (c : Thread nD τ) (qS b) S128x4096 squeezes_S1x128x4096_S128x4096 fullShare w

theorem stage_any (b : Bool) : (anyOwns c (qM b) : sProp 𝕄) ⊢ iprop(∃ X, owns (c : Thread nD τ) (qS b) fullShare X) := by
  unfold anyOwns
  iintro ⟨%X, H⟩
  have e : X = fun j => (fun i => X ((Shape.reshapeEquiv squeezes_S1x128x4096_S128x4096.numel_eq).symm i)) (Shape.reshapeEquiv squeezes_S1x128x4096_S128x4096.numel_eq j) := by
    funext j
    show X j = X ((Shape.reshapeEquiv squeezes_S1x128x4096_S128x4096.numel_eq).symm (Shape.reshapeEquiv squeezes_S1x128x4096_S128x4096.numel_eq j))
    rw [Equiv.symm_apply_apply]
  iexists (fun i => X ((Shape.reshapeEquiv squeezes_S1x128x4096_S128x4096.numel_eq).symm i))
  rw [← own_stage c b, ← e, own_eq]
  iexact H

/-- Writing a block to the staging buffer, after a load whose value is not used. -/
theorem stage_fill (b : Bool) {off : Fin 3 → ℕ} (ho : off = ![cond b 1 0, 0, 0]) {inb : ∀ a, off a + S1x128x4096.size a ≤ S2x128x4096.size a}
    {hl : (stageM).view.LoadsAt (Rect.unit (s := S2x128x4096) off S1x128x4096.size inb).toLoadRect}
    {w : S1x128x4096.Idx → Elt F .bf16} {hx : ((stageM).access (Rect.unit (s := S2x128x4096) off S1x128x4096.size inb)).Stores Finset.univ} {hm}
    {kt : PUnit → Prog (TpuEff nD τ sig (Elt F) Λ₀ .tc) α} :
    (anyOwns c (qM b) : sProp 𝕄)
      ⊢ iprop((own c (qM b) (fun j => w (Shape.reshapeEquiv squeezes_S1x128x4096_S128x4096.numel_eq j)) -∗ wp frame (wpE (defs₀ (F := F)) 𝒱₀ (c : Thread nD τ) none) Set.univ (kt ⟨⟩) Q)
        -∗ wp frame (wpE (defs₀ (F := F)) 𝒱₀ (c : Thread nD τ) none) Set.univ (.op (.load stageM (Rect.unit (s := S2x128x4096) off S1x128x4096.size inb).toLoadRect hl) fun _ =>
              .op (.store stageM (Rect.unit (s := S2x128x4096) off S1x128x4096.size inb) w Finset.univ hx hm) kt) Q) := by
  have key : ∀ (hq : (stageM).slice (Rect.unit (s := S2x128x4096) off S1x128x4096.size inb) (fun _ => rfl) = qS b),
    (anyOwns c (qM b) : sProp 𝕄)
      ⊢ iprop((own c (qM b) (fun j => w (Shape.reshapeEquiv squeezes_S1x128x4096_S128x4096.numel_eq j)) -∗ wp frame (wpE (defs₀ (F := F)) 𝒱₀ (c : Thread nD τ) none) Set.univ (kt ⟨⟩) Q)
        -∗ wp frame (wpE (defs₀ (F := F)) 𝒱₀ (c : Thread nD τ) none) Set.univ (.op (.load stageM (Rect.unit (s := S2x128x4096) off S1x128x4096.size inb).toLoadRect hl) fun _ =>
              .op (.store stageM (Rect.unit (s := S2x128x4096) off S1x128x4096.size inb) w Finset.univ hx hm) kt) Q) := by
    intro hq
    refine BIBase.Entails.trans (stage_any c b) ?_
    rw [own_stage c b w, ← hq]
    iintro ⟨%X, H⟩ Hk
    iapply (OwnsRules.wp_load_slot (Val := Elt F) 𝒱₀ (c : Thread nD τ) none (m := stageM) (r := Rect.unit (s := S2x128x4096) off S1x128x4096.size inb)
      (r' := (Rect.unit (s := S2x128x4096) off S1x128x4096.size inb).toLoadRect) (fun _ => rfl) (fun x => x) (fun _ => rfl) (Finset.Subset.refl _) (X := X)) $$ H
    iintro H
    iapply (OwnsRules.wp_store_owns_slice (Val := Elt F) 𝒱₀ (c : Thread nD τ) none (m := stageM) (r := Rect.unit (s := S2x128x4096) off S1x128x4096.size inb) (fun _ => rfl) (X := X) (w := w)) $$ H
    iexact Hk
  subst ho
  cases b
  · exact key rfl
  · exact key rfl

theorem chunk_of {i : Fin 32} {b : Bool} {off : Fin 2 → ℕ} (h : off = chunkOff i b) (inb : ∀ a, off a + S128x4096.size a ≤ S4096x8192.size a) :
    ((Memref.whole main_v31).slice (Rect.unit (s := S4096x8192) off S128x4096.size inb) (fun _ => rfl) : Memref sig .tc .hbm S128x4096 .bf16) = chunkM i b := by
  subst h; rfl

theorem chunk_credit (i : Fin 32) (b : Bool) : (chunkM i b).view.dmaCredit = NQ := by cases b <;> rfl

/-- A block written to the staging buffer and sent to its chunk. -/
theorem q_push (b : Bool) (r : ℕ) (hr : r < 32) {off : Fin 3 → ℕ} (ho : off = ![cond b 1 0, 0, 0]) {inb : ∀ a, off a + S1x128x4096.size a ≤ S2x128x4096.size a}
    {hl : (stageM).view.LoadsAt (Rect.unit (s := S2x128x4096) off S1x128x4096.size inb).toLoadRect}
    {w : S1x128x4096.Idx → Elt F .bf16} {hx : ((stageM).access (Rect.unit (s := S2x128x4096) off S1x128x4096.size inb)).Stores Finset.univ} {hm}
    (hw : w = qv I b r c) {sm : DmaSem sig} (hsm : SemLoc.dma sm = locOf (store b))
    {src : Memref sig .tc .vmem S128x4096 .bf16} (hsr : src = qM b) {dst : Memref sig .tc .hbm S128x4096 .bf16} (hds : dst = chunkM (place b c r) b)
    {hsrc : src.view.WordExact} {hdst : dst.view.WordExact} {hsem : DmaTarget.Typed (nD := nD) (τ := τ) (p := .tc) .vmem (SemLoc.dma sm) (.here dst)}
    {kt : PUnit → Prog (TpuEff nD τ sig (Elt F) Λ₀ .tc) α} :
    iprop(ctx I K ∗ sst c b r ∗ anyOwns c (qM b) ∗ anyOwns c (chunkM (place b c r) b))
      ⊢ iprop((smid c b r -∗ wp frame (wpE (defs₀ (F := F)) 𝒱₀ (c : Thread nD τ) none) Set.univ (kt ⟨⟩) Q)
        -∗ wp frame (wpE (defs₀ (F := F)) 𝒱₀ (c : Thread nD τ) none) Set.univ (.op (.load stageM (Rect.unit (s := S2x128x4096) off S1x128x4096.size inb).toLoadRect hl) fun _ =>
              .op (.store stageM (Rect.unit (s := S2x128x4096) off S1x128x4096.size inb) w Finset.univ hx hm) fun _ =>
              .op (.enqueueDma src (.here dst) (SemLoc.dma sm) hsrc hdst hsem) kt) Q) := by
  subst hw hsr hds
  have key : ∀ (l : SemLoc sig) (_ : l = locOf (store b)) {hsem : DmaTarget.Typed (nD := nD) (τ := τ) (p := .tc) .vmem l (.here (chunkM (place b c r) b))}
      (hN : (chunkM (place b c r) b).view.amount l = NQ),
      iprop(ctx I K ∗ sst c b r ∗ own c (qM b) (outT I b r c) ∗ anyOwns c (chunkM (place b c r) b))
      ⊢ iprop((smid c b r -∗ wp frame (wpE (defs₀ (F := F)) 𝒱₀ (c : Thread nD τ) none) Set.univ (kt ⟨⟩) Q)
        -∗ wp frame (wpE (defs₀ (F := F)) 𝒱₀ (c : Thread nD τ) none) Set.univ (.op (.enqueueDma (qM b) (.here (chunkM (place b c r) b)) l hsrc hdst hsem) kt) Q) := by
    intro l hl hsem hN
    subst hl
    unfold sst smid
    iintro ⟨#Hc, ⟨Ha, #Hr, Ht⟩, Hs, Hd⟩ Hk
    ihave Ht := (peel hr _) $$ Ht
    icases Ht with ⟨Ht, Ht'⟩
    iapply (step_copy I K c (k := store b) rfl (src := qM b) (dst := chunkM (place b c r) b) r hr (X := outT I b r c) hN (by
        show _ ⊢ iprop(own c (chunkM (place b c r) b) (outT I b r c) ∗ anyOwns c (qM b))
        iintro ⟨H1, H2⟩
        isplitl [H1]; · iexact H1
        iapply (any_of_own c (qM b) _) $$ H2)) $$ [Hs Hd Ht]
    · isplitr; · iexact Hc
      isplitl [Hs]; · iexact Hs
      isplitl [Hd]; · iexact Hd
      isplitl [Ht]; · iexact Ht
      iexact Hr
    iintro Hcr
    iapply Hk
    isplitl [Ha]; · iexact Ha
    isplitl [Hcr]; · iexact Hcr
    iexact Ht'
  iintro ⟨#Hc, Hst, Hq, Hd⟩ Hk
  iapply (stage_fill c b ho) $$ Hq
  iintro Hq
  iapply (key _ hsm (chunk_credit _ b)) $$ [Hst Hq Hd]
  · isplitr; · iexact Hc
    isplitl [Hst]; · iexact Hst
    isplitl [Hq]; · iexact Hq
    iexact Hd
  iexact Hk

/-- The wait for the copy. -/
theorem q_wait (b : Bool) (r : ℕ) (hr : r < 32) {sm : DmaSem sig} (hsm : SemLoc.dma sm = locOf (store b))
    {src : Memref sig .tc .vmem S128x4096 .bf16} {dst : Memref sig .tc .hbm S128x4096 .bf16} (hN : dst.view.dmaCredit = NQ)
    {hsrc : src.view.WordExact} {hdst : dst.view.WordExact} {O : CellTallies nD τ sig ℕ}
    (hm : (levs : sProp 𝕄) ⊢ MayWait (c : Thread nD τ) (locOf (store b)) 0 O)
    {kt : PUnit → Prog (TpuEff nD τ sig (Elt F) Λ₀ .tc) α} :
    iprop(ctx I K ∗ smid c b r ∗ oweE c O)
      ⊢ iprop(((sst c b (r + 1) ∗ oweE c O ∗ own c (chunkM (place b c r) b) (outT I b r c) ∗ anyOwns c (qM b)) -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 sm src dst hsrc hdst) kt) Q) := by
  have hw : ∀ Kt : PUnit → sProp 𝕄, wpE (defs₀ (F := F)) 𝒱₀ (c : Thread nD τ) none Set.univ (.waitDma2 sm src dst hsrc hdst) Kt = waitSpec (c : Thread nD τ) Set.univ (locOf (store b)) NQ Kt := by
    intro Kt; rw [wpE_waitDma2_eq 𝒱₀ (c : Thread nD τ) none Set.univ Kt, hsm, hN]
  unfold sst smid
  iintro ⟨#Hc, ⟨Ha, Hcr, Ht⟩, HO⟩ Hk
  iapply (step_wait I K c (store b) rfl r hr 0 (O := O) hw hm) $$ [Hcr HO Ha]
  · isplitr; · iexact Hc
    isplitl [Hcr]; · iexact Hcr
    isplitl [HO]; · iexact HO
    iexact Ha
  iintro ⟨HO, Ha, Hr, Hp⟩
  ihave Hp := (show pay I (store b) c r false ⊢ iprop(own c (chunkM (place b c r) b) (outT I b r c) ∗ anyOwns c (qM b)) from .rfl) $$ Hp
  icases Hp with ⟨Hp1, Hp2⟩
  iapply Hk
  isplitl [Ha Hr Ht]
  · isplitl [Ha]; · iexact Ha
    isplitl [Hr]; · iexact Hr
    iexact Ht
  isplitl [HO]; · iexact HO
  isplitl [Hp1]; · iexact Hp1
  iexact Hp2

end Cert.Proof.KernelIdealRun

end
-- ==== Proof.KernelIdealMx.lean ====
/-
  The exchange of the maxima: a trip sends the running maximum `2 ^ k` places on and takes in the one from `2 ^ k` places
  before.
-/
module

public import proofs.«01_k».proof.Proof.KernelIdealStore

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kind

variable {F : FTy → Type} [FloatOps F]

local notation "𝕄" => MT nD τ sig ℕ (Elt F) ℕ UU ℕ

/-- The table of the devices round the ring. -/
abbrev ringM : Memref sig .tc .smem S32 .i32 := Memref.whole cc0_stg1_0

/-- Its words. -/
def ringX : S32.Idx → Elt F .i32 := fun i => devW (rg ⟨(i 0).val, (i 0).isLt⟩)

/-- The loop's body on the buffers the kernel is called with. -/
abbrev t2B (v0 : Elt F .i32) (h3 : k0_chk3 v0) (v60 : F .f32) :
    Fin k0_t2_loop.trips → F .f32 → Prog (TpuEff nD τ sig (Elt F) Λ₀ .tc) (F .f32) :=
  k0_t2_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v31) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 v0 h3 v60

theorem sem16_5 : ∀ t : Fin k0_t2_loop.trips, ((SemArray.slice cc0_scratch16 (Rect.unit (s := S5) (k0_off5 t) S1.size (k0_off5_inb t))).squeeze S_ squeezes_S1_S_).sem
    = (⟨10 + (fk t.val).val, by have := (fk t.val).isLt; show _ < 20; omega⟩ : DmaSem sig) := by decide +kernel
theorem sem17_5 : ∀ t : Fin k0_t2_loop.trips, ((SemArray.slice cc0_scratch17 (Rect.unit (s := S5) (k0_off5 t) S1.size (k0_off5_inb t))).squeeze S_ squeezes_S1_S_).sem
    = (⟨15 + (fk t.val).val, by have := (fk t.val).isLt; show _ < 20; omega⟩ : DmaSem sig) := by decide +kernel
theorem sem16_7 : ∀ t : Fin k0_t2_loop.trips, ((SemArray.slice cc0_scratch16 (Rect.unit (s := S5) (k0_off7 t) S1.size (k0_off7_inb t))).squeeze S_ squeezes_S1_S_).sem
    = (⟨10 + (fk t.val).val, by have := (fk t.val).isLt; show _ < 20; omega⟩ : DmaSem sig) := by decide +kernel
theorem sem17_7 : ∀ t : Fin k0_t2_loop.trips, ((SemArray.slice cc0_scratch17 (Rect.unit (s := S5) (k0_off7 t) S1.size (k0_off7_inb t))).squeeze S_ squeezes_S1_S_).sem
    = (⟨15 + (fk t.val).val, by have := (fk t.val).isLt; show _ < 20; omega⟩ : DmaSem sig) := by decide +kernel

theorem mxr_of {off : Fin 3 → ℕ} {k : Fin 5} (h : off = ![k.val, 0, 0]) (inb : ∀ a, off a + S1x8x128.size a ≤ S5x8x128.size a) :
    ((Memref.whole cc0_scratch10).slice (Rect.unit (s := S5x8x128) off S1x8x128.size inb) (fun _ => rfl) : Memref sig .tc .vmem S1x8x128 .f32).squeeze S8x128 squeezes_S1x8x128_S8x128
      = mxrM k := by subst h; rfl

theorem fk_t2 (t : Fin k0_t2_loop.trips) : (fk t.val).val = t.val := fk_val (lt_of_lt_of_eq t.isLt trips2)

theorem mxr_6 (t : Fin k0_t2_loop.trips) :
    ((Memref.whole cc0_scratch10).slice (Rect.unit (s := S5x8x128) (k0_off6 t) S1x8x128.size (k0_off6_inb t)) (fun _ => rfl) : Memref sig .tc .vmem S1x8x128 .f32).squeeze S8x128 squeezes_S1x8x128_S8x128
      = mxrM (fk t.val) := mxr_of ((off6_eq t).trans (by rw [fk_t2])) _
theorem mxr_8 (t : Fin k0_t2_loop.trips) :
    ((Memref.whole cc0_scratch10).slice (Rect.unit (s := S5x8x128) (k0_off8 t) S1x8x128.size (k0_off8_inb t)) (fun _ => rfl) : Memref sig .tc .vmem S1x8x128 .f32).squeeze S8x128 squeezes_S1x8x128_S8x128
      = mxrM (fk t.val) := mxr_of ((off8_eq t).trans (by rw [fk_t2])) _

variable (I : Ins F) (K : GSem nD τ sig → ℕ) (c : Dev nD) {α : Type} {Q : α → sProp (MT nD τ sig ℕ (Elt F) ℕ UU ℕ)}

/-- The cells of a step still to come, -/
def mxTodo (j : ℕ) : sProp 𝕄 :=
  iprop(slotPay (fk j) (hop c (2 ^ j)) ∗ atPos ER (cell (mxs (fk j)) c) 0 ∅ 0 ∗ reached ER (cell (mxs (fk j)) c) 0
    ∗ dutyTok ER (cell (mxs (fk j)) c) 0 false ∗ atPos ER (cell (mxr (fk j)) c) 0 ∅ 0
    ∗ dutyTok ER (cell (mxr (fk j)) (hop c (2 ^ j))) 0 false ∗ cred (tallyAt (cell (mxr (fk j)) c) 0 NX))
/-- and of one done. -/
def mxDone (j : ℕ) : sProp 𝕄 :=
  iprop(atPos ER (cell (mxs (fk j)) c) 1 ∅ 0 ∗ atPos ER (cell (mxr (fk j)) c) 1 ∅ 0 ∗ anyOwns c (mxrM (fk j)))

instance doneRs_persistent (e : Dev nD) : BI.Persistent (doneRs (F := F) e) := by unfold doneRs; infer_instance

/-- The devices known to be past the reduce-scatter after `k` steps. -/
def mxKnown (k : ℕ) : sProp 𝕄 := bigSep (Finset.range (2 ^ k)) fun j => doneRs (bk c j)

instance mxKnown_persistent (k : ℕ) : BI.Persistent (mxKnown (F := F) c k) := by unfold mxKnown; infer_instance

/-- The loop's invariant. -/
def mxI (k : ℕ) (v : F .f32) : sProp 𝕄 :=
  iprop(⌜v = mx I k c⌝ ∗ own c ringM ringX ∗ anyOwns c mxM ∗ (bigSep (Finset.Ico k 5) fun j => mxTodo c j)
    ∗ (bigSep (Finset.Ico 0 k) fun j => mxDone c j) ∗ mxKnown c k ∗ oweE c (OW c 31 31 30 30 k))

theorem load_ring {off : Fin 1 → ℕ} {j : ℕ} (ho : off = ![((iv c).val + j) % 32]) {h : ∀ a, off a + S1.size a ≤ S32.size a}
    {hl : (ringM).view.LoadsAt (Rect.unit (s := S32) off S1.size h).toLoadRect}
    {kt : (S1.Idx → Elt F .i32) → Prog (TpuEff nD τ sig (Elt F) Λ₀ .tc) α} :
    (own c ringM ringX : sProp 𝕄)
      ⊢ iprop((own c ringM ringX -∗ wp frame (wpE (defs₀ (F := F)) 𝒱₀ (c : Thread nD τ) none) Set.univ (kt (fun _ => devW (hop c j))) Q)
        -∗ wp frame (wpE (defs₀ (F := F)) 𝒱₀ (c : Thread nD τ) none) Set.univ (.op (.load ringM (Rect.unit (s := S32) off S1.size h).toLoadRect hl) kt) Q) := by
  have h' := load_own (sp := .smem) c (Q := Q) (m := ringM) (hl := hl) (X := ringX) (kt := kt)
  rw [show (fun x => ringX ((Rect.unit (s := S32) off S1.size h).toLoadRect.idx x)) = (fun _ => (devW (hop c j) : Elt F .i32)) from by
    funext x
    unfold ringX hop
    congr 2
    apply Fin.ext
    subst ho
    have : (x 0).val < 1 := (x 0).isLt
    show ((iv c).val + j) % 32 + 1 * (x 0).val = ((iv c).val + j) % 32
    omega] at h'
  exact h'

theorem load_slot {k : Fin 5} {off : Fin 3 → ℕ} (ho : off = ![k.val, 0, 0]) {h : ∀ a, off a + S1x1x1.size a ≤ S5x8x128.size a} {v : F .f32}
    {hl : (Memref.whole cc0_scratch10 : Memref sig .tc .vmem S5x8x128 .f32).view.LoadsAt (Rect.unit (s := S5x8x128) off S1x1x1.size h).toLoadRect}
    {kt : (S1x1x1.Idx → Elt F .f32) → Prog (TpuEff nD τ sig (Elt F) Λ₀ .tc) α} :
    (own c (mxrM k) (fun _ => v) : sProp 𝕄)
      ⊢ iprop((own c (mxrM k) (fun _ => v) -∗ wp frame (wpE (defs₀ (F := F)) 𝒱₀ (c : Thread nD τ) none) Set.univ (kt (fun _ => v)) Q)
        -∗ wp frame (wpE (defs₀ (F := F)) 𝒱₀ (c : Thread nD τ) none) Set.univ
            (.op (.load (Memref.whole cc0_scratch10 : Memref sig .tc .vmem S5x8x128 .f32) (Rect.unit (s := S5x8x128) off S1x1x1.size h).toLoadRect hl) kt) Q) := by
  subst ho
  have e : (own c (mxrM k) (fun _ => v) : sProp 𝕄) = owns (c : Thread nD τ) (mxS k) fullShare (fun _ => v : S1x8x128.Idx → Elt F .f32) :=
    OwnsRules.owns_squeeze (Val := Elt F) (c : Thread nD τ) (mxS k) S8x128 squeezes_S1x8x128_S8x128 fullShare (fun _ => v : S1x8x128.Idx → Elt F .f32)
  rw [e]
  let φ : S1x1x1.Idx → S1x8x128.Idx := fun _ a => match a with | 0 => (⟨0, by decide⟩ : Fin 1) | 1 => (⟨0, by decide⟩ : Fin 8) | 2 => (⟨0, by decide⟩ : Fin 128)
  have hφ : ∀ x : S1x1x1.Idx, (Rect.unit (s := S5x8x128) ![k.val, 0, 0] S1x1x1.size h).toLoadRect.idx x
      = (Rect.unit (s := S5x8x128) ![k.val, 0, 0] S1x8x128.size (slot_inb k)).emb (φ x) := by
    intro x
    have h0 : (x 0).val < 1 := (x 0).isLt
    have h1 : (x 1).val < 1 := (x 1).isLt
    have h2 : (x 2).val < 1 := (x 2).isLt
    funext a; apply Fin.ext
    match a with
    | 0 => show k.val + 1 * (x 0).val = k.val + 1 * 0; omega
    | 1 => show 0 + 1 * (x 1).val = 0 + 1 * 0; omega
    | 2 => show 0 + 1 * (x 2).val = 0 + 1 * 0; omega
  have hsub : (Rect.unit (s := S5x8x128) ![k.val, 0, 0] S1x1x1.size h).toLoadRect.set ⊆ (Rect.unit (s := S5x8x128) ![k.val, 0, 0] S1x8x128.size (slot_inb k)).set := by
    intro i hi
    have hi' := (Rect.mem_set_unit (s := S5x8x128)).mp hi
    refine (Rect.mem_set_unit (s := S5x8x128)).mpr fun a => ?_
    have := hi' a
    match a with
    | 0 => exact this
    | 1 => exact ⟨this.1, lt_of_lt_of_le this.2 (by show 0 + 1 ≤ 0 + 8; omega)⟩
    | 2 => exact ⟨this.1, lt_of_lt_of_le this.2 (by show 0 + 1 ≤ 0 + 128; omega)⟩
  iintro H Hk
  iapply (OwnsRules.wp_load_slot (Val := Elt F) (e := .f32) 𝒱₀ (c : Thread nD τ) none (m := (Memref.whole cc0_scratch10 : Memref sig .tc .vmem S5x8x128 .f32))
    (r := Rect.unit (s := S5x8x128) ![k.val, 0, 0] S1x8x128.size (slot_inb k)) (r' := (Rect.unit (s := S5x8x128) ![k.val, 0, 0] S1x1x1.size h).toLoadRect)
    (fun _ => rfl) φ hφ hsub (X := (fun _ => v : S1x8x128.Idx → Elt F .f32))) $$ H
  iexact Hk

/-- Storing the maximum to send. -/
theorem store_mx {h : ∀ a, (![0, 0] : Fin 2 → ℕ) a + S8x128.size a ≤ S8x128.size a}
    {w X : S8x128.Idx → Elt F .f32} {hx : ((mxM).access (Rect.unit (s := S8x128) ![0, 0] S8x128.size h)).Stores Finset.univ} {hm}
    {kt : PUnit → Prog (TpuEff nD τ sig (Elt F) Λ₀ .tc) α} :
    (own c mxM X : sProp 𝕄)
      ⊢ iprop((own c mxM w -∗ wp frame (wpE (defs₀ (F := F)) 𝒱₀ (c : Thread nD τ) none) Set.univ (kt ⟨⟩) Q)
        -∗ wp frame (wpE (defs₀ (F := F)) 𝒱₀ (c : Thread nD τ) none) Set.univ
            (.op (.store mxM (Rect.unit (s := S8x128) ![0, 0] S8x128.size h) w Finset.univ hx hm) kt) Q) :=
  OwnsRules.wp_store_owns_whole 𝒱₀ (c : Thread nD τ) none (by funext a; match a with | 0 => rfl | 1 => rfl)

theorem mxKnown_join (k : ℕ) : iprop(mxKnown c k ∗ bigSep (Finset.range (2 ^ k)) fun j => doneRs (bk c (2 ^ k + j))) ⊢ (mxKnown c (k + 1) : sProp 𝕄) := by
  unfold mxKnown
  iintro ⟨#H1, #H2⟩
  have key : ∀ j ∈ Finset.range (2 ^ (k + 1)), iprop((bigSep (Finset.range (2 ^ k)) fun j => doneRs (bk c j)) ∗ (bigSep (Finset.range (2 ^ k)) fun j => doneRs (bk c (2 ^ k + j))))
      ⊢ (doneRs (bk c j) : sProp 𝕄) := by
    intro j hj
    rw [Finset.mem_range, Nat.pow_succ] at hj
    by_cases h : j < 2 ^ k
    · iintro ⟨H, -⟩
      have e : (bigSep (Finset.range (2 ^ k)) fun j => doneRs (bk c j) : sProp 𝕄) ⊢ doneRs (bk c j) := BI.bigSep_elim (Finset.mem_range.mpr h)
      iapply e $$ H
    · iintro ⟨-, H⟩
      have e : (bigSep (Finset.range (2 ^ k)) fun j => doneRs (bk c (2 ^ k + j)) : sProp 𝕄) ⊢ doneRs (bk c (2 ^ k + (j - 2 ^ k))) :=
        BI.bigSep_elim (Φ := fun j => doneRs (bk c (2 ^ k + j))) (Finset.mem_range.mpr (by omega))
      rw [show 2 ^ k + (j - 2 ^ k) = j by omega] at e
      iapply e $$ H
  have all := BI.bigSep_intro_persistent (S := Finset.range (2 ^ (k + 1))) key
  iapply all
  isplitr; · iexact H1
  iexact H2

/-- Both ends of a step's cells, between the sending and the waits. -/
def mxMid (j : ℕ) : sProp 𝕄 :=
  iprop(atPos ER (cell (mxs (fk j)) c) 0 ∅ 0 ∗ cred (tallyAt (cell (mxs (fk j)) c) 0 NX) ∗ atPos ER (cell (mxr (fk j)) c) 0 ∅ 0
    ∗ cred (tallyAt (cell (mxr (fk j)) c) 0 NX))

theorem mx_send (k : ℕ) (hk : k < 5) {sm rm : DmaSem sig} (hsm : SemLoc.dma sm = locOf (mxs (fk k))) (hrm : SemLoc.dma rm = locOf (mxr (fk k)))
    {n : Dev nD} (hn : n = hop c (2 ^ k)) {dst : Memref sig .tc .vmem S8x128 .f32} (hdM : dst = mxrM (fk k))
    {hsc : dst.view.ref.isScScratch = false} {hsrc : mxM.view.WordExact} {hdst : dst.view.WordExact}
    {hsem : DmaTarget.Typed .vmem (SemLoc.dma rm) (.remote (n : Thread nD τ) dst (SemLoc.dma sm) hsc)}
    {O' : CellTallies nD τ sig ℕ} (O : CellTallies nD τ sig ℕ) (hO : O' = O + tallyAt (cell (mxr (fk k)) (hop c (2 ^ k))) 0 NX)
    {kt : PUnit → Prog (TpuEff nD τ sig (Elt F) Λ₀ .tc) α} :
    iprop(ctx I K ∗ mxTodo c k ∗ own c mxM (fun _ => mx I k c) ∗ mxKnown c k ∗ oweE c O')
      ⊢ iprop(((mxMid c k ∗ oweE c O) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma mxM (.remote (n : Thread nD τ) dst (SemLoc.dma sm) hsc) (SemLoc.dma rm) hsrc hdst hsem) kt) Q) := by
  subst hn hdM
  have hp₁ : own c mxM (fun _ => mx I k c) ⊢ pay I (mxs (fk k)) c 0 false := by
    show _ ⊢ own c mxM (fun _ => mx I (fk k).val c)
    rw [fk_val hk]
  have hp₂ : iprop(own (hop c (2 ^ k)) (mxrM (fk k)) (fun _ => mx I k c) ∗ mxKnown c k) ⊢ pay I (mxr (fk k)) (hop c (2 ^ k)) 0 false := by
    show _ ⊢ iprop(own (hop c (2 ^ k)) (mxrM (fk k)) (fun _ => mx I (fk k).val (bk (hop c (2 ^ k)) (2 ^ (fk k).val)))
      ∗ bigSep (Finset.range (2 ^ (fk k).val)) fun j => doneRs (bk (hop c (2 ^ k)) (2 ^ (fk k).val + j)))
    have e : ∀ j, bk (hop c (2 ^ k)) (2 ^ k + j) = bk c j := by
      intro j; unfold bk; rw [hop_hop]; exact hop_congr c (by omega)
    have e0 : bk (hop c (2 ^ k)) (2 ^ k) = c := by
      have := e 0; rw [Nat.add_zero] at this; rw [this]; unfold bk; exact hop_zero c
    unfold mxKnown
    simp only [fk_val hk, e, e0]
    exact .rfl
  have key : ∀ (l₁ l₂ : SemLoc sig) (_ : l₁ = locOf (mxs (fk k))) (_ : l₂ = locOf (mxr (fk k))) {hsem : DmaTarget.Typed .vmem l₂ (.remote ((hop c (2 ^ k) : Dev nD) : Thread nD τ) (mxrM (fk k)) l₁ hsc)}
      (hN' : (mxrM (fk k)).view.amount l₂ = NX),
      iprop(ctx I K ∗ mxTodo c k ∗ own c mxM (fun _ => mx I k c) ∗ mxKnown c k ∗ oweE c O')
      ⊢ iprop(((mxMid c k ∗ oweE c O) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma mxM (.remote ((hop c (2 ^ k) : Dev nD) : Thread nD τ) (mxrM (fk k)) l₁ hsc) l₂ hsrc hdst hsem) kt) Q) := by
    intro l₁ l₂ h₁ h₂ hsem hN'
    subst h₁ h₂
    unfold mxTodo slotPay mxMid
    iintro ⟨#Hc, ⟨⟨Hd, #Hr⟩, HaS, #HrS, HdS, HaR, HdR, HcR⟩, Hs, HR, HO⟩ Hk
    iapply (step_send I K c (kS := mxs (fk k)) (kR := mxr (fk k)) rfl rfl (src := mxM) (dst := mxrM (fk k)) 0 0 0 Nat.one_pos Nat.one_pos NX (X := fun _ => mx I k c) (R := mxKnown c k) hN' rfl rfl O hO hp₁ hp₂) $$ [Hs Hd HR HO HdS HdR]
    · isplitr; · iexact Hc
      isplitl [Hs]; · iexact Hs
      isplitl [Hd HR]
      · isplitl [Hd]; · iexact Hd
        iexact HR
      isplitl [HO]; · iexact HO
      isplitl [HdS]; · iexact HdS
      isplitr; · iexact HrS
      isplitl [HdR]; · iexact HdR
      iexact Hr
    iintro ⟨Hcr, HO⟩
    iapply Hk
    isplitr [HO]
    · isplitl [HaS]; · iexact HaS
      isplitl [Hcr]; · iexact Hcr
      isplitl [HaR]; · iexact HaR
      iexact HcR
    iexact HO
  exact key _ _ hsm hrm (by show (mxrM (fk k)).view.dmaCredit = NX; rfl)

theorem mx_waits (k : ℕ) (hk : k < 5) {sm rm : DmaSem sig} (hsm : SemLoc.dma sm = locOf (mxs (fk k))) (hrm : SemLoc.dma rm = locOf (mxr (fk k)))
    {p q : Memref sig .tc .vmem S8x128 .f32} {hp : p.view.WordExact} {hp' : mxM.view.WordExact} {hq : mxM.view.WordExact} {hq' : q.view.WordExact}
    (hN : q.view.dmaCredit = NX)
    {kt : PUnit → Prog (TpuEff nD τ sig (Elt F) Λ₀ .tc) α} :
    iprop(ctx I K ∗ mxMid c k ∗ oweE c (OW c 31 31 30 30 (k + 1)))
      ⊢ iprop(((atPos ER (cell (mxs (fk k)) c) 1 ∅ 0 ∗ atPos ER (cell (mxr (fk k)) c) 1 ∅ 0 ∗ oweE c (OW c 31 31 30 30 (k + 1))
              ∗ pay I (mxs (fk k)) c 0 false ∗ pay I (mxr (fk k)) c 0 false)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm p mxM hp hp') fun _ => .op (.waitDma2 rm mxM q hq hq') kt) Q) := by
  have hw₁ : ∀ Kt : PUnit → sProp 𝕄, wpE (defs₀ (F := F)) 𝒱₀ (c : Thread nD τ) none Set.univ (.waitDma2 sm p mxM hp hp') Kt = waitSpec (c : Thread nD τ) Set.univ (locOf (mxs (fk k))) NX Kt := by
    intro Kt; rw [wpE_waitDma2_eq 𝒱₀ (c : Thread nD τ) none Set.univ Kt, hsm]; rfl
  have hw₂ : ∀ Kt : PUnit → sProp 𝕄, wpE (defs₀ (F := F)) 𝒱₀ (c : Thread nD τ) none Set.univ (.waitDma2 rm mxM q hq hq') Kt = waitSpec (c : Thread nD τ) Set.univ (locOf (mxr (fk k))) NX Kt := by
    intro Kt; rw [wpE_waitDma2_eq 𝒱₀ (c : Thread nD τ) none Set.univ Kt, hrm, hN]
  have hm : ∀ (kd : Kind), levOf (some kd) 0 ≤ 70 + k → (levs : sProp 𝕄) ⊢ MayWait (c : Thread nD τ) (locOf kd) 0 (OW c 31 31 30 30 (k + 1)) := by
    intro kd h
    refine mayWait_OW (70 + k) _ _ (by omega) (by rw [show lv ((c : Thread nD τ), locOf kd) 0 = levOf (some kd) 0 from lv_cell kd c 0]; exact h) ?_ ?_ ?_ ?_ (fun _ => by omega)
    all_goals intro _; simp only [levOf]; split <;> omega
  unfold mxMid
  iintro ⟨#Hc, ⟨HaS, HcS, HaR, HcR⟩, HO⟩ Hk
  iapply (step_wait I K c (mxs (fk k)) rfl 0 Nat.one_pos 0 (O := OW c 31 31 30 30 (k + 1)) hw₁ (hm _ (by simp only [levOf]; omega))) $$ [HcS HO HaS]
  · isplitr; · iexact Hc
    isplitl [HcS]; · iexact HcS
    isplitl [HO]; · iexact HO
    iexact HaS
  iintro ⟨HO, HaS, -, HpS⟩
  iapply (step_wait I K c (mxr (fk k)) rfl 0 Nat.one_pos 0 (O := OW c 31 31 30 30 (k + 1)) hw₂ (hm _ (by simp only [levOf, fk_val hk]; omega))) $$ [HcR HO HaR]
  · isplitr; · iexact Hc
    isplitl [HcR]; · iexact HcR
    isplitl [HO]; · iexact HO
    iexact HaR
  iintro ⟨HO, HaR, -, HpR⟩
  iapply Hk
  isplitl [HaS]; · iexact HaS
  isplitl [HaR]; · iexact HaR
  isplitl [HO]; · iexact HO
  isplitl [HpS]; · iexact HpS
  iexact HpR

set_option maxHeartbeats 1000000 in
theorem mx_body (h3 : k0_chk3 (posW c)) (v60 : F .f32) (t : Fin k0_t2_loop.trips) (v : F .f32) :
    iprop(ctx I K ∗ mxI I c t.val v)
      ⊢ wp frame (wpE (defs₀ (F := F)) 𝒱₀ (c : Thread nD τ) none) Set.univ
          (t2B (posW c) h3 v60 t v) (fun v => mxI I c (t.val + 1) v) := by
  have ht : t.val < 5 := lt_of_lt_of_eq t.isLt trips2
  unfold t2B k0_t2_body
  simp only [smemLoad, smemLoadElt, semSignalWord, semWaitWord, Prog.lift, Prog.bind_op, Prog.bind_ret, Prog.pure_eq_ret, Prog.bind_assoc]
  unfold mxI
  iintro ⟨#Hc, %hv, Hring, Hm, Htodo, Hdone, #Hkn, HO⟩
  subst hv
  ihave Hm := (show (anyOwns c mxM : sProp 𝕄) ⊢ iprop(∃ X, own c mxM X) from .rfl) $$ Hm
  icases Hm with ⟨%X, Hm⟩
  iapply (load_own (sp := .vmem) c) $$ Hm
  iintro Hm
  iapply (store_mx c) $$ Hm
  iintro Hm
  iapply (load_ring c (off4_eq c t)) $$ Hring
  iintro Hring
  simp only [wp_assume_of _ _ _ _ (d := k0_chk4.dec _) (chk4 (hop c (2 ^ t.val)))]
  ihave Htodo := (peel ht _) $$ Htodo
  icases Htodo with ⟨Hnow, Htodo⟩
  iapply (mx_send I K c t.val ht (congrArg SemLoc.dma (sem16_5 t)) (congrArg SemLoc.dma (sem17_5 t)) (dev_eq (dev7_val _) _) (mxr_6 t)
      (OW c 31 31 30 30 (t.val + 1)) (OW_k c ht)) $$ [Hnow Hm HO]
  · isplitr; · iexact Hc
    isplitl [Hnow]; · iexact Hnow
    isplitl [Hm]; · iexact Hm
    isplitr; · iexact Hkn
    iexact HO
  iintro ⟨Hmid, HO⟩
  iapply (mx_waits I K c t.val ht (congrArg SemLoc.dma (sem16_7 t)) (congrArg SemLoc.dma (sem17_7 t)) (by rw [mxr_8]; rfl)) $$ [Hmid HO]
  · isplitr; · iexact Hc
    isplitl [Hmid]; · iexact Hmid
    iexact HO
  iintro ⟨HaS, HaR, HO, HpS, HpR⟩
  ihave HpS := (show pay I (mxs (fk t.val)) c 0 false ⊢ own c mxM (fun _ => mx I (fk t.val).val c) from .rfl) $$ HpS
  ihave HpR := (show pay I (mxr (fk t.val)) c 0 false ⊢ iprop(own c (mxrM (fk t.val)) (fun _ => mx I (fk t.val).val (bk c (2 ^ (fk t.val).val)))
      ∗ bigSep (Finset.range (2 ^ (fk t.val).val)) fun j => doneRs (bk c (2 ^ (fk t.val).val + j))) from .rfl) $$ HpR
  rw [fk_val ht]
  icases HpR with ⟨HpR, #Hkn'⟩
  iapply (load_slot c (k := fk t.val) ((off9_eq t).trans (by rw [fk_t2]))) $$ HpR
  iintro HpR
  rw [wp_ret]; imodintro
  isplitr; · ipureintro; rfl
  isplitl [Hring]; · iexact Hring
  isplitl [HpS]; · iapply (any_of_own c mxM _) $$ HpS
  isplitl [Htodo]; · iexact Htodo
  isplitl [Hdone HaS HaR HpR]
  · iapply (unpeel t.val (fun j => mxDone c j))
    isplitl [Hdone]; · iexact Hdone
    unfold mxDone
    isplitl [HaS]; · iexact HaS
    isplitl [HaR]; · iexact HaR
    iapply (any_of_own c (mxrM (fk t.val)) _) $$ HpR
  isplitr
  · iapply (mxKnown_join c t.val)
    isplitr; · iexact Hkn
    iexact Hkn'
  iexact HO

end Cert.Proof.KernelIdealRun

end
-- ==== Proof.KernelIdealAg.lean ====
/-
  The all-gather: at a step a device sends its block in hand on in each direction, and stores the block it receives.
-/
module

public import proofs.«01_k».proof.Proof.KernelIdealStore

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kind

variable {F : FTy → Type} [FloatOps F]

local notation "𝕄" => MT nD τ sig ℕ (Elt F) ℕ UU ℕ

/-- The loop's body on the buffers the kernel is called with. -/
abbrev t3B (v0 : Elt F .i32) (h3 : k0_chk3 v0) (v1 : Elt F .i32) (h2 : k0_chk2 v1) (v2 : Elt F .i32) (h1 : k0_chk1 v2) (v63 v64 : F .f32) :
    Fin k0_t3_loop.trips → Unit → Prog (TpuEff nD τ sig (Elt F) Λ₀ .tc) Unit :=
  k0_t3_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v31) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 v0 h3 v1 h2 v2 h1 v63 v64

theorem cond3_iff : ∀ t : Fin k0_t3_loop.trips,
    Scalar.cmpi .ne (Scalar.extui (Scalar.cmpi .sgt (Scf.iv 0#32 1#32 t) 0#32 : BitVec 1) : BitVec 32) 0#32 = 1#1 ↔ 0 < t.val := by decide +kernel

variable (I : Ins F) (K : GSem nD τ sig → ℕ) (c : Dev nD) {α : Type} {Q : α → sProp (MT nD τ sig ℕ (Elt F) ℕ UU ℕ)}

/-- The landing buffer: the neighbour's is free at first, the own one comes back at the end. -/
def agGate (b : Bool) (s : ℕ) : sProp 𝕄 :=
  if s = 0 then gate b c agrM 31 else if s = 31 then anyOwns c (agrM b) else iprop(emp)

/-- The block in hand: after the last step no longer needed. -/
def agHand (b : Bool) (s : ℕ) : sProp 𝕄 := if s < 31 then own c (agsM b) (ag I b s c) else anyOwns c (agsM b)

theorem agHand_at (b : Bool) {s : ℕ} (hs : s < 31) : agHand I c b s ⊢ own c (agsM b) (ag I b s c) := by
  unfold agHand; rw [if_pos hs]

/-- One direction at a step. -/
def agDir (b : Bool) (s : ℕ) : sProp 𝕄 :=
  iprop(tst b c (31 + s) ∗ cst b c (30 + (s - 1)) ∗ pst b c (30 + min s 30) ∗ agGate c b s ∗ agHand I c b s
    ∗ sst c b (1 + s) ∗ anyOwns c (qM b) ∗ (bigSep (Finset.Ico (1 + s) 32) fun t => anyOwns c (chunkM (place b c t) b))
    ∗ bigSep (Finset.Ico 0 (1 + s)) fun t => own c (chunkM (place b c t) b) (outT I b t c))

/-- The loop's invariant. -/
def agI (s : ℕ) : sProp 𝕄 :=
  iprop(agDir I c false s ∗ agDir I c true s ∗ oweE c (OW c (31 + s) (31 + s) (30 + min s 30) (30 + min s 30) 5))

theorem ag_pay_send (b : Bool) {s : ℕ} : own c (agsM b) (ag I b s c) ⊢ pay I (send b) c (31 + s) false := by
  show _ ⊢ (if 31 + s ≤ 30 then own c (accM b) (acc I b (31 + s) c) else own c (agsM b) (ag I b (31 + s - 31) c))
  rw [if_neg (by omega), Nat.add_sub_cancel_left]

theorem ag_payload_send (b : Bool) {s : ℕ} : pay I (send b) c (31 + s) false ⊢ own c (agsM b) (ag I b s c) := by
  show (if 31 + s ≤ 30 then own c (accM b) (acc I b (31 + s) c) else own c (agsM b) (ag I b (31 + s - 31) c)) ⊢ _
  rw [if_neg (by omega), Nat.add_sub_cancel_left]

theorem ag_pay_recv (b : Bool) {s : ℕ} :
    iprop(own (succ b c) (agrM b) (ag I b s c) ∗ reached ER (cell (credit b) c) (30 + s)) ⊢ pay I (recv b) (succ b c) (31 + s) false := by
  show _ ⊢ (if 31 + s ≤ 30 then _ else iprop(own (succ b c) (agrM b) (ag I b (31 + s - 31) (pred b (succ b c))) ∗ reached ER (cell (credit b) (pred b (succ b c))) (31 + s - 1)))
  rw [if_neg (by omega), pred_succ, Nat.add_sub_cancel_left, show 31 + s - 1 = 30 + s by omega]

theorem ag_payload_recv (b : Bool) {s : ℕ} : pay I (recv b) c (31 + s) false
    ⊢ iprop(own c (agrM b) (ag I b s (pred b c)) ∗ reached ER (cell (credit b) (pred b c)) (30 + s)) := by
  show (if 31 + s ≤ 30 then _ else iprop(own c (agrM b) (ag I b (31 + s - 31) (pred b c)) ∗ reached ER (cell (credit b) (pred b c)) (31 + s - 1))) ⊢ _
  rw [if_neg (by omega), Nat.add_sub_cancel_left, show 31 + s - 1 = 30 + s by omega]

theorem ag_pay_credit (b : Bool) (s : ℕ) :
    iprop(anyOwns c (agrM b) ∗ reached ER (cell (recv b) c) (31 + s + 1)) ⊢ pay I (credit b) (pred b c) (30 + s) false := by
  show _ ⊢ (if 30 + s ≤ 29 then _ else iprop(anyOwns (succ b (pred b c)) (agrM b) ∗ reached ER (cell (recv b) (succ b (pred b c))) (30 + s + 2)))
  rw [if_neg (by omega), succ_pred, show 30 + s + 2 = 31 + s + 1 by omega]

theorem ag_payload_credit (b : Bool) {s : ℕ} (h0 : 0 < s) : pay I (credit b) c (30 + (s - 1)) false ⊢ gate b c agrM (31 + s) := by
  show (if 30 + (s - 1) ≤ 29 then _ else iprop(anyOwns (succ b c) (agrM b) ∗ reached ER (cell (recv b) (succ b c)) (30 + (s - 1) + 2))) ⊢ _
  rw [if_neg (by omega), show 30 + (s - 1) + 2 = 31 + s by omega]
  exact .rfl

/-- The waits of the all-gather are below what is owed. -/
theorem ag_may {k : Kind} {ι a a' p p' : ℕ} (n : ℕ) (hι : ι < 64) (hn : levOf (some k) ι ≤ n)
    (h₁ : 31 ≤ a ∧ n < 100 + 2 * a) (h₁' : 31 ≤ a' ∧ n < 100 + 2 * a') (h₂ : 30 ≤ p ∧ (p < 60 → n < 103 + 2 * p)) (h₂' : 30 ≤ p' ∧ (p' < 60 → n < 103 + 2 * p')) :
    (levs : sProp 𝕄) ⊢ MayWait (c : Thread nD τ) (locOf k) ι (OW c a a' p p' 5) := by
  refine mayWait_OW n _ _ hι (by rw [show lv ((c : Thread nD τ), locOf k) ι = levOf (some k) ι from lv_cell k c ι]; exact hn) ?_ ?_ ?_ ?_ (fun h => by omega)
  all_goals intro _; simp only [levOf]; split <;> omega

theorem chunk_12 (t : Fin k0_t3_loop.trips) (inb : ∀ a, k0_off12 (posW c) t a + S128x4096.size a ≤ S4096x8192.size a) :
    ((Memref.whole main_v31).slice (Rect.unit (s := S4096x8192) (k0_off12 (posW c) t) S128x4096.size inb) (fun _ => rfl) : Memref sig .tc .hbm S128x4096 .bf16)
      = chunkM (place false c (1 + t.val)) false := by
  have ht : t.val < 31 := lt_of_lt_of_eq t.isLt trips3
  refine chunk_of ((off12_eq c t).trans ?_) inb
  rw [show place false c (1 + t.val) = plc c (32 - t.val) from by show plc c (33 - (1 + t.val)) = _; congr 1; omega]

theorem chunk_13 (t : Fin k0_t3_loop.trips) (inb : ∀ a, k0_off13 (posW c) t a + S128x4096.size a ≤ S4096x8192.size a) :
    ((Memref.whole main_v31).slice (Rect.unit (s := S4096x8192) (k0_off13 (posW c) t) S128x4096.size inb) (fun _ => rfl) : Memref sig .tc .hbm S128x4096 .bf16)
      = chunkM (place true c (1 + t.val)) true := by
  have ht : t.val < 31 := lt_of_lt_of_eq t.isLt trips3
  refine chunk_of ((off13_eq c t).trans ?_) inb
  rw [show place true c (1 + t.val) = plc c t.val from Fin.ext (by show ((iv c).val + (31 + (1 + t.val))) % 32 = ((iv c).val + t.val) % 32; omega)]

theorem q_next0 (s : ℕ) : k0_pay11 (osc I c) (k0_pay9 (k0_pay6 (isc I c) (ag I false s (pred false c))) (k0_pay7 (isc I c) (ag I false s (pred false c))) k0_pay8) (k0_pay10 (k0_pay5 (isc I c) (ag I false s (pred false c))))
    = qv I false (1 + s) c := by rw [Nat.add_comm 1 s]; rfl
theorem q_next1 (s : ℕ) : k0_pay16 (osc I c) (k0_pay12 (isc I c) (ag I true s (pred true c))) (k0_pay13 (isc I c) (ag I true s (pred true c))) (k0_pay15 (k0_pay13 (isc I c) (ag I true s (pred true c))) (k0_pay14 (isc I c) (ag I true s (pred true c))))
    = qv I true (1 + s) c := by rw [Nat.add_comm 1 s]; rfl

set_option maxHeartbeats 2000000 in
theorem ag_body (h3 : k0_chk3 (posW c)) (h2 : k0_chk2 (devW (succ false c))) (h1 : k0_chk1 (devW (succ true c)))
    (t : Fin k0_t3_loop.trips) (u : Unit) :
    iprop(ctx I K ∗ agI I c t.val)
      ⊢ wp frame (wpE (defs₀ (F := F)) 𝒱₀ (c : Thread nD τ) none) Set.univ
          (t3B (posW c) h3 (devW (succ false c)) h2 (devW (succ true c)) h1 (isc I c) (osc I c) t u) (fun _ => agI I c (t.val + 1)) := by
  have ht : t.val < 31 := lt_of_lt_of_eq t.isLt trips3
  unfold t3B k0_t3_body
  simp only [k0_part3_eq_skeleton, k0_part4_eq_skeleton, k0_part5_eq_skeleton, k0_part6_eq_skeleton, k0_part7_eq_skeleton, k0_part8_eq_skeleton, k0_part3_skel, k0_part4_skel, k0_part5_skel, k0_part6_skel, k0_part7_skel, k0_part8_skel, semSignalWord, semWaitWord, Prog.lift, Prog.bind_op, Prog.bind_ret, Prog.pure_eq_ret, Prog.bind_assoc, sem11_0, sem11_1, sem12_0, sem12_1, sem13, sem14, sem15_0, sem15_1, one_toInt]
  unfold agI agDir
  iintro ⟨#Hc, ⟨T0, C0, P0, G0, A0, S0, Q0, Z0, Y0⟩, ⟨T1, C1, P1, G1, A1, S1, Q1, Z1, Y1⟩, HO⟩
  ihave A0 := (agHand_at I c false ht) $$ A0
  ihave A1 := (agHand_at I c true ht) $$ A1
  iapply (credit_gate I K c agrM t.val (30 + (t.val - 1)) (30 + t.val) (31 + t.val) (cond3_iff t) (fun h => by omega) (fun h => ⟨by omega, by omega⟩)
      (fun b => agGate c b t.val) (fun b h => by show agGate c b t.val ⊢ _; unfold agGate; rw [if_pos h, h])
      (fun b h => ag_payload_credit I c b h)
      (wpE_semWait_eq 𝒱₀ (c : Thread nD τ) none Set.univ) (wpE_semWait_eq 𝒱₀ (c : Thread nD τ) none Set.univ)
      (fun b h => ag_may c (k := credit b) (161 + 2 * t.val) (by omega) (by simp only [levOf]; split <;> omega)
        (by omega) (by omega) (by omega) (by omega)) (O := OW c (31 + t.val) (31 + t.val) (30 + min t.val 30) (30 + min t.val 30) 5))
    $$ [C0 C1 G0 G1 HO]
  · isplitr; · iexact Hc
    isplitl [C0]; · iexact C0
    isplitl [C1]; · iexact C1
    isplitl [G0]; · iexact G0
    isplitl [G1]; · iexact G1
    iexact HO
  iintro ⟨C0, C1, G0, G1, HO⟩
  simp only [Prog.bind_op, Prog.bind_ret]
  ihave C0 := (cst_reached c false (30 + t.val)) $$ C0
  icases C0 with ⟨C0, #R0⟩
  ihave C1 := (cst_reached c true (30 + t.val)) $$ C1
  icases C1 with ⟨C1, #R1⟩
  iapply (ring_send I K c false (31 + t.val) (by omega) (sm := (4 : Fin 20)) (rm := (6 : Fin 20)) rfl rfl (dev_eq (dev8_val _) _) (M := agrM) rfl (X := ag I false t.val c) (R := reached ER (cell (credit false) c) (30 + t.val)) (src := agsM false) (dst := agrM false) (agr_credit false)
      (OW c (31 + t.val + 1) (31 + t.val) (30 + min t.val 30) (30 + min t.val 30) 5) (OW_a₁ c (by omega)) (ag_pay_send I c false) (ag_pay_recv I c false)) $$ [T0 A0 G0 HO]
  · isplitr; · iexact Hc
    isplitl [T0]; · iexact T0
    isplitl [A0]; · iexact A0
    isplitl [G0]; · iexact G0
    isplitr; · iexact R0
    iexact HO
  iintro ⟨T0, HO⟩
  iapply (ring_send I K c true (31 + t.val) (by omega) (sm := (5 : Fin 20)) (rm := (7 : Fin 20)) rfl rfl (dev_eq (dev9_val _) _) (M := agrM) rfl (X := ag I true t.val c) (R := reached ER (cell (credit true) c) (30 + t.val)) (src := agsM true) (dst := agrM true) (agr_credit true)
      (OW c (31 + t.val + 1) (31 + t.val + 1) (30 + min t.val 30) (30 + min t.val 30) 5) (OW_a₂ c (by omega)) (ag_pay_send I c true) (ag_pay_recv I c true)) $$ [T1 A1 G1 HO]
  · isplitr; · iexact Hc
    isplitl [T1]; · iexact T1
    isplitl [A1]; · iexact A1
    isplitl [G1]; · iexact G1
    isplitr; · iexact R1
    iexact HO
  iintro ⟨T1, HO⟩
  iapply (ring_waits I K c false (31 + t.val) (by omega) (O := OW c (31 + t.val + 1) (31 + t.val + 1) (30 + min t.val 30) (30 + min t.val 30) 5)
      (sm := (4 : Fin 20)) (rm := (6 : Fin 20)) rfl rfl (p := agrM false) (p' := agsM false) (q := agsM false) (q' := agrM false) (ags_credit false) (agr_credit false)
      (ag_may c (k := send false) 0 (by omega) (by simp only [levOf]; omega) (by omega) (by omega) (by omega) (by omega))
      (ag_may c (k := recv false) (162 + 2 * t.val) (by omega) (by simp only [levOf]; split <;> omega) (by omega) (by omega) (by omega) (by omega))) $$ [T0 HO]
  · isplitr; · iexact Hc
    isplitl [T0]; · iexact T0
    iexact HO
  iintro ⟨T0, HO, #RR0, A0, V0⟩
  iapply (ring_waits I K c true (31 + t.val) (by omega) (O := OW c (31 + t.val + 1) (31 + t.val + 1) (30 + min t.val 30) (30 + min t.val 30) 5)
      (sm := (5 : Fin 20)) (rm := (7 : Fin 20)) rfl rfl (p := agrM true) (p' := agsM true) (q := agsM true) (q' := agrM true) (ags_credit true) (agr_credit true)
      (ag_may c (k := send true) 0 (by omega) (by simp only [levOf]; omega) (by omega) (by omega) (by omega) (by omega))
      (ag_may c (k := recv true) (162 + 2 * t.val) (by omega) (by simp only [levOf]; split <;> omega) (by omega) (by omega) (by omega) (by omega))) $$ [T1 HO]
  · isplitr; · iexact Hc
    isplitl [T1]; · iexact T1
    iexact HO
  iintro ⟨T1, HO, #RR1, A1, V1⟩
  ihave A0 := (ag_payload_send I c false) $$ A0
  ihave A1 := (ag_payload_send I c true) $$ A1
  ihave V0 := (ag_payload_recv I c false) $$ V0
  ihave V1 := (ag_payload_recv I c true) $$ V1
  icases V0 with ⟨V0, #CR0⟩
  icases V1 with ⟨V1, #CR1⟩
  ihave Z0 := (peel (show 1 + t.val < 32 by omega) _) $$ Z0
  icases Z0 with ⟨N0, Z0⟩
  iapply (load_block c) $$ V0
  iintro V0
  iapply (q_push I K c false (1 + t.val) (by omega) (by rfl) (w := k0_pay11 (osc I c) (k0_pay9 (k0_pay6 (isc I c) (ag I false t.val (pred false c))) (k0_pay7 (isc I c) (ag I false t.val (pred false c))) k0_pay8) (k0_pay10 (k0_pay5 (isc I c) (ag I false t.val (pred false c))))) (q_next0 I c t.val) (sm := (8 : Fin 20)) rfl (src := qM false) rfl (chunk_12 c t _)) $$ [S0 Q0 N0]
  · isplitr; · iexact Hc
    isplitl [S0]; · iexact S0
    isplitl [Q0]; · iexact Q0
    iexact N0
  iintro S0
  ihave Z1 := (peel (show 1 + t.val < 32 by omega) _) $$ Z1
  icases Z1 with ⟨N1, Z1⟩
  iapply (load_block c) $$ V1
  iintro V1
  iapply (q_push I K c true (1 + t.val) (by omega) (by rfl) (w := k0_pay16 (osc I c) (k0_pay12 (isc I c) (ag I true t.val (pred true c))) (k0_pay13 (isc I c) (ag I true t.val (pred true c))) (k0_pay15 (k0_pay13 (isc I c) (ag I true t.val (pred true c))) (k0_pay14 (isc I c) (ag I true t.val (pred true c))))) (q_next1 I c t.val) (sm := (9 : Fin 20)) rfl (src := qM true) rfl (chunk_13 c t _)) $$ [S1 Q1 N1]
  · isplitr; · iexact Hc
    isplitl [S1]; · iexact S1
    isplitl [Q1]; · iexact Q1
    iexact N1
  iintro S1
  by_cases hl : t.val < 30
  · rw [dif_pos ((cond4_iff t).mpr hl)]
    simp only [Prog.bind_op, Prog.bind_ret]
    iapply (load_block c) $$ V0
    iintro V0
    iapply (load_block c) $$ A0
    iintro A0
    iapply (store_block c) $$ A0
    iintro A0
    iapply (load_block c) $$ V1
    iintro V1
    iapply (load_block c) $$ A1
    iintro A1
    iapply (store_block c) $$ A1
    iintro A1
    ihave V0 := (any_of_own c (agrM false) _) $$ V0
    ihave V1 := (any_of_own c (agrM true) _) $$ V1
    iapply (q_wait I K c false (1 + t.val) (by omega) (sm := (8 : Fin 20)) rfl (src := qM false) (by rw [chunk_12]; exact chunk_credit _ _) (O := OW c (31 + t.val + 1) (31 + t.val + 1) (30 + min t.val 30) (30 + min t.val 30) 5)
        (ag_may c (k := store false) 0 (by omega) (by simp only [levOf]; omega) (by omega) (by omega) (by omega) (by omega))) $$ [S0 HO]
    · isplitr; · iexact Hc
      isplitl [S0]; · iexact S0
      iexact HO
    iintro ⟨S0, HO, D0, Q0⟩
    ihave Y0 := (unpeel (1 + t.val) (fun t => own c (chunkM (place false c t) false) (outT I false t c))) $$ [Y0 D0]
    · isplitl [Y0]; · iexact Y0
      iexact D0
    iapply (q_wait I K c true (1 + t.val) (by omega) (sm := (9 : Fin 20)) rfl (src := qM true) (by rw [chunk_13]; exact chunk_credit _ _) (O := OW c (31 + t.val + 1) (31 + t.val + 1) (30 + min t.val 30) (30 + min t.val 30) 5)
        (ag_may c (k := store true) 0 (by omega) (by simp only [levOf]; omega) (by omega) (by omega) (by omega) (by omega))) $$ [S1 HO]
    · isplitr; · iexact Hc
      isplitl [S1]; · iexact S1
      iexact HO
    iintro ⟨S1, HO, D1, Q1⟩
    ihave Y1 := (unpeel (1 + t.val) (fun t => own c (chunkM (place true c t) true) (outT I true t c))) $$ [Y1 D1]
    · isplitl [Y1]; · iexact Y1
      iexact D1
    rw [dif_pos ((cond5_iff t).mpr hl)]
    rw [show min t.val 30 = t.val by omega, show min (t.val + 1) 30 = t.val + 1 by omega]
    iapply (credit_give I K c false (30 + t.val) (by omega) (sm := (0 : Fin 3)) rfl (dev_eq (dev10_val _) _) (OW c (31 + t.val + 1) (31 + t.val + 1) (30 + t.val + 1) (30 + t.val) 5) (OW_b₁ c (by omega))) $$ [P0 V0 HO]
    · isplitr; · iexact Hc
      isplitl [P0]; · iexact P0
      isplitl [V0]
      · iapply (ag_pay_credit I c false t.val)
        isplitl [V0]; · iexact V0
        iexact RR0
      isplitr; · iexact CR0
      iexact HO
    iintro ⟨P0, HO⟩
    iapply (credit_give I K c true (30 + t.val) (by omega) (sm := (1 : Fin 3)) rfl (dev_eq (dev11_val _) _) (OW c (31 + t.val + 1) (31 + t.val + 1) (30 + t.val + 1) (30 + t.val + 1) 5) (OW_b₂ c (by omega))) $$ [P1 V1 HO]
    · isplitr; · iexact Hc
      isplitl [P1]; · iexact P1
      isplitl [V1]
      · iapply (ag_pay_credit I c true t.val)
        isplitl [V1]; · iexact V1
        iexact RR1
      isplitr; · iexact CR1
      iexact HO
    iintro ⟨P1, HO⟩
    rw [wp_ret]; imodintro
    unfold agGate agHand
    rw [if_neg (by omega), if_neg (by omega), if_pos (by omega), if_neg (by omega), if_neg (by omega), if_pos (by omega)]
    isplitl [T0 C0 P0 A0 S0 Q0 Z0 Y0]
    · rw [show 30 + (t.val + 1 - 1) = 30 + t.val by omega]
      isplitl [T0]; · iexact T0
      isplitl [C0]; · iexact C0
      isplitl [P0]; · iexact P0
      isplitr; · iempintro
      isplitl [A0]; · iexact A0
      isplitl [S0]; · iexact S0
      isplitl [Q0]; · iexact Q0
      isplitl [Z0]; · iexact Z0
      iexact Y0
    isplitl [T1 C1 P1 A1 S1 Q1 Z1 Y1]
    · rw [show 30 + (t.val + 1 - 1) = 30 + t.val by omega]
      isplitl [T1]; · iexact T1
      isplitl [C1]; · iexact C1
      isplitl [P1]; · iexact P1
      isplitr; · iempintro
      isplitl [A1]; · iexact A1
      isplitl [S1]; · iexact S1
      isplitl [Q1]; · iexact Q1
      isplitl [Z1]; · iexact Z1
      iexact Y1
    iexact HO
  · rw [dif_neg (fun h => hl ((cond4_iff t).mp h))]
    simp only [Prog.bind_op, Prog.bind_ret]
    ihave V0 := (any_of_own c (agrM false) _) $$ V0
    ihave V1 := (any_of_own c (agrM true) _) $$ V1
    ihave A0 := (any_of_own c (agsM false) _) $$ A0
    ihave A1 := (any_of_own c (agsM true) _) $$ A1
    iapply (q_wait I K c false (1 + t.val) (by omega) (sm := (8 : Fin 20)) rfl (src := qM false) (by rw [chunk_12]; exact chunk_credit _ _) (O := OW c (31 + t.val + 1) (31 + t.val + 1) (30 + min t.val 30) (30 + min t.val 30) 5)
        (ag_may c (k := store false) 0 (by omega) (by simp only [levOf]; omega) (by omega) (by omega) (by omega) (by omega))) $$ [S0 HO]
    · isplitr; · iexact Hc
      isplitl [S0]; · iexact S0
      iexact HO
    iintro ⟨S0, HO, D0, Q0⟩
    ihave Y0 := (unpeel (1 + t.val) (fun t => own c (chunkM (place false c t) false) (outT I false t c))) $$ [Y0 D0]
    · isplitl [Y0]; · iexact Y0
      iexact D0
    iapply (q_wait I K c true (1 + t.val) (by omega) (sm := (9 : Fin 20)) rfl (src := qM true) (by rw [chunk_13]; exact chunk_credit _ _) (O := OW c (31 + t.val + 1) (31 + t.val + 1) (30 + min t.val 30) (30 + min t.val 30) 5)
        (ag_may c (k := store true) 0 (by omega) (by simp only [levOf]; omega) (by omega) (by omega) (by omega) (by omega))) $$ [S1 HO]
    · isplitr; · iexact Hc
      isplitl [S1]; · iexact S1
      iexact HO
    iintro ⟨S1, HO, D1, Q1⟩
    ihave Y1 := (unpeel (1 + t.val) (fun t => own c (chunkM (place true c t) true) (outT I true t c))) $$ [Y1 D1]
    · isplitl [Y1]; · iexact Y1
      iexact D1
    rw [dif_neg (fun h => hl ((cond5_iff t).mp h))]
    rw [show min t.val 30 = 30 by omega, show min (t.val + 1) 30 = 30 by omega]
    rw [wp_ret]; imodintro
    unfold agGate agHand
    rw [if_neg (by omega), if_pos (by omega), if_neg (by omega), if_neg (by omega), if_pos (by omega), if_neg (by omega)]
    isplitl [T0 C0 P0 A0 S0 Q0 Z0 Y0 V0]
    · rw [show 30 + (t.val + 1 - 1) = 30 + t.val by omega]
      isplitl [T0]; · iexact T0
      isplitl [C0]; · iexact C0
      isplitl [P0]; · iexact P0
      isplitl [V0]; · iexact V0
      isplitl [A0]; · iexact A0
      isplitl [S0]; · iexact S0
      isplitl [Q0]; · iexact Q0
      isplitl [Z0]; · iexact Z0
      iexact Y0
    isplitl [T1 C1 P1 A1 S1 Q1 Z1 Y1 V1]
    · rw [show 30 + (t.val + 1 - 1) = 30 + t.val by omega]
      isplitl [T1]; · iexact T1
      isplitl [C1]; · iexact C1
      isplitl [P1]; · iexact P1
      isplitl [V1]; · iexact V1
      isplitl [A1]; · iexact A1
      isplitl [S1]; · iexact S1
      isplitl [Q1]; · iexact Q1
      isplitl [Z1]; · iexact Z1
      iexact Y1
    iexact HO

end Cert.Proof.KernelIdealRun

end
-- ==== Proof.KernelIdealBegin.lean ====
/-
  The beginning of the kernel: the neighbours' buffers are handed over at the barrier, the first partial sums are computed,
  and the loops are run from the state before them to the state after.
-/
module

public import proofs.«01_k».proof.Proof.KernelIdealMx
public import proofs.«01_k».proof.Proof.KernelIdealAg

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kind

variable {F : FTy → Type} [FloatOps F]

local notation "𝕄" => MT nD τ sig ℕ (Elt F) ℕ UU ℕ

/-- The device's own words: its place, its right and its left neighbour. -/
abbrev idxM : Memref sig .tc .smem S3 .i32 := Memref.whole cc0_stg0_0

/-- Their contents. -/
def idxX (c : Dev nD) : S3.Idx → Elt F .i32 := fun i => (![posW c, devW (succ false c), devW (succ true c)] : Fin 3 → BitVec 32) (i 0)

abbrev p9B : Prog (TpuEff nD τ sig (Elt F) Λ₀ .tc) (Σ' (v0 : Elt F .i32) (_ : k0_chk3 v0) (v1 : Elt F .i32) (_ : k0_chk2 v1) (v2 : Elt F .i32) (_ : k0_chk1 v2), IVec S128x4096 16) :=
  k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v31) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17

variable (I : Ins F) (K : GSem nD τ sig → ℕ) (c : Dev nD) {α : Type} {Q : α → sProp (MT nD τ sig ℕ (Elt F) ℕ UU ℕ)}

theorem load_idx (k : Fin 3) {off : Fin 1 → ℕ} (ho : off = ![k.val]) {h : ∀ a, off a + S1.size a ≤ S3.size a}
    {hl : (idxM).view.LoadsAt (Rect.unit (s := S3) off S1.size h).toLoadRect}
    {kt : (S1.Idx → Elt F .i32) → Prog (TpuEff nD τ sig (Elt F) Λ₀ .tc) α} :
    (own c idxM (idxX c) : sProp 𝕄)
      ⊢ iprop((own c idxM (idxX c) -∗ wp frame (wpE (defs₀ (F := F)) 𝒱₀ (c : Thread nD τ) none) Set.univ (kt (fun _ => (![posW c, devW (succ false c), devW (succ true c)] : Fin 3 → BitVec 32) k)) Q)
        -∗ wp frame (wpE (defs₀ (F := F)) 𝒱₀ (c : Thread nD τ) none) Set.univ (.op (.load idxM (Rect.unit (s := S3) off S1.size h).toLoadRect hl) kt) Q) := by
  have h' := load_own (sp := .smem) c (Q := Q) (m := idxM) (hl := hl) (X := idxX c) (kt := kt)
  rw [show (fun x => idxX c ((Rect.unit (s := S3) off S1.size h).toLoadRect.idx x)) = (fun _ => ((![posW c, devW (succ false c), devW (succ true c)] : Fin 3 → BitVec 32) k : Elt F .i32)) from by
    funext x
    unfold idxX
    congr 1
    apply Fin.ext
    subst ho
    have : (x 0).val < 1 := (x 0).isLt
    show k.val + 1 * (x 0).val = k.val
    omega] at h'
  exact h'

/-- What a device brings to the barrier, -/
def barPre : sProp 𝕄 :=
  iprop(anyOwns c (recvM false) ∗ anyOwns c (recvM true) ∗ anyOwns c (agrM false) ∗ anyOwns c (agrM true)
    ∗ reached ER (cell (recv false) c) 0 ∗ reached ER (cell (recv true) c) 0
    ∗ atPos ER (cell bar c) 0 ∅ 0 ∗ cred (tallyAt (cell bar c) 0 2)
    ∗ dutyTok ER (cell bar (pred false c)) 0 false ∗ dutyTok ER (cell bar (pred true c)) 0 true
    ∗ reached ER (cell bar (pred false c)) 0 ∗ reached ER (cell bar (pred true c)) 0)
/-- and what it takes away. -/
def barPost : sProp 𝕄 :=
  iprop(atPos ER (cell bar c) 1 ∅ 0 ∗ gate false c recvM 0 ∗ gate true c recvM 0 ∗ anyOwns (succ false c) (agrM false) ∗ anyOwns (succ true c) (agrM true))

theorem bar_pay (u : Bool) : iprop(anyOwns c (recvM u) ∗ anyOwns c (agrM u) ∗ reached ER (cell (recv u) c) 0) ⊢ pay I bar (pred u c) 0 u := by
  show _ ⊢ iprop(anyOwns (succ u (pred u c)) (recvM u) ∗ anyOwns (succ u (pred u c)) (agrM u) ∗ reached ER (cell (recv u) (succ u (pred u c))) 0)
  rw [succ_pred]

theorem two_toInt : (2#32).toInt = 2 := by decide
theorem barSem : (SemArray.scalar (sig.barrier 0 rfl) : Sems sig S_).sem = (2 : Fin 3) := rfl

theorem acc_first0 (h : ∀ a, k0_off1 (posW c) a + S128x128.size a ≤ S4096x128.size a) :
    k0_pay19 (rows I c (k0_off1 (posW c)) h) (wl I c) = acc I false 0 c := by
  rw [rows_congr I c (off1_eq c) h (rows_inb (iv c).isLt)]; rfl
theorem acc_first1 (h : ∀ a, k0_off1 (posW c) a + S128x128.size a ≤ S4096x128.size a) :
    k0_pay21 (k0_pay20 (rows I c (k0_off1 (posW c)) h) (wr I c)) = acc I true 0 c := by
  rw [rows_congr I c (off1_eq c) h (rows_inb (iv c).isLt)]; rfl

set_option maxHeartbeats 1000000 in
theorem part9_run {kt : _ → Prog (TpuEff nD τ sig (Elt F) Λ₀ .tc) α} :
    iprop(ctx I K ∗ own c idxM (idxX c) ∗ own c xM (I.x c) ∗ own c wM (I.w c) ∗ anyOwns c (accM false) ∗ barPre c ∗ oweE c (O₀ c))
      ⊢ iprop(((own c idxM (idxX c) ∗ own c xM (I.x c) ∗ own c wM (I.w c) ∗ own c (accM false) (acc I false 0 c) ∗ barPost c ∗ oweE c (OW c 0 0 0 0 0))
            -∗ wp frame (wpE (defs₀ (F := F)) 𝒱₀ (c : Thread nD τ) none) Set.univ (kt ⟨posW c, chk3 c, devW (succ false c), chk2 _, devW (succ true c), chk1 _, k0_pay20 (rows I c (k0_off1 (posW c)) (k0_off1_inb (posW c) (chk3 c))) (wr I c)⟩) Q)
        -∗ wp frame (wpE (defs₀ (F := F)) 𝒱₀ (c : Thread nD τ) none) Set.univ (p9B >>= kt) Q) := by
  unfold p9B
  simp only [k0_part9_eq_skeleton, k0_part9_skel, smemLoad, smemLoadElt, semSignalWord, semWaitWord, Prog.lift, Prog.bind_op, Prog.bind_ret, Prog.pure_eq_ret, Prog.bind_assoc, one_toInt, two_toInt]
  unfold barPre barPost
  iintro ⟨#Hc, Hi, Hx, Hw, Ha, ⟨V0, V1, G0, G1, #R0, #R1, Hat, Hcr, D0, D1, #B0, #B1⟩, HO⟩ Hk
  iapply (load_idx c 0 rfl) $$ Hi
  iintro Hi
  simp only [Matrix.cons_val]
  simp only [wp_assume_of _ _ _ _ (d := k0_chk3.dec _) (chk3 c)]
  iapply (load_idx c 1 rfl) $$ Hi
  iintro Hi
  simp only [Matrix.cons_val]
  simp only [wp_assume_of _ _ _ _ (d := k0_chk2.dec _) (chk2 (succ false c))]
  iapply (load_idx c 2 rfl) $$ Hi
  iintro Hi
  simp only [Matrix.cons_val]
  simp only [wp_assume_of _ _ _ _ (d := k0_chk1.dec _) (chk1 (succ true c))]
  rw [dev_eq (dev1_val (succ true c)), dev_eq (dev2_val (succ false c))]
  iapply (step_signal I K c (k := bar) false (by simp [duts]) rfl (d := pred false c) (sem := (2 : Fin 3)) rfl 0 0 (by decide) (OW c 0 0 0 0 0 + tallyAt (cell bar (pred true c)) 0 1) rfl) $$ [HO D0 V0 G0]
  · isplitr; · iexact Hc
    isplitl [HO]; · iexact HO
    isplitl [D0]; · iexact D0
    isplitl [V0 G0]
    · iapply (bar_pay I c false)
      isplitl [V0]; · iexact V0
      isplitl [G0]; · iexact G0
      iexact R0
    iexact B0
  iintro HO
  iapply (step_signal I K c (k := bar) true (by simp [duts]) rfl (d := pred true c) (sem := (2 : Fin 3)) rfl 0 0 (by decide) (OW c 0 0 0 0 0) rfl) $$ [HO D1 V1 G1]
  · isplitr; · iexact Hc
    isplitl [HO]; · iexact HO
    isplitl [D1]; · iexact D1
    isplitl [V1 G1]
    · iapply (bar_pay I c true)
      isplitl [V1]; · iexact V1
      isplitl [G1]; · iexact G1
      iexact R1
    iexact B1
  iintro HO
  iapply (step_bar I K c (O := OW c 0 0 0 0 0) (wpE_semWait_eq 𝒱₀ (c : Thread nD τ) none Set.univ)
      (rs_may c (k := bar) 1 (by omega) (by simp only [levOf]; omega) (by omega) (by omega) (by omega) (by omega) (by omega))) $$ [Hcr HO Hat]
  · isplitr; · iexact Hc
    isplitl [Hcr]; · iexact Hcr
    isplitl [HO]; · iexact HO
    iexact Hat
  iintro ⟨HO, Hat, N0, N1⟩
  ihave N0 := (show pay I bar c 0 false ⊢ iprop(anyOwns (succ false c) (recvM false) ∗ anyOwns (succ false c) (agrM false) ∗ reached ER (cell (recv false) (succ false c)) 0) from .rfl) $$ N0
  ihave N1 := (show pay I bar c 0 true ⊢ iprop(anyOwns (succ true c) (recvM true) ∗ anyOwns (succ true c) (agrM true) ∗ reached ER (cell (recv true) (succ true c)) 0) from .rfl) $$ N1
  icases N0 with ⟨V0, G0, #S0⟩
  icases N1 with ⟨V1, G1, #S1⟩
  iapply (load_x I c) $$ Hx
  iintro Hx
  iapply (load_wl I c) $$ Hw
  iintro Hw
  ihave Ha := (show (anyOwns c (accM false) : sProp 𝕄) ⊢ iprop(∃ X, own c (accM false) X) from .rfl) $$ Ha
  icases Ha with ⟨%X, Ha⟩
  iapply (load_block c) $$ Ha
  iintro Ha
  iapply (store_block c) $$ Ha
  iintro Ha
  ihave Ha := (own_congr c (accM false) (acc_first0 I c (k0_off1_inb (posW c) (chk3 c)))) $$ Ha
  iapply (load_x I c) $$ Hx
  iintro Hx
  iapply (load_wr I c) $$ Hw
  iintro Hw
  iapply Hk
  isplitl [Hi]; · iexact Hi
  isplitl [Hx]; · iexact Hx
  isplitl [Hw]; · iexact Hw
  isplitl [Ha]; · iexact Ha
  isplitr [HO]
  · unfold gate
    isplitl [Hat]; · iexact Hat
    isplitl [V0]
    · isplitl [V0]; · iexact V0
      iexact S0
    isplitl [V1]
    · isplitl [V1]; · iexact V1
      iexact S1
    isplitl [G0]; · iexact G0
    iexact G1
  iexact HO

/-- A step that keeps what is persistent. -/
theorem keep {P C : sProp (MT nD τ sig ℕ (Elt F) ℕ UU ℕ)} [BI.Persistent C] {p : Prog (TpuEff nD τ sig (Elt F) Λ₀ .tc) α}
    (h : iprop(C ∗ P) ⊢ wp frame (wpE (defs₀ (F := F)) 𝒱₀ (c : Thread nD τ) none) Set.univ p Q) : iprop(C ∗ P) ⊢ wp frame (wpE (defs₀ (F := F)) 𝒱₀ (c : Thread nD τ) none) Set.univ p (fun a => iprop(C ∗ Q a)) := by
  have h2 : iprop(C ∗ P) ⊢ iprop(C ∗ wp frame (wpE (defs₀ (F := F)) 𝒱₀ (c : Thread nD τ) none) Set.univ p Q) := by
    iintro ⟨#HC, HP⟩
    isplitr; · iexact HC
    iapply h
    isplitr; · iexact HC
    iexact HP
  exact BIBase.Entails.trans h2 (Sem.wp_frame_l frame _ Set.univ)

/-- The reduce-scatter's loop, -/
theorem loop1 (v28 : IVec S128x4096 16) {kk : Unit → Prog (TpuEff nD τ sig (Elt F) Λ₀ .tc) α} :
    iprop(ctx I K ∗ rsI I c 0)
      ⊢ iprop((rsI I c 31 -∗ wp frame (wpE (defs₀ (F := F)) 𝒱₀ (c : Thread nD τ) none) Set.univ (kk ⟨⟩) Q)
        -∗ wp frame (wpE (defs₀ (F := F)) 𝒱₀ (c : Thread nD τ) none) Set.univ (Scf.Loop.for k0_t1_loop k0_t1_ok ⟨⟩ (t1B (posW c) (chk3 c) (devW (succ false c)) (chk2 _) (devW (succ true c)) (chk1 _) v28) >>= kk) Q) := by
  have h := Scf.wp_for_bind frame (wpE (defs₀ (F := F)) 𝒱₀ (c : Thread nD τ) none) Set.univ k0_t1_loop.lb k0_t1_loop.ub k0_t1_loop.st k0_t1_ok ()
    (t1B (F := F) (posW c) (chk3 c) (devW (succ false c)) (chk2 _) (devW (succ true c)) (chk1 _) v28) (fun k _ => iprop(ctx I K ∗ rsI I c k))
    (fun k u => keep (Q := fun _ => rsI I c (k.val + 1)) c (rs_body I K c (chk3 c) (chk2 _) (chk1 _) v28 k u)) (kk := kk) (Q := Q)
  iintro H Hk
  iapply h $$ H
  iintro %u ⟨-, H⟩
  iapply Hk
  iapply (show rsI I c k0_t1_loop.trips ⊢ rsI I c 31 by rw [trips1]) $$ H

/-- the exchange's -/
theorem loop2 (v60 : F .f32) {kk : F .f32 → Prog (TpuEff nD τ sig (Elt F) Λ₀ .tc) α} :
    iprop(ctx I K ∗ mxI I c 0 v60)
      ⊢ iprop((∀ v, mxI I c 5 v -∗ wp frame (wpE (defs₀ (F := F)) 𝒱₀ (c : Thread nD τ) none) Set.univ (kk v) Q)
        -∗ wp frame (wpE (defs₀ (F := F)) 𝒱₀ (c : Thread nD τ) none) Set.univ (Scf.Loop.for k0_t2_loop k0_t2_ok v60 (t2B (posW c) (chk3 c) v60) >>= kk) Q) := by
  have h := Scf.wp_for_bind frame (wpE (defs₀ (F := F)) 𝒱₀ (c : Thread nD τ) none) Set.univ k0_t2_loop.lb k0_t2_loop.ub k0_t2_loop.st k0_t2_ok v60
    (t2B (F := F) (posW c) (chk3 c) v60) (fun k v => iprop(ctx I K ∗ mxI I c k v))
    (fun k u => keep (Q := fun v => mxI I c (k.val + 1) v) c (mx_body I K c (chk3 c) v60 k u)) (kk := kk) (Q := Q)
  iintro H Hk
  iapply h $$ H
  iintro %u ⟨-, H⟩
  iapply Hk
  iapply (show mxI I c k0_t2_loop.trips u ⊢ mxI I c 5 u by rw [trips2]) $$ H

/-- and the all-gather's. -/
theorem loop3 {kk : Unit → Prog (TpuEff nD τ sig (Elt F) Λ₀ .tc) α} :
    iprop(ctx I K ∗ agI I c 0)
      ⊢ iprop((agI I c 31 -∗ wp frame (wpE (defs₀ (F := F)) 𝒱₀ (c : Thread nD τ) none) Set.univ (kk ⟨⟩) Q)
        -∗ wp frame (wpE (defs₀ (F := F)) 𝒱₀ (c : Thread nD τ) none) Set.univ (Scf.Loop.for k0_t3_loop k0_t3_ok ⟨⟩ (t3B (posW c) (chk3 c) (devW (succ false c)) (chk2 _) (devW (succ true c)) (chk1 _) (isc I c) (osc I c)) >>= kk) Q) := by
  have h := Scf.wp_for_bind frame (wpE (defs₀ (F := F)) 𝒱₀ (c : Thread nD τ) none) Set.univ k0_t3_loop.lb k0_t3_loop.ub k0_t3_loop.st k0_t3_ok ()
    (t3B (F := F) (posW c) (chk3 c) (devW (succ false c)) (chk2 _) (devW (succ true c)) (chk1 _) (isc I c) (osc I c)) (fun k _ => iprop(ctx I K ∗ agI I c k))
    (fun k u => keep (Q := fun _ => agI I c (k.val + 1)) c (ag_body I K c (chk3 c) (chk2 _) (chk1 _) k u)) (kk := kk) (Q := Q)
  iintro H Hk
  iapply h $$ H
  iintro %u ⟨-, H⟩
  iapply Hk
  iapply (show agI I c k0_t3_loop.trips ⊢ agI I c 31 by rw [trips3]) $$ H

end Cert.Proof.KernelIdealRun

end
-- ==== Proof.KernelIdealBody.lean ====
/-
  The kernel's whole run on one device, from what it starts with to what it ends with.
-/
module

public import proofs.«01_k».proof.Proof.KernelIdealBegin

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kind

variable {F : FTy → Type} [FloatOps F]

local notation "𝕄" => MT nD τ sig ℕ (Elt F) ℕ UU ℕ

variable (c : Dev nD)

abbrev p10B (v28 : IVec S128x4096 16) : Prog (TpuEff nD τ sig (Elt F) Λ₀ .tc) (Σ' (_ : BitVec 32) (_ : BitVec 32), F .f32) :=
  k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v31) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 (posW c) (chk3 c) (devW (succ false c)) (chk2 _) (devW (succ true c)) (chk1 _) v28

variable (I : Ins F) (K : GSem nD τ sig → ℕ) {α : Type} {Q : α → sProp (MT nD τ sig ℕ (Elt F) ℕ UU ℕ)}

theorem any_own (d : Dev nD) {sp : Space} {s : Shape} {e : EltTy} (m : Memref sig .tc sp s e) : (anyOwns d m : sProp 𝕄) ⊢ iprop(∃ X, own d m X) := .rfl

/-- A direction's cells at a round of the transfers. -/
def ringAt (r a : ℕ) : sProp 𝕄 :=
  iprop((tst false c r ∗ cst false c a ∗ pst false c a) ∗ tst true c r ∗ cst true c a ∗ pst true c a)

/-- After the reduce-scatter. -/
def midI : sProp 𝕄 :=
  iprop(own c xM (I.x c) ∗ own c wM (I.w c) ∗ anyOwns c (accM false) ∗ anyOwns c (accM true) ∗ anyOwns c (recvM false) ∗ anyOwns c (recvM true)
    ∗ own c (agsM false) (ag I false 0 c) ∗ own c (agsM true) (ag I true 0 c) ∗ ringAt c 31 30 ∗ rsSlots c 31 ∗ doneRs c ∗ oweE c (OW c 31 31 30 30 0))

set_option maxHeartbeats 1000000 in
theorem part10_run {kt : _ → Prog (TpuEff nD τ sig (Elt F) Λ₀ .tc) α} :
    iprop(ctx I K ∗ own c xM (I.x c) ∗ own c wM (I.w c) ∗ own c (accM false) (acc I false 0 c) ∗ anyOwns c (accM true) ∗ anyOwns c (agsM false) ∗ anyOwns c (agsM true)
        ∗ ringAt c 0 0 ∗ gate false c recvM 0 ∗ gate true c recvM 0 ∗ rsSlots c 0 ∗ oweE c (OW c 0 0 0 0 0))
      ⊢ iprop((∀ v34 v37, midI c I -∗ wp frame (wpE (defs₀ (F := F)) 𝒱₀ (c : Thread nD τ) none) Set.univ (kt ⟨v34, v37, k0_pay24 (acc I false 31 c) (acc I true 31 c)⟩) Q)
        -∗ wp frame (wpE (defs₀ (F := F)) 𝒱₀ (c : Thread nD τ) none) Set.univ (p10B c (k0_pay20 (rows I c (k0_off1 (posW c)) (k0_off1_inb (posW c) (chk3 c))) (wr I c)) >>= kt) Q) := by
  unfold p10B
  simp only [k0_part10_eq_skeleton, k0_part10_skel, Prog.lift, Prog.bind_op, Prog.bind_ret, Prog.pure_eq_ret, Prog.bind_assoc]
  unfold ringAt
  iintro ⟨#Hc, Hx, Hw, A0, A1, E0, E1, ⟨⟨T0, C0, P0⟩, T1, C1, P1⟩, G0, G1, Hs, HO⟩ Hk
  ihave A1 := (any_own c (accM true)) $$ A1
  icases A1 with ⟨%X, A1⟩
  iapply (load_block c) $$ A1
  iintro A1
  iapply (store_block c) $$ A1
  iintro A1
  ihave A1 := (own_congr c (accM true) (acc_first1 I c (k0_off1_inb (posW c) (chk3 c)))) $$ A1
  iapply (loop1 I K c _) $$ [Hx Hw A0 A1 T0 C0 P0 T1 C1 P1 G0 G1 Hs HO]
  · isplitr; · iexact Hc
    unfold rsI rsDir rsGate
    rw [if_pos rfl, if_pos rfl]
    isplitl [Hx]; · iexact Hx
    isplitl [Hw]; · iexact Hw
    isplitl [A0 T0 C0 P0 G0]
    · isplitl [A0]; · iexact A0
      isplitl [T0]; · iexact T0
      isplitl [C0]; · iexact C0
      isplitl [P0]; · iexact P0
      iexact G0
    isplitl [A1 T1 C1 P1 G1]
    · isplitl [A1]; · iexact A1
      isplitl [T1]; · iexact T1
      isplitl [C1]; · iexact C1
      isplitl [P1]; · iexact P1
      iexact G1
    isplitl [Hs]; · iexact Hs
    iexact HO
  iintro H
  ihave H := (show rsI I c 31 ⊢ iprop(own c xM (I.x c) ∗ own c wM (I.w c)
      ∗ (own c (accM false) (acc I false 31 c) ∗ tst false c 31 ∗ cst false c 30 ∗ pst false c 30 ∗ anyOwns c (recvM false) ∗ reached ER (cell (recv false) c) 31)
      ∗ (own c (accM true) (acc I true 31 c) ∗ tst true c 31 ∗ cst true c 30 ∗ pst true c 30 ∗ anyOwns c (recvM true) ∗ reached ER (cell (recv true) c) 31)
      ∗ rsSlots c 31 ∗ oweE c (OW c 31 31 30 30 0)) from by
    unfold rsI rsDir rsGate
    rw [if_neg (by decide), if_pos rfl, if_neg (by decide), if_pos rfl]
    exact .rfl) $$ H
  icases H with ⟨Hx, Hw, ⟨A0, T0, C0, P0, V0, #R0⟩, ⟨A1, T1, C1, P1, V1, #R1⟩, Hs, HO⟩
  iapply (load_block c) $$ A0
  iintro A0
  ihave E0 := (any_own c (agsM false)) $$ E0
  icases E0 with ⟨%X0, E0⟩
  iapply (load_block c) $$ E0
  iintro E0
  iapply (store_block c) $$ E0
  iintro E0
  iapply (load_block c) $$ A1
  iintro A1
  ihave E1 := (any_own c (agsM true)) $$ E1
  icases E1 with ⟨%X1, E1⟩
  iapply (load_block c) $$ E1
  iintro E1
  iapply (store_block c) $$ E1
  iintro E1
  iapply (load_block c) $$ A0
  iintro A0
  iapply (load_block c) $$ A1
  iintro A1
  ihave E0 := (own_congr c (agsM false) (show k0_pay22 (F := F) (acc I false 31 c) = ag I false 0 c from rfl)) $$ E0
  ihave E1 := (own_congr c (agsM true) (show k0_pay23 (F := F) (acc I true 31 c) = ag I true 0 c from rfl)) $$ E1
  ihave A0 := (any_of_own c (accM false) _) $$ A0
  ihave A1 := (any_of_own c (accM true) _) $$ A1
  iapply Hk
  unfold midI ringAt doneRs
  isplitl [Hx]; · iexact Hx
  isplitl [Hw]; · iexact Hw
  isplitl [A0]; · iexact A0
  isplitl [A1]; · iexact A1
  isplitl [V0]; · iexact V0
  isplitl [V1]; · iexact V1
  isplitl [E0]; · iexact E0
  isplitl [E1]; · iexact E1
  isplitl [T0 C0 P0 T1 C1 P1]
  · isplitl [T0 C0 P0]
    · isplitl [T0]; · iexact T0
      isplitl [C0]; · iexact C0
      iexact P0
    isplitl [T1]; · iexact T1
    isplitl [C1]; · iexact C1
    iexact P1
  isplitl [Hs]; · iexact Hs
  isplitr
  · isplitr; · iexact R0
    iexact R1
  iexact HO

/-- The cells of a step of the exchange, without its slot. -/
def mxTok (j : ℕ) : sProp 𝕄 :=
  iprop(atPos ER (cell (mxs (fk j)) c) 0 ∅ 0 ∗ reached ER (cell (mxs (fk j)) c) 0
    ∗ dutyTok ER (cell (mxs (fk j)) c) 0 false ∗ atPos ER (cell (mxr (fk j)) c) 0 ∅ 0
    ∗ dutyTok ER (cell (mxr (fk j)) (hop c (2 ^ j))) 0 false ∗ cred (tallyAt (cell (mxr (fk j)) c) 0 NX))

theorem bigSep_five (A : Fin 5 → sProp (MT nD τ sig ℕ (Elt F) ℕ UU ℕ)) :
    bigSep Finset.univ A = bigSep (Finset.Ico 0 5) fun j => A (fk j) := by
  have e : Finset.Ico 0 5 = (Finset.univ : Finset (Fin 5)).map Fin.valEmbedding := by decide
  rw [e, BI.bigSep_map]
  congr 1
  funext k
  show A k = A (fk k.val)
  rw [fk_fin]

theorem mx_todo : iprop(rsSlots c 31 ∗ bigSep (Finset.Ico 0 5) fun j => mxTok c j) ⊢ (bigSep (Finset.Ico 0 5) fun j => mxTodo c j : sProp 𝕄) := by
  have e : (rsSlots c 31 : sProp 𝕄) = bigSep (Finset.Ico 0 5) fun j => slotPay (fk j) (hop c (2 ^ j)) := by
    unfold rsSlots
    rw [bigSep_five]
    refine BI.bigSep_congr fun j hj => ?_
    rw [Finset.mem_Ico] at hj
    rw [fk_val hj.2]
    congr 2
    have : ∀ j : Fin 5, min 31 (2 ^ j.val) = 2 ^ j.val := by decide
    exact this ⟨j, hj.2⟩
  rw [e]
  have h2 : iprop((bigSep (Finset.Ico 0 5) fun j => slotPay (fk j) (hop c (2 ^ j))) ∗ (bigSep (Finset.Ico 0 5) fun j => mxTok c j))
      ⊢ (bigSep (Finset.Ico 0 5) fun j => iprop(slotPay (fk j) (hop c (2 ^ j)) ∗ mxTok c j) : sProp 𝕄) := by
    rw [BI.bigSep_sep']
  exact h2

/-- The neighbours are past the reduce-scatter. -/
theorem known_gate (b : Bool) : mxKnown c 5 ⊢ (reached ER (cell (recv b) (succ b c)) 31 : sProp 𝕄) := by
  have h : ∀ j, j < 32 → mxKnown c 5 ⊢ (doneRs (bk c j) : sProp 𝕄) := fun j hj => by
    unfold mxKnown
    have h' : (bigSep (Finset.range (2 ^ 5)) fun j => doneRs (bk c j) : sProp 𝕄) ⊢ doneRs (bk c j) :=
      BI.bigSep_elim (Φ := fun j => doneRs (bk c j)) (Finset.mem_range.mpr hj)
    exact h'
  cases b
  · refine BIBase.Entails.trans (h 31 (by decide)) ?_
    rw [show bk c 31 = succ false c from hop_congr c (by decide)]
    unfold doneRs
    iintro ⟨H, -⟩; iexact H
  · refine BIBase.Entails.trans (h 1 (by decide)) ?_
    rw [show bk c 1 = succ true c from hop_congr c (by decide)]
    unfold doneRs
    iintro ⟨-, H⟩; iexact H

/-- What a device starts with, -/
def startI : sProp 𝕄 :=
  iprop(own c idxM (idxX c) ∗ own c ringM ringX ∗ own c xM (I.x c) ∗ own c wM (I.w c)
    ∗ anyOwns c (accM false) ∗ anyOwns c (accM true) ∗ anyOwns c (agsM false) ∗ anyOwns c (agsM true) ∗ barPre c
    ∗ anyOwns c (qM false) ∗ anyOwns c (qM true) ∗ anyOwns c mxM ∗ rsSlots c 0
    ∗ ringAt c 0 0 ∗ sst c false 0 ∗ sst c true 0 ∗ (bigSep (Finset.Ico 0 5) fun j => mxTok c j)
    ∗ (bigSep (Finset.Ico 0 32) fun t => anyOwns c (chunkM (place false c t) false))
    ∗ (bigSep (Finset.Ico 0 32) fun t => anyOwns c (chunkM (place true c t) true))
    ∗ oweE c (O₀ c))

/-- its semaphores back at zero, -/
def semsI : sProp 𝕄 :=
  iprop(semVal (cell bar c) 0 ∗ (semVal (cell (send false) c) 0 ∗ semVal (cell (recv false) c) 0 ∗ semVal (cell (credit false) c) 0 ∗ semVal (cell (store false) c) 0)
    ∗ (semVal (cell (send true) c) 0 ∗ semVal (cell (recv true) c) 0 ∗ semVal (cell (credit true) c) 0 ∗ semVal (cell (store true) c) 0)
    ∗ (bigSep Finset.univ fun k : Fin 5 => semVal (cell (mxs k) c) 0) ∗ bigSep Finset.univ fun k : Fin 5 => semVal (cell (mxr k) c) 0)

/-- and what it ends with. -/
def endI : sProp 𝕄 :=
  iprop(own c idxM (idxX c) ∗ own c ringM ringX ∗ own c xM (I.x c) ∗ own c wM (I.w c)
    ∗ anyOwns c (accM false) ∗ anyOwns c (accM true) ∗ anyOwns c (recvM false) ∗ anyOwns c (recvM true)
    ∗ anyOwns c (agsM false) ∗ anyOwns c (agsM true) ∗ anyOwns c (agrM false) ∗ anyOwns c (agrM true)
    ∗ anyOwns c (qM false) ∗ anyOwns c (qM true) ∗ anyOwns c mxM ∗ (bigSep Finset.univ fun k : Fin 5 => anyOwns c (mxrM k)) ∗ semsI c
    ∗ (bigSep (Finset.Ico 0 32) fun t => own c (chunkM (place false c t) false) (outT I false t c))
    ∗ (bigSep (Finset.Ico 0 32) fun t => own c (chunkM (place true c t) true) (outT I true t c))
    ∗ oweE c 0)

theorem tst_close (b : Bool) : iprop(ctx I K ∗ tst b c 62) ⊢ (|={Set.univ}=> iprop(semVal (cell (send b) c) 0 ∗ semVal (cell (recv b) c) 0) : sProp 𝕄) := by
  unfold tst
  iintro ⟨#Hc, HS, -, HR, -, -, -⟩
  imod (step_close I K (send b) c (r := 62) (by simp only [rnds]; omega)) $$ [HS] with HS
  · isplitr; · iexact Hc
    iexact HS
  imod (step_close I K (recv b) c (r := 62) (by simp only [rnds]; omega)) $$ [HR] with HR
  · isplitr; · iexact Hc
    iexact HR
  imodintro
  isplitl [HS]; · iexact HS
  iexact HR

theorem cst_close (b : Bool) : iprop(ctx I K ∗ cst b c 60) ⊢ (|={Set.univ}=> semVal (cell (credit b) c) 0 : sProp 𝕄) := by
  unfold cst
  iintro ⟨#Hc, HS, -⟩
  iapply (step_close I K (credit b) c (r := 60) (by simp only [rnds]; omega))
  isplitr; · iexact Hc
  iexact HS

theorem sst_close (b : Bool) : iprop(ctx I K ∗ sst c b 32) ⊢ (|={Set.univ}=> semVal (cell (store b) c) 0 : sProp 𝕄) := by
  unfold sst
  iintro ⟨#Hc, HS, -⟩
  iapply (step_close I K (store b) c (r := 32) (by simp only [rnds]; omega))
  isplitr; · iexact Hc
  iexact HS

theorem mx_close : iprop(ctx I K ∗ bigSep (Finset.Ico 0 5) fun j => mxDone c j) ⊢ (|={Set.univ}=> iprop((bigSep Finset.univ fun k : Fin 5 => semVal (cell (mxs k) c) 0)
    ∗ (bigSep Finset.univ fun k : Fin 5 => semVal (cell (mxr k) c) 0) ∗ bigSep Finset.univ fun k : Fin 5 => anyOwns c (mxrM k)) : sProp 𝕄) := by
  have one : ∀ j, iprop(ctx I K ∗ mxDone c j) ⊢ (|={Set.univ}=> iprop(semVal (cell (mxs (fk j)) c) 0 ∗ semVal (cell (mxr (fk j)) c) 0 ∗ anyOwns c (mxrM (fk j))) : sProp 𝕄) := by
    intro j
    unfold mxDone
    iintro ⟨#Hc, HS, HR, HM⟩
    imod (step_close I K (mxs (fk j)) c (r := 1) (by simp only [rnds]; omega)) $$ [HS] with HS
    · isplitr; · iexact Hc
      iexact HS
    imod (step_close I K (mxr (fk j)) c (r := 1) (by simp only [rnds]; omega)) $$ [HR] with HR
    · isplitr; · iexact Hc
      iexact HR
    imodintro
    isplitl [HS]; · iexact HS
    isplitl [HR]; · iexact HR
    iexact HM
  have h1 : iprop(ctx I K ∗ bigSep (Finset.Ico 0 5) fun j => mxDone c j)
      ⊢ (bigSep (Finset.Ico 0 5) fun j => iprop(|={Set.univ}=> iprop(semVal (cell (mxs (fk j)) c) 0 ∗ semVal (cell (mxr (fk j)) c) 0 ∗ anyOwns c (mxrM (fk j)))) : sProp 𝕄) := by
    exact BI.bigSep_with_persistent fun j _ => one j
  refine BIBase.Entails.trans h1 (BIBase.Entails.trans (BI.bigSep_fupd (Finset.Ico 0 5) _) ?_)
  rw [bigSep_five, bigSep_five, bigSep_five]
  refine fupd_mono ?_
  rw [BI.bigSep_sep', BI.bigSep_sep']

set_option maxHeartbeats 4000000 in
/-- The kernel's run. -/
theorem body_run {kt : sProp (MT nD τ sig ℕ (Elt F) ℕ UU ℕ)} :
    iprop(ctx I K ∗ startI c I) ⊢ iprop((endI c I -∗ kt) -∗ wp frame (wpE (defs₀ (F := F)) 𝒱₀ (c : Thread nD τ) none) Set.univ (cc0__ar_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v31) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17) (fun _ => kt)) := by
  simp only [cc0__ar_body_eq_skeleton, cc0__ar_body_skel]
  unfold startI
  iintro ⟨#Hc, Hi, Hring, Hx, Hw, A0, A1, E0, E1, Hbar, Q0, Q1, Hm, Hs, Hra, S0, S1, Hmt, Z0, Z1, HO⟩ Hk
  iapply (part9_run I K c) $$ [Hi Hx Hw A0 Hbar HO]
  · isplitr; · iexact Hc
    isplitl [Hi]; · iexact Hi
    isplitl [Hx]; · iexact Hx
    isplitl [Hw]; · iexact Hw
    isplitl [A0]; · iexact A0
    isplitl [Hbar]; · iexact Hbar
    iexact HO
  iintro ⟨Hi, Hx, Hw, A0, Hbar, HO⟩
  unfold barPost
  icases Hbar with ⟨Hbar, V0, V1, N0, N1⟩
  dsimp only
  iapply (part10_run c I K) $$ [Hx Hw A0 A1 E0 E1 Hra V0 V1 Hs HO]
  · isplitr; · iexact Hc
    isplitl [Hx]; · iexact Hx
    isplitl [Hw]; · iexact Hw
    isplitl [A0]; · iexact A0
    isplitl [A1]; · iexact A1
    isplitl [E0]; · iexact E0
    isplitl [E1]; · iexact E1
    isplitl [Hra]; · iexact Hra
    isplitl [V0]; · iexact V0
    isplitl [V1]; · iexact V1
    isplitl [Hs]; · iexact Hs
    iexact HO
  iintro %v34 %v37 H
  unfold midI ringAt
  icases H with ⟨Hx, Hw, A0, A1, V0, V1, E0, E1, ⟨⟨T0, C0, P0⟩, T1, C1, P1⟩, Hs, #Hdone, HO⟩
  simp only [k0_part11_eq_skeleton, k0_part11_skel, k0_part12_eq_skeleton, k0_part12_skel, k0_part13_eq_skeleton, k0_part13_skel, k0_part14_eq_skeleton, k0_part14_skel, k0_part15_eq_skeleton, k0_part15_skel,
    Prog.lift, Prog.bind_op, Prog.bind_ret, Prog.pure_eq_ret, Prog.bind_assoc, sem15_0, sem15_1]
  ihave Hmt := (mx_todo c) $$ [Hs Hmt]
  · isplitl [Hs]; · iexact Hs
    iexact Hmt
  iapply (loop2 I K c (k0_pay24 (acc I false 31 c) (acc I true 31 c))) $$ [Hring Hm Hmt HO]
  · isplitr; · iexact Hc
    unfold mxI
    isplitr; · ipureintro; rfl
    isplitl [Hring]; · iexact Hring
    isplitl [Hm]; · iexact Hm
    isplitl [Hmt]; · iexact Hmt
    isplitr
    · rw [Finset.Ico_self, BI.bigSep_empty]; iempintro
    isplitr
    · unfold mxKnown
      rw [show Finset.range (2 ^ 0) = {0} from rfl, BI.bigSep_singleton, show bk c 0 = c from hop_zero c]
      iexact Hdone
    iexact HO
  iintro %v H
  unfold mxI
  icases H with ⟨%hv, Hring, Hm, -, Hmd, #Hkn, HO⟩
  subst hv
  ihave #K0 := (known_gate c false) $$ Hkn
  ihave #K1 := (known_gate c true) $$ Hkn
  iapply (load_block c) $$ E0
  iintro E0
  ihave Z0 := (peel (show 0 < 32 by decide) _) $$ Z0
  icases Z0 with ⟨D0, Z0⟩
  ihave Z1 := (peel (show 0 < 32 by decide) _) $$ Z1
  icases Z1 with ⟨D1, Z1⟩
  iapply (q_push I K c false 0 (by decide) rfl (show k0_pay35 (k0_pay28 (mx I 5 c)) (k0_pay29 (mx I 5 c) (ag I false 0 c))
      (k0_pay34 (k0_pay30 (mx I 5 c) (ag I false 0 c)) (k0_pay31 (mx I 5 c) (ag I false 0 c)) (k0_pay32 (mx I 5 c) (ag I false 0 c)) k0_pay33) = qv I false 0 c from rfl)
      (sm := (8 : Fin 20)) rfl (src := qM false) rfl (chunk_of ((off10_eq c).trans (by rw [show place false c 0 = plc c 1 from Fin.ext (by show ((iv c).val + (33 - 0)) % 32 = ((iv c).val + 1) % 32; omega)])) _)) $$ [S0 Q0 D0]
  · isplitr; · iexact Hc
    isplitl [S0]; · iexact S0
    isplitl [Q0]; · iexact Q0
    iexact D0
  iintro S0
  iapply (load_block c) $$ E1
  iintro E1
  iapply (q_push I K c true 0 (by decide) rfl (show k0_pay42 (k0_pay28 (mx I 5 c)) (k0_pay36 (k0_pay27 (mx I 5 c)) (ag I true 0 c)) (k0_pay37 (k0_pay27 (mx I 5 c)) (ag I true 0 c))
      (k0_pay40 (k0_pay37 (k0_pay27 (mx I 5 c)) (ag I true 0 c)) (k0_pay38 (k0_pay27 (mx I 5 c)) (ag I true 0 c)) (k0_pay39 (k0_pay27 (mx I 5 c)) (ag I true 0 c)))
      (k0_pay41 (k0_pay37 (k0_pay27 (mx I 5 c)) (ag I true 0 c))) = qv I true 0 c from rfl)
      (sm := (9 : Fin 20)) rfl (src := qM true) rfl (chunk_of ((off11_eq c).trans (by rw [show place true c 0 = plc c 31 from rfl])) _)) $$ [S1 Q1 D1]
  · isplitr; · iexact Hc
    isplitl [S1]; · iexact S1
    isplitl [Q1]; · iexact Q1
    iexact D1
  iintro S1
  iapply (q_wait I K c false 0 (by decide) (sm := (8 : Fin 20)) rfl (src := qM false) (by rw [chunk_of (off10_eq c)]; exact chunk_credit _ _) (O := OW c 31 31 30 30 5)
        (ag_may c (k := store false) 0 (by omega) (by simp only [levOf]; omega) (by omega) (by omega) (by omega) (by omega))) $$ [S0 HO]
  · isplitr; · iexact Hc
    isplitl [S0]; · iexact S0
    iexact HO
  iintro ⟨S0, HO, D0, Q0⟩
  iapply (q_wait I K c true 0 (by decide) (sm := (9 : Fin 20)) rfl (src := qM true) (by rw [chunk_of (off11_eq c)]; exact chunk_credit _ _) (O := OW c 31 31 30 30 5)
        (ag_may c (k := store true) 0 (by omega) (by simp only [levOf]; omega) (by omega) (by omega) (by omega) (by omega))) $$ [S1 HO]
  · isplitr; · iexact Hc
    isplitl [S1]; · iexact S1
    iexact HO
  iintro ⟨S1, HO, D1, Q1⟩
  iapply (loop3 I K c) $$ [T0 C0 P0 N0 E0 S0 Q0 Z0 D0 T1 C1 P1 N1 E1 S1 Q1 Z1 D1 HO]
  · isplitr; · iexact Hc
    unfold agI agDir agGate agHand gate
    rw [if_pos rfl, if_pos (by decide), if_pos rfl, if_pos (by decide)]
    isplitl [T0 C0 P0 N0 E0 S0 Q0 Z0 D0]
    · isplitl [T0]; · iexact T0
      isplitl [C0]; · iexact C0
      isplitl [P0]; · iexact P0
      isplitl [N0]
      · isplitl [N0]; · iexact N0
        iexact K0
      isplitl [E0]; · iexact E0
      isplitl [S0]; · iexact S0
      isplitl [Q0]; · iexact Q0
      isplitl [Z0]; · iexact Z0
      rw [show Finset.Ico 0 (1 + 0) = {0} from rfl, BI.bigSep_singleton]
      iexact D0
    isplitl [T1 C1 P1 N1 E1 S1 Q1 Z1 D1]
    · isplitl [T1]; · iexact T1
      isplitl [C1]; · iexact C1
      isplitl [P1]; · iexact P1
      isplitl [N1]
      · isplitl [N1]; · iexact N1
        iexact K1
      isplitl [E1]; · iexact E1
      isplitl [S1]; · iexact S1
      isplitl [Q1]; · iexact Q1
      isplitl [Z1]; · iexact Z1
      rw [show Finset.Ico 0 (1 + 0) = {0} from rfl, BI.bigSep_singleton]
      iexact D1
    iexact HO
  iintro H
  ihave H := (show agI I c 31 ⊢ iprop((tst false c 62 ∗ cst false c 60 ∗ pst false c 60 ∗ anyOwns c (agrM false) ∗ anyOwns c (agsM false) ∗ sst c false 32 ∗ anyOwns c (qM false)
        ∗ (bigSep (Finset.Ico 32 32) fun t => anyOwns c (chunkM (place false c t) false)) ∗ bigSep (Finset.Ico 0 32) fun t => own c (chunkM (place false c t) false) (outT I false t c))
      ∗ (tst true c 62 ∗ cst true c 60 ∗ pst true c 60 ∗ anyOwns c (agrM true) ∗ anyOwns c (agsM true) ∗ sst c true 32 ∗ anyOwns c (qM true)
        ∗ (bigSep (Finset.Ico 32 32) fun t => anyOwns c (chunkM (place true c t) true)) ∗ bigSep (Finset.Ico 0 32) fun t => own c (chunkM (place true c t) true) (outT I true t c))
      ∗ oweE c (OW c 62 62 60 60 5)) from by
    unfold agI agDir agGate agHand
    rw [if_neg (by decide), if_pos rfl, if_neg (by decide), if_neg (by decide), if_pos rfl, if_neg (by decide)]
    exact .rfl) $$ H
  rw [OW_done]
  icases H with ⟨⟨T0, C0, -, N0, E0, S0, Q0, -, Y0⟩, ⟨T1, C1, -, N1, E1, S1, Q1, -, Y1⟩, HO⟩
  rw [wp_ret]
  imod (step_close I K bar c (r := 1) (by decide)) $$ [Hbar] with B
  · isplitr; · iexact Hc
    iexact Hbar
  imod (tst_close c I K false) $$ [T0] with ⟨s0, r0⟩
  · isplitr; · iexact Hc
    iexact T0
  imod (tst_close c I K true) $$ [T1] with ⟨s1, r1⟩
  · isplitr; · iexact Hc
    iexact T1
  imod (cst_close c I K false) $$ [C0] with C0
  · isplitr; · iexact Hc
    iexact C0
  imod (cst_close c I K true) $$ [C1] with C1
  · isplitr; · iexact Hc
    iexact C1
  imod (sst_close c I K false) $$ [S0] with S0
  · isplitr; · iexact Hc
    iexact S0
  imod (sst_close c I K true) $$ [S1] with S1
  · isplitr; · iexact Hc
    iexact S1
  imod (mx_close c I K) $$ [Hmd] with ⟨M0, M1, Mr⟩
  · isplitr; · iexact Hc
    iexact Hmd
  imodintro
  iapply Hk
  unfold endI semsI
  isplitl [Hi]; · iexact Hi
  isplitl [Hring]; · iexact Hring
  isplitl [Hx]; · iexact Hx
  isplitl [Hw]; · iexact Hw
  isplitl [A0]; · iexact A0
  isplitl [A1]; · iexact A1
  isplitl [V0]; · iexact V0
  isplitl [V1]; · iexact V1
  isplitl [E0]; · iexact E0
  isplitl [E1]; · iexact E1
  isplitl [N0]; · iexact N0
  isplitl [N1]; · iexact N1
  isplitl [Q0]; · iexact Q0
  isplitl [Q1]; · iexact Q1
  isplitl [Hm]; · iexact Hm
  isplitl [Mr]; · iexact Mr
  isplitl [B s0 r0 C0 S0 s1 r1 C1 S1 M0 M1]
  · isplitl [B]; · iexact B
    isplitl [s0 r0 C0 S0]
    · isplitl [s0]; · iexact s0
      isplitl [r0]; · iexact r0
      isplitl [C0]; · iexact C0
      iexact S0
    isplitl [s1 r1 C1 S1]
    · isplitl [s1]; · iexact s1
      isplitl [r1]; · iexact r1
      isplitl [C1]; · iexact C1
      iexact S1
    isplitl [M0]; · iexact M0
    iexact M1
  isplitl [Y0]; · iexact Y0
  isplitl [Y1]; · iexact Y1
  iexact HO

end Cert.Proof.KernelIdealRun

end
-- ==== Proof.KernelIdealHost.lean ====
/-
  What the host computes before the kernel: the words of a device's place and of its two neighbours, the ring, and the scaled
  block of `w`.
-/
module

public import proofs.«01_k».proof.Proof.KernelIdealBody
public import Idealize.ShloMosaic.Lib.Claim
public import Idealize.ShloMosaic.Lib.StableHlo.RunClose
public import proofs.«01_k».proof.Proof.Gen.KernelIdeal.Regions

@[expose] public section
noncomputable section
namespace Cert.Proof.KernelIdealRun

open Cert.KernelIdeal Cert.KernelIdeal.Gen
open Idealize.ShloMosaic
open Idealize.ShloMosaic.TcCoe

variable {F : FTy → Type} [FloatOps F]
variable (m : (ℓ : Loc nD τ sig) → Buf (Elt F) ℓ) (c : Dev nD)

theorem V1_ring : V1 m c main_c_0 = (ringX : S32.Idx → Elt F .i32) := by
  unfold_abbrev_sides
  after_results_simp
  funext i
  have h : ∀ k : Fin 32, lit1 k = devW (rg k) := by decide +kernel
  have e : (S32.rowMajor i : Fin 32) = ⟨(i 0).val, (i 0).isLt⟩ := Fin.ext (Shape.rowMajor_val_one i)
  refine (h _).trans ?_
  show devW (rg (S32.rowMajor i : Fin 32)) = devW (rg ⟨(i 0).val, (i 0).isLt⟩)
  exact congrArg (fun k => devW (rg k)) e

/-- The place's word as the host computes it. -/
def posE (c : Dev nD) : S_.Idx → BitVec 32 :=
  shapeCast S_ (Host.dynamicSlice S1 (fun i : S32.Idx => lit0 (S32.rowMajor i))
    (fun k => BitVec.toInt
      ((![select (cmpi CmpIPredicate.slt (Host.remui (Host.divui (constantI S_ 32 c.word) (constantI S_ 32 1#32)) (constantI S_ 32 32#32)) (constantI S_ 32 0#32))
            (addi (Host.remui (Host.divui (constantI S_ 32 c.word) (constantI S_ 32 1#32)) (constantI S_ 32 32#32)) (constantI S_ 32 32#32))
            (Host.remui (Host.divui (constantI S_ 32 c.word) (constantI S_ 32 1#32)) (constantI S_ 32 32#32))] : Fin 1 → S_.Idx → BitVec 32)
        k (Shape.Idx.first h_S_)))
    sliceFits_S32_S1) shapeCasts_S1_S_
theorem posE_eq (c : Dev nD) : posE c (fun k => k.elim0) = posW c := by revert c; decide +kernel

theorem V1_pos : V1 m c main_v11 = (fun _ => posW c : S_.Idx → Elt F .i32) := by
  unfold_abbrev_sides
  after_results_simp_entrywise
  funext i
  rw [← posE_eq c]
  obtain rfl : i = (fun k => k.elim0) := funext fun k => k.elim0
  rfl

/-- A device's word read off the ring at a place's word. -/
def devE (p : S_.Idx → BitVec 32) : S_.Idx → BitVec 32 :=
  shapeCast S_ (Host.dynamicSlice S1 (fun i : S32.Idx => lit1 (S32.rowMajor i))
    (fun k => BitVec.toInt
      ((![select (cmpi CmpIPredicate.slt (Host.remsi p (constantI S_ 32 32#32)) (constantI S_ 32 0#32))
            (addi (Host.remsi p (constantI S_ 32 32#32)) (constantI S_ 32 32#32))
            (Host.remsi p (constantI S_ 32 32#32))] : Fin 1 → S_.Idx → BitVec 32)
        k (Shape.Idx.first h_S_)))
    sliceFits_S32_S1) shapeCasts_S1_S_

/-- The three words the kernel is given. -/
def idxE (c : Dev nD) : S3.Idx → BitVec 32 :=
  concatenate S3 0 [⟨S1, broadcastInDim S1 ![] bcast_S_S1 (posE c)⟩,
    ⟨S1, broadcastInDim S1 ![] bcast_S_S1 (devE (addi (posE c) (constantI S_ 32 1#32)))⟩,
    ⟨S1, broadcastInDim S1 ![] bcast_S_S1 (devE (subi (addi (posE c) (constantI S_ 32 32#32)) (constantI S_ 32 1#32)))⟩] concatenates_S1_S1_S1_S3_d0

theorem idxE_eq : ∀ (c : Dev nD) (i : S3.Idx), idxE c i = (![posW c, devW (succ false c), devW (succ true c)] : Fin 3 → BitVec 32) (i 0) := by decide +kernel

theorem V1_27 : StableHlo.after (hostOps0 c) (V0 m c) (Proc.devRef .tc main_v27) = (broadcastInDim S1 ![] bcast_S_S1 (posE c) : S1.Idx → BitVec 32) := by
  unfold hostOps0
  after_results_simp_entrywise
  rfl
theorem V1_28 : StableHlo.after (hostOps0 c) (V0 m c) (Proc.devRef .tc main_v28) = (broadcastInDim S1 ![] bcast_S_S1 (devE (addi (posE c) (constantI S_ 32 1#32))) : S1.Idx → BitVec 32) := by
  unfold hostOps0
  after_results_simp_entrywise
  rfl
theorem V1_29 : StableHlo.after (hostOps0 c) (V0 m c) (Proc.devRef .tc main_v29) = (broadcastInDim S1 ![] bcast_S_S1 (devE (subi (addi (posE c) (constantI S_ 32 32#32)) (constantI S_ 32 1#32))) : S1.Idx → BitVec 32) := by
  unfold hostOps0
  after_results_simp_entrywise
  rfl

theorem V1_idx : V1 m c main_v30 = (idxX c : S3.Idx → Elt F .i32) := by
  have key : ∀ (X : Valuation τ sig (Elt F)) (hx hy), (StableHlo.nary (τ := τ) ![main_v27, main_v28, main_v29] main_v30 (fun u => (concatenate S3 0 [⟨S1, (u 0 : (⟨S1, .i32⟩ : BufTy).Contents (Elt F))⟩, ⟨S1, (u 1 : (⟨S1, .i32⟩ : BufTy).Contents (Elt F))⟩, ⟨S1, (u 2 : (⟨S1, .i32⟩ : BufTy).Contents (Elt F))⟩] concatenates_S1_S1_S1_S3_d0 : (⟨S3, .i32⟩ : BufTy).Contents (Elt F))) hx hy).result X (Proc.devRef .tc main_v30)
      = (concatenate S3 0 [⟨S1, (X main_v27 : (⟨S1, .i32⟩ : BufTy).Contents (Elt F))⟩, ⟨S1, (X main_v28 : (⟨S1, .i32⟩ : BufTy).Contents (Elt F))⟩, ⟨S1, (X main_v29 : (⟨S1, .i32⟩ : BufTy).Contents (Elt F))⟩] concatenates_S1_S1_S1_S3_d0 : (⟨S3, .i32⟩ : BufTy).Contents (Elt F)) :=
    fun X hx hy => StableHlo.nary_result ..
  have h27 := V1_27 m c
  have h28 := V1_28 m c
  have h29 := V1_29 m c
  show StableHlo.after (hostOps0 c) (V0 m c) (Proc.devRef .tc main_v30) = _
  unfold hostOps0 at h27 h28 h29 ⊢
  simp only [StableHlo.after_cons, StableHlo.after_nil] at h27 h28 h29 ⊢
  rw [StableHlo.nary_result_ne _ _ _ _ _ _ (by decide)] at h27 h28 h29
  refine (key _ _ _).trans ?_
  rw [h27, h28, h29]
  exact funext (idxE_eq c)
end Cert.Proof.KernelIdealRun
-- ==== Proof.KernelIdealOut.lean ====
/-
  The buffers the kernel uses by parts, split into the parts and put together again: the result into its chunks, the staging
  buffer into its halves, the exchange's buffer into its slots.
-/
module

public import proofs.«01_k».proof.Proof.KernelIdealHost

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (c : Dev nD)

instance elt_nonempty (e : EltTy) : Nonempty (Elt F e) := ⟨Inhabited.default⟩

/-! ## A buffer and a family of parts -/

section Parts
variable {sp : Space} {s : Shape} {e : EltTy} (m : Memref sig .tc sp s e) {T : Type} [Fintype T] [DecidableEq T] (r : T → Rect s)
  (hr : ∀ t a, (r t).stride a = 1) (hd : ∀ t t', t ≠ t' → Disjoint (r t).set (r t').set)
  (hcov : (Finset.univ : Finset T).biUnion (fun t => (r t).set) = Finset.univ)
include hd hcov

theorem any_parts : (anyOwns c m : sProp 𝕄) ⊢ bigSep Finset.univ fun t => anyOwns c (m.slice (r t) (hr t)) := by
  unfold anyOwns
  have one (t : T) (Y : (r t).shape.Idx → Elt F e) : (owns (c : Thread nD τ) (m.slice (r t) (hr t)) fullShare Y : sProp 𝕄) ⊢ iprop(∃ X, owns (c : Thread nD τ) (m.slice (r t) (hr t)) fullShare X) := by
    iintro H; iexists Y; iexact H
  iintro ⟨%X, H⟩
  iapply (show (owns (c : Thread nD τ) m fullShare X : sProp 𝕄) ⊢ bigSep Finset.univ fun t => iprop(∃ X, owns (c : Thread nD τ) (m.slice (r t) (hr t)) fullShare X) from
    (owns_rects (c : Thread nD τ) m fullShare r hr hd hcov X).trans (BI.bigSep_mono fun t _ => one t _)) $$ H

theorem parts_any : (bigSep Finset.univ fun t => anyOwns c (m.slice (r t) (hr t)) : sProp 𝕄) ⊢ anyOwns c m := by
  unfold anyOwns
  refine (BI.bigSep_exists_pi Finset.univ (fun t X => owns (c : Thread nD τ) (m.slice (r t) (hr t)) fullShare X)).trans ?_
  iintro ⟨%Xs, H⟩
  have hg (t : T) : (fun j => Rect.glue r hcov Xs ((r t).emb j)) = Xs t := funext fun y => Rect.glue_emb r hcov hd Xs t y
  iexists Rect.glue r hcov Xs
  iapply (owns_of_rects (c : Thread nD τ) m fullShare r hr hd hcov (Rect.glue r hcov Xs))
  simp only [hg]
  iexact H

theorem parts_own (Xs : (t : T) → (r t).shape.Idx → Elt F e) :
    (bigSep Finset.univ fun t => own c (m.slice (r t) (hr t)) (Xs t) : sProp 𝕄) ⊢ own c m (Rect.glue r hcov Xs) := by
  unfold own
  have hg (t : T) : (fun j => Rect.glue r hcov Xs ((r t).emb j)) = Xs t := funext fun y => Rect.glue_emb r hcov hd Xs t y
  refine BIBase.Entails.trans ?_ (owns_of_rects (c : Thread nD τ) m fullShare r hr hd hcov (Rect.glue r hcov Xs))
  simp only [hg]
  exact .rfl

end Parts

theorem bigSep_bool (A : Bool → sProp (MT nD τ sig ℕ (Elt F) ℕ UU ℕ)) : bigSep Finset.univ A = iprop(A false ∗ A true) := by
  rw [show (Finset.univ : Finset Bool) = insert false {true} by decide, BI.bigSep_insert (by decide), BI.bigSep_singleton]
  rfl

/-! ## The staging buffer -/

def qR : Bool → Rect S2x128x4096
  | false => Rect.unit (s := S2x128x4096) ![0, 0, 0] S1x128x4096.size inb_S2x128x4096_S1x128x4096_0_0_0
  | true => Rect.unit (s := S2x128x4096) ![1, 0, 0] S1x128x4096.size inb_S2x128x4096_S1x128x4096_1_0_0

theorem mem_q (b : Bool) (x : S2x128x4096.Idx) : x ∈ (qR b).set ↔ (x 0).val = if b then 1 else 0 := by
  have h1 : (x 1).val < 128 := (x 1).isLt
  have h2 : (x 2).val < 4096 := (x 2).isLt
  cases b <;>
  · rw [qR, Rect.mem_set_unit]
    constructor
    · intro h
      have := h 0
      simp [S1x128x4096] at this
      simp; omega
    · intro h a
      simp at h
      match a with
      | ⟨0, _⟩ => simp [S1x128x4096]; omega
      | ⟨1, _⟩ => simp [S1x128x4096]; omega
      | ⟨2, _⟩ => simp [S1x128x4096]; omega

theorem q_disj (t t' : Bool) (h : t ≠ t') : Disjoint (qR t).set (qR t').set := by
  rw [Finset.disjoint_left]
  intro x hx hx'
  rw [mem_q] at hx hx'
  revert hx hx' h; cases t <;> cases t' <;> simp <;> omega
theorem q_cov : (Finset.univ : Finset Bool).biUnion (fun t => (qR t).set) = Finset.univ := by
  ext x
  simp only [Finset.mem_biUnion, Finset.mem_univ, true_and, iff_true]
  have h0 : (x 0).val < 2 := (x 0).isLt
  by_cases h : (x 0).val = 0
  · exact ⟨false, (mem_q _ _).mpr (by simpa using h)⟩
  · exact ⟨true, (mem_q _ _).mpr (by simp; omega)⟩

theorem q_stride (t : Bool) (a : Fin S2x128x4096.rank) : (qR t).stride a = 1 := by cases t <;> rfl

theorem qM_any (b : Bool) : (anyOwns c (qM b) : sProp 𝕄) = anyOwns c (qS b) := by
  suffices h : (anyOwns c (qS b) : sProp 𝕄) ⊢ anyOwns c (qM b) by
    exact BI.equiv_iff.mp ⟨stage_any c b, h⟩
  unfold anyOwns
  iintro ⟨%X, H⟩
  iexists (fun j => X (Shape.reshapeEquiv squeezes_S1x128x4096_S128x4096.numel_eq j))
  iapply (show (owns (c : Thread nD τ) (qS b) fullShare X : sProp 𝕄) ⊢ owns (c : Thread nD τ) (qM b) fullShare (fun j => X (Shape.reshapeEquiv squeezes_S1x128x4096_S128x4096.numel_eq j)) from by
    rw [← own_stage c b X, own_eq]) $$ H

theorem q_split : (anyOwns c (Memref.whole cc0_scratch8 : Memref sig .tc .vmem S2x128x4096 .bf16) : sProp 𝕄) ⊢ iprop(anyOwns c (qM false) ∗ anyOwns c (qM true)) := by
  rw [qM_any, qM_any]
  have := any_parts (F := F) c (Memref.whole cc0_scratch8 : Memref sig .tc .vmem S2x128x4096 .bf16) qR q_stride q_disj q_cov
  rw [bigSep_bool] at this
  exact this
theorem q_join : iprop(anyOwns c (qM false) ∗ anyOwns c (qM true)) ⊢ (anyOwns c (Memref.whole cc0_scratch8 : Memref sig .tc .vmem S2x128x4096 .bf16) : sProp 𝕄) := by
  rw [qM_any, qM_any]
  have := parts_any (F := F) c (Memref.whole cc0_scratch8 : Memref sig .tc .vmem S2x128x4096 .bf16) qR q_stride q_disj q_cov
  rw [bigSep_bool] at this
  exact this

/-! ## The exchange's slots -/

def slotR (k : Fin 5) : Rect S5x8x128 := Rect.unit (s := S5x8x128) ![k.val, 0, 0] S1x8x128.size (slot_inb k)

theorem mem_slot (k : Fin 5) (x : S5x8x128.Idx) : x ∈ (slotR k).set ↔ (x 0).val = k.val := by
  have h1 : (x 1).val < 8 := (x 1).isLt
  have h2 : (x 2).val < 128 := (x 2).isLt
  rw [slotR, Rect.mem_set_unit]
  constructor
  · intro h
    have := h 0
    simp [S1x8x128] at this
    omega
  · intro h a
    match a with
    | ⟨0, _⟩ => simp [S1x8x128]; omega
    | ⟨1, _⟩ => simp [S1x8x128]; omega
    | ⟨2, _⟩ => simp [S1x8x128]; omega

theorem slot_disj (t t' : Fin 5) (h : t ≠ t') : Disjoint (slotR t).set (slotR t').set := by
  rw [Finset.disjoint_left]
  intro x hx hx'
  rw [mem_slot] at hx hx'
  exact h (Fin.ext (hx.symm.trans hx'))
theorem slot_cov : (Finset.univ : Finset (Fin 5)).biUnion (fun t => (slotR t).set) = Finset.univ := by
  ext x
  simp only [Finset.mem_biUnion, Finset.mem_univ, true_and, iff_true]
  exact ⟨⟨(x 0).val, (x 0).isLt⟩, (mem_slot _ _).mpr rfl⟩

theorem mx_any (k : Fin 5) : (anyOwns c (mxrM k) : sProp 𝕄) = anyOwns c (mxS k) := by
  suffices h : (anyOwns c (mxrM k) : sProp 𝕄) ⊢ anyOwns c (mxS k) by
    suffices h' : (anyOwns c (mxS k) : sProp 𝕄) ⊢ anyOwns c (mxrM k) by
      exact BI.equiv_iff.mp ⟨h, h'⟩
    unfold anyOwns
    iintro ⟨%X, H⟩
    iexists (fun j => X (Shape.reshapeEquiv squeezes_S1x8x128_S8x128.numel_eq j))
    rw [OwnsRules.owns_squeeze (Val := Elt F) (c : Thread nD τ) (mxS k) S8x128 squeezes_S1x8x128_S8x128 fullShare X]
    iexact H
  · unfold anyOwns
    iintro ⟨%X, H⟩
    have e : X = fun j => (fun i => X ((Shape.reshapeEquiv squeezes_S1x8x128_S8x128.numel_eq).symm i)) (Shape.reshapeEquiv squeezes_S1x8x128_S8x128.numel_eq j) := by
      funext j
      show X j = X ((Shape.reshapeEquiv squeezes_S1x8x128_S8x128.numel_eq).symm (Shape.reshapeEquiv squeezes_S1x8x128_S8x128.numel_eq j))
      rw [Equiv.symm_apply_apply]
    iexists (fun i => X ((Shape.reshapeEquiv squeezes_S1x8x128_S8x128.numel_eq).symm i))
    rw [← OwnsRules.owns_squeeze (Val := Elt F) (c : Thread nD τ) (mxS k) S8x128 squeezes_S1x8x128_S8x128 fullShare (fun i => X ((Shape.reshapeEquiv squeezes_S1x8x128_S8x128.numel_eq).symm i)), ← e]
    iexact H

theorem slots_split : (anyOwns c (Memref.whole cc0_scratch10 : Memref sig .tc .vmem S5x8x128 .f32) : sProp 𝕄) ⊢ bigSep Finset.univ fun k : Fin 5 => anyOwns c (mxrM k) := by
  simp only [mx_any]
  exact any_parts (F := F) c (Memref.whole cc0_scratch10 : Memref sig .tc .vmem S5x8x128 .f32) slotR (fun _ _ => rfl) slot_disj slot_cov
theorem slots_join : (bigSep Finset.univ fun k : Fin 5 => anyOwns c (mxrM k)) ⊢ (anyOwns c (Memref.whole cc0_scratch10 : Memref sig .tc .vmem S5x8x128 .f32) : sProp 𝕄) := by
  simp only [mx_any]
  exact parts_any (F := F) c (Memref.whole cc0_scratch10 : Memref sig .tc .vmem S5x8x128 .f32) slotR (fun _ _ => rfl) slot_disj slot_cov

/-! ## The result -/

def outR (t : Bool × Fin 32) : Rect S4096x8192 := Rect.unit (s := S4096x8192) (chunkOff t.2 t.1) S128x4096.size (chunk_inb t.2 t.1)

theorem mem_out (b : Bool) (i : Fin 32) (x : S4096x8192.Idx) :
    x ∈ (outR (b, i)).set ↔ (x 0).val / 128 = i.val ∧ (x 1).val / 4096 = if b then 1 else 0 := by
  have h0 : (x 0).val < 4096 := (x 0).isLt
  have h1 : (x 1).val < 8192 := (x 1).isLt
  rw [outR, Rect.mem_set_unit]
  constructor
  · intro h
    have e0 := h 0
    have e1 := h 1
    simp [chunkOff, S128x4096] at e0 e1
    cases b <;> simp at e1 ⊢ <;> omega
  · rintro ⟨g0, g1⟩ a
    match a with
    | ⟨0, _⟩ => simp [chunkOff, S128x4096]; omega
    | ⟨1, _⟩ => cases b <;> simp [chunkOff, S128x4096] at g1 ⊢ <;> omega

theorem out_disj (t t' : Bool × Fin 32) (h : t ≠ t') : Disjoint (outR t).set (outR t').set := by
  rw [Finset.disjoint_left]
  intro x hx hx'
  obtain ⟨b, i⟩ := t
  obtain ⟨b', i'⟩ := t'
  rw [mem_out] at hx hx'
  have e1 : i = i' := Fin.ext (hx.1.symm.trans hx'.1)
  have e2 := hx.2.symm.trans hx'.2
  apply h
  rw [e1]
  cases b <;> cases b' <;> first | rfl | (simp at e2)
theorem out_cov : (Finset.univ : Finset (Bool × Fin 32)).biUnion (fun t => (outR t).set) = Finset.univ := by
  ext x
  simp only [Finset.mem_biUnion, Finset.mem_univ, true_and, iff_true]
  have h0 : (x 0).val < 4096 := (x 0).isLt
  have h1 : (x 1).val < 8192 := (x 1).isLt
  by_cases h : (x 1).val / 4096 = 0
  · exact ⟨(false, ⟨(x 0).val / 128, by omega⟩), (mem_out _ _ _).mpr ⟨rfl, by simpa using h⟩⟩
  · exact ⟨(true, ⟨(x 0).val / 128, by omega⟩), (mem_out _ _ _).mpr ⟨rfl, by simp; omega⟩⟩

/-- The step at which a device stores a block of rows, -/
def tOf : Bool → Dev nD → Fin 32 → Fin 32
  | false, c, i => ⟨((iv c).val + 33 - i.val) % 32, Nat.mod_lt _ (by decide)⟩
  | true, c, i => ⟨(i.val + 33 - (iv c).val) % 32, Nat.mod_lt _ (by decide)⟩

/-- the inverse of the place of a step. -/
theorem place_tOf (b : Bool) (c : Dev nD) (i : Fin 32) : place b c (tOf b c i).val = i := by
  apply Fin.ext
  have h1 := (iv c).isLt
  have h2 := i.isLt
  cases b <;> simp only [place, plc, tOf] <;> omega
theorem tOf_place (b : Bool) (c : Dev nD) (t : Fin 32) : tOf b c (place b c t.val) = t := by
  apply Fin.ext
  have h1 := (iv c).isLt
  have h2 := t.isLt
  cases b <;> simp only [place, plc, tOf] <;> omega

def placeEquiv (b : Bool) (c : Dev nD) : Fin 32 ≃ Fin 32 := ⟨fun t => place b c t.val, tOf b c, tOf_place b c, place_tOf b c⟩

theorem bigSep_steps (A : ℕ → sProp (MT nD τ sig ℕ (Elt F) ℕ UU ℕ)) : bigSep (Finset.Ico 0 32) A = bigSep Finset.univ fun t : Fin 32 => A t.val := by
  rw [show Finset.Ico 0 32 = (Finset.univ : Finset (Fin 32)).map Fin.valEmbedding by decide, BI.bigSep_map]
  rfl

/-- What a device's result holds. -/
def outW : S4096x8192.Idx → Elt F .bf16 := Rect.glue outR out_cov fun t => outT I t.1 (tOf t.1 c t.2).val c

theorem chunk_eq (b : Bool) (i : Fin 32) : chunkM i b = (Memref.whole main_v31 : Memref sig .tc .hbm S4096x8192 .bf16).slice (outR (b, i)) (fun _ => rfl) := rfl

theorem out_split : (anyOwns c (Memref.whole main_v31 : Memref sig .tc .hbm S4096x8192 .bf16) : sProp 𝕄)
    ⊢ iprop((bigSep (Finset.Ico 0 32) fun t => anyOwns c (chunkM (place false c t) false)) ∗ (bigSep (Finset.Ico 0 32) fun t => anyOwns c (chunkM (place true c t) true))) := by
  have e (b : Bool) : (bigSep (Finset.Ico 0 32) fun t => anyOwns c (chunkM (place b c t) b) : sProp 𝕄) = bigSep Finset.univ fun i : Fin 32 => anyOwns c ((Memref.whole main_v31 : Memref sig .tc .hbm S4096x8192 .bf16).slice (outR (b, i)) (fun _ => rfl)) := by
    rw [bigSep_steps]
    refine Eq.trans (BI.bigSep_congr fun t _ => ?_) (BI.bigSep_univ_equiv (placeEquiv b c) (fun i => anyOwns c ((Memref.whole main_v31 : Memref sig .tc .hbm S4096x8192 .bf16).slice (outR (b, i)) (fun _ => rfl)))).symm
    rw [chunk_eq]; rfl
  rw [e, e]
  refine (any_parts (F := F) c (Memref.whole main_v31 : Memref sig .tc .hbm S4096x8192 .bf16) outR (fun _ _ => rfl) out_disj out_cov).trans ?_
  rw [BI.bigSep_univ_prod, bigSep_bool]

theorem out_join : iprop((bigSep (Finset.Ico 0 32) fun t => own c (chunkM (place false c t) false) (outT I false t c)) ∗ (bigSep (Finset.Ico 0 32) fun t => own c (chunkM (place true c t) true) (outT I true t c)))
    ⊢ (own c (Memref.whole main_v31 : Memref sig .tc .hbm S4096x8192 .bf16) (outW I c) : sProp 𝕄) := by
  have e (b : Bool) : (bigSep (Finset.Ico 0 32) fun t => own c (chunkM (place b c t) b) (outT I b t c) : sProp 𝕄) = bigSep Finset.univ fun i : Fin 32 => own c ((Memref.whole main_v31 : Memref sig .tc .hbm S4096x8192 .bf16).slice (outR (b, i)) (fun _ => rfl)) (outT I b (tOf b c i).val c) := by
    rw [bigSep_steps]
    refine Eq.trans (BI.bigSep_congr fun t _ => ?_) (BI.bigSep_univ_equiv (placeEquiv b c) (fun i => own c ((Memref.whole main_v31 : Memref sig .tc .hbm S4096x8192 .bf16).slice (outR (b, i)) (fun _ => rfl)) (outT I b (tOf b c i).val c))).symm
    show _ = own c ((Memref.whole main_v31 : Memref sig .tc .hbm S4096x8192 .bf16).slice (outR (b, place b c t.val)) (fun _ => rfl)) (outT I b (tOf b c (place b c t.val)).val c)
    rw [tOf_place, chunk_eq]; rfl
  rw [e, e]
  refine BIBase.Entails.trans ?_ (parts_own (F := F) c (Memref.whole main_v31 : Memref sig .tc .hbm S4096x8192 .bf16) outR (fun _ _ => rfl) out_disj out_cov fun t => outT I t.1 (tOf t.1 c t.2).val c)
  rw [BI.bigSep_univ_prod, bigSep_bool]

end Cert.Proof.KernelIdealRun

end
-- ==== Proof.KernelIdealCreds.lean ====
/-
  What each device may wait for at launch: the units every device owes, counted by the cells they are owed to.
-/
module

public import proofs.«01_k».proof.Proof.KernelIdealOut

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kind

variable {F : FTy → Type} [FloatOps F]

local notation "𝕄" => MT nD τ sig ℕ (Elt F) ℕ UU ℕ

variable (c : Dev nD)

/-- The units owed to a device's own cells. -/
def due : CellTallies nD τ sig ℕ :=
  tsum (cell (recv false) c) 62 NE 0 + tsum (cell (recv true) c) 62 NE 0
    + tsum (cell (credit false) c) 60 1 0 + tsum (cell (credit true) c) 60 1 0 + (∑ j ∈ Finset.Ico 0 5, tallyAt (cell (mxr (fk j)) c) 0 NX)
    + tallyAt (cell bar c) 0 1 + tallyAt (cell bar c) 0 1

theorem sum_hop {A : Type} [AddCommMonoid A] (j : ℕ) (f : Dev nD → A) : ∑ d, f (hop d j) = ∑ d, f d := Equiv.sum_comp (hopEquiv j) f

theorem sum_O₀ : ∑ d, O₀ d = ∑ d, due d := by
  have e1 (b : Bool) : ∑ d, tsum (cell (recv b) (succ b d)) 62 NE 0 = ∑ d, tsum (cell (recv b) d) 62 NE 0 := sum_hop (st b) fun d => tsum (cell (recv b) d) 62 NE 0
  have e2 (b : Bool) : ∑ d, tsum (cell (credit b) (pred b d)) 60 1 0 = ∑ d, tsum (cell (credit b) d) 60 1 0 := sum_hop (st (!b)) fun d => tsum (cell (credit b) d) 60 1 0
  have e3 (b : Bool) : ∑ d, (tallyAt (cell bar (pred b d)) 0 1 : CellTallies nD τ sig ℕ) = ∑ d, tallyAt (cell bar d) 0 1 := sum_hop (st (!b)) fun d => tallyAt (cell bar d) 0 1
  have e4 : ∑ d, xsum d 0 = ∑ d, ∑ j ∈ Finset.Ico 0 5, (tallyAt (cell (mxr (fk j)) d) 0 NX : CellTallies nD τ sig ℕ) := by
    unfold xsum
    rw [Finset.sum_comm, Finset.sum_comm (s := Finset.univ) (t := Finset.Ico 0 5) (f := fun d j => (tallyAt (cell (mxr (fk j)) d) 0 NX : CellTallies nD τ sig ℕ))]
    exact Finset.sum_congr rfl fun j _ => sum_hop (2 ^ j) fun d => tallyAt (cell (mxr (fk j)) d) 0 NX
  unfold O₀ OW due
  simp only [Finset.sum_add_distrib]
  rw [e1, e1, e2, e2, e3, e3, e4]

theorem tally_off {k : Kind} {d : Dev nD} {r a : ℕ} {g : GSem nD τ sig} (h : g.1 ≠ (d : Thread nD τ)) : tallyAt (cell k d) r a g = 0 := by
  unfold tallyAt; exact tallyOn_ne (fun e => h (congrArg Prod.fst e)) _

theorem due_off {d : Dev nD} {g : GSem nD τ sig} (h : g.1 ≠ (d : Thread nD τ)) : due d g = 0 := by
  unfold due tsum
  simp only [Pi.add_apply, Finset.sum_apply, tally_off h, Finset.sum_const_zero, add_zero]

theorem sum_due (sm : SemLoc sig) : (∑ d, O₀ d) ((c : Thread nD τ), sm) = due c ((c : Thread nD τ), sm) := by
  rw [sum_O₀, Finset.sum_apply]
  refine Finset.sum_eq_single c (fun d _ hd => due_off fun h => hd ?_) (fun h => absurd (Finset.mem_univ _) h)
  exact (congrArg Prod.fst h).symm

/-- A device's launch credit is what is owed to its cells. -/
theorem launch_due : (Pipeline.launchCred O₀ c : sProp 𝕄) = cred (due c) := by
  unfold Pipeline.launchCred
  rw [cred_cells (due c), BI.bigSep_univ_prod, BI.bigSep_univ_at _ (c : Thread nD τ)]
  have e : (bigSep (Finset.univ.erase (c : Thread nD τ)) fun t => bigSep Finset.univ fun sm : SemLoc sig => cred (tallyOn (t, sm) (due c (t, sm))) : sProp 𝕄) = iprop(emp) := by
    rw [show (iprop(emp) : sProp 𝕄) = bigSep (Finset.univ.erase (c : Thread nD τ)) fun _ => (BI.emp : sProp 𝕄) from (BI.bigSep_emp_const _).symm]
    refine BI.bigSep_congr fun t ht => ?_
    rw [show (BI.emp : sProp 𝕄) = bigSep (Finset.univ : Finset (SemLoc sig)) fun _ => (BI.emp : sProp 𝕄) from (BI.bigSep_emp_const _).symm]
    refine BI.bigSep_congr fun sm _ => ?_
    rw [due_off (d := c) (g := (t, sm)) (Finset.ne_of_mem_erase ht), tallyOn_zero, cred_zero]
    rfl
  rw [e]
  refine Eq.trans (BI.bigSep_congr fun sm _ => ?_) (BI.equiv_iff.mp BI.sep_emp).symm
  rw [Pipeline.tallyOn_launchCredit_owing, sum_due]

/-- The same cell by cell and round by round. -/
def credI : sProp 𝕄 :=
  iprop((((((bigSep (Finset.Ico 0 62) fun r => cred (tallyAt (cell (recv false) c) r NE)) ∗ (bigSep (Finset.Ico 0 62) fun r => cred (tallyAt (cell (recv true) c) r NE)))
    ∗ (bigSep (Finset.Ico 0 60) fun r => cred (tallyAt (cell (credit false) c) r 1))) ∗ (bigSep (Finset.Ico 0 60) fun r => cred (tallyAt (cell (credit true) c) r 1)))
    ∗ (bigSep (Finset.Ico 0 5) fun j => cred (tallyAt (cell (mxr (fk j)) c) 0 NX))) ∗ cred (tallyAt (cell bar c) 0 2))

theorem cred_plus (a b : CellTallies nD τ sig ℕ) : (cred (a + b) : sProp 𝕄) = iprop(cred a ∗ cred b) := BI.equiv_iff.mp ⟨(cred_add a b).1, (cred_add a b).2⟩

theorem creds_intro : (Pipeline.launchCred O₀ c : sProp 𝕄) = credI c := by
  rw [launch_due]
  unfold due tsum credI
  rw [add_assoc _ (tallyAt (cell bar c) 0 1) (tallyAt (cell bar c) 0 1), show tallyAt (cell bar c) 0 1 + tallyAt (cell bar c) 0 1 = (tallyAt (cell bar c) 0 2 : CellTallies nD τ sig ℕ) from (tallyAt_add ..)]
  rw [cred_plus, cred_plus, cred_plus, cred_plus, cred_plus]
  simp only [Pipeline.cred_finsetSum]

end Cert.Proof.KernelIdealRun

end
-- ==== Proof.KernelIdealDeal.lean ====
/-
  The launch: the barrier's cells set up, those of the kernel's own semaphores left to be opened by their owners, and every
  contribution's token handed to the device that makes it.
-/
module

public import proofs.«01_k».proof.Proof.KernelIdealCreds

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kind

variable {F : FTy → Type} [FloatOps F]

local notation "𝕄" => MT nD τ sig ℕ (Elt F) ℕ UU ℕ

variable (I : Ins F) (K : GSem nD τ sig → ℕ) (c : Dev nD)

/-! ## Cells -/

/-- The kinds of the kernel's own semaphores. -/
abbrev SK : Type := {k : Kind // k ≠ bar}

def osem (k : SK) : SemLoc sig := locOf k.1

theorem osem_inj : Function.Injective osem := fun _ _ h => Subtype.ext (locOf_inj h)

def barEmb : Dev nD ↪ GSem nD τ sig := ⟨fun d => cell bar d, fun _ _ h => (cell_inj h).2⟩
def ownEmb : Dev nD × SK ↪ GSem nD τ sig :=
  ⟨fun p => cell p.2.1 p.1, fun _ _ h => Prod.ext (cell_inj h).2 (Subtype.ext (cell_inj h).1)⟩

abbrev barCells : Finset (GSem nD τ sig) := Finset.univ.map barEmb
abbrev ownCells : Finset (GSem nD τ sig) := Finset.univ.map ownEmb

theorem cells_disjoint : Disjoint barCells ownCells := by
  rw [Finset.disjoint_left]
  rintro g h₁ h₂
  obtain ⟨d, -, rfl⟩ := Finset.mem_map.mp h₁
  obtain ⟨p, -, h⟩ := Finset.mem_map.mp h₂
  exact p.2.2 (cell_inj h).1

theorem cell_mem (k : Kind) (d : Dev nD) : cell k d ∈ barCells ∪ ownCells := by
  by_cases h : k = bar
  · subst h; exact Finset.mem_union_left _ (Finset.mem_map_of_mem barEmb (Finset.mem_univ d))
  · exact Finset.mem_union_right _ (Finset.mem_map_of_mem ownEmb (Finset.mem_univ (d, (⟨k, h⟩ : SK))))

/-- A conjunction over the kernel's own semaphores, kind by kind. -/
def kinds (A : Kind → sProp 𝕄) : sProp 𝕄 :=
  iprop(A (send false) ∗ A (recv false) ∗ A (credit false) ∗ A (store false) ∗ A (send true) ∗ A (recv true) ∗ A (credit true) ∗ A (store true)
    ∗ (bigSep Finset.univ fun k : Fin 5 => A (mxs k)) ∗ bigSep Finset.univ fun k : Fin 5 => A (mxr k))

def mxsEmb : Fin 5 ↪ Kind := ⟨mxs, fun _ _ h => by injection h⟩
def mxrEmb : Fin 5 ↪ Kind := ⟨mxr, fun _ _ h => by injection h⟩

theorem own_set : (Finset.univ.filter fun k : Kind => k ≠ bar)
    = insert (send false) (insert (recv false) (insert (credit false) (insert (store false) (insert (send true) (insert (recv true) (insert (credit true) (insert (store true)
      (Finset.univ.map mxsEmb ∪ Finset.univ.map mxrEmb)))))))) := by decide

theorem bigSep_own (A : Kind → sProp (MT nD τ sig ℕ (Elt F) ℕ UU ℕ)) : (bigSep Finset.univ fun k : SK => A k.1) = kinds A := by
  rw [BI.bigSep_subtype (fun k : Kind => k ≠ bar) A, own_set]
  rw [BI.bigSep_insert (by decide), BI.bigSep_insert (by decide), BI.bigSep_insert (by decide), BI.bigSep_insert (by decide),
    BI.bigSep_insert (by decide), BI.bigSep_insert (by decide), BI.bigSep_insert (by decide), BI.bigSep_insert (by decide),
    BI.bigSep_union (by decide), BI.bigSep_map, BI.bigSep_map]
  rfl

/-! ## Tokens -/

/-- The contributions of a round of each kind. -/
abbrev PP : Finset (Kind × Bool) := Finset.univ.filter fun p => p.2 ∈ duts p.1

abbrev PT : Type := {p : Kind × Bool // p.2 ∈ duts p.1}

theorem PP_eq : PP = insert (bar, false) (insert (bar, true) (Finset.map ⟨fun k : SK => (k.1, false), fun _ _ h => Subtype.ext (congrArg Prod.fst h)⟩ Finset.univ)) := by decide

/-- The device whose cell a contribution is paid to. -/
def tgt : Kind → Bool → Dev nD → Dev nD
  | bar, u, c => pred u c | recv b, _, c => succ b c | credit b, _, c => pred b c | mxr k, _, c => hop c (2 ^ k.val)
  | send _, _, c => c | store _, _, c => c | mxs _, _, c => c

theorem bigSep_hop (j : ℕ) (A : Dev nD → sProp (MT nD τ sig ℕ (Elt F) ℕ UU ℕ)) : bigSep Finset.univ A = bigSep Finset.univ fun c => A (hop c j) :=
  BI.bigSep_univ_equiv (hopEquiv j) A

theorem bigSep_tgt (k : Kind) (u : Bool) (A : Dev nD → sProp (MT nD τ sig ℕ (Elt F) ℕ UU ℕ)) : bigSep Finset.univ A = bigSep Finset.univ fun c => A (tgt k u c) := by
  cases k <;> first | rfl | exact bigSep_hop _ A

theorem bigSep_groups {A B : Type} [Fintype A] [DecidableEq A] [DecidableEq B] (t : A → Finset B) (h : ∀ a a', a ≠ a' → Disjoint (t a) (t a')) (Φ : B → sProp (MT nD τ sig ℕ (Elt F) ℕ UU ℕ)) :
    bigSep (Finset.univ.biUnion t) Φ = bigSep Finset.univ fun a => bigSep (t a) Φ := by
  suffices g : ∀ s : Finset A, bigSep (s.biUnion t) Φ = bigSep s fun a => bigSep (t a) Φ from g _
  intro s
  induction s using Finset.induction_on with
  | empty => rw [Finset.biUnion_empty, BI.bigSep_empty, BI.bigSep_empty]
  | insert a s ha ih =>
    rw [Finset.biUnion_insert, BI.bigSep_union, BI.bigSep_insert ha, ih]
    rw [Finset.disjoint_biUnion_right]
    exact fun b hb => h a b fun e => ha (e ▸ hb)

theorem bigSep_swap {A B : Type} [Fintype A] [Fintype B] (Φ : A → B → sProp (MT nD τ sig ℕ (Elt F) ℕ UU ℕ)) :
    (bigSep Finset.univ fun a => bigSep Finset.univ fun b => Φ a b) = bigSep Finset.univ fun b => bigSep Finset.univ fun a => Φ a b := by
  rw [← BI.bigSep_univ_prod fun p : A × B => Φ p.1 p.2, ← BI.bigSep_univ_prod fun p : B × A => Φ p.2 p.1,
    BI.bigSep_univ_equiv (Equiv.prodComm B A) fun p : A × B => Φ p.1 p.2]
  rfl

def toks : Finset (GSem nD τ sig × ℕ × Bool) :=
  (Finset.univ : Finset (Dev nD × PT)).biUnion fun x =>
    (Finset.Ico 0 (rnds x.2.1.1)).map ⟨fun r => (cell x.2.1.1 x.1, r, x.2.1.2), fun _ _ h => congrArg (fun t : GSem nD τ sig × ℕ × Bool => t.2.1) h⟩

/-- A cell's tokens of one contribution. -/
def tok1 (k : Kind) (u : Bool) (d : Dev nD) : sProp 𝕄 := bigSep (Finset.Ico 0 (rnds k)) fun r => dutyTok ER (cell k d) r u

/-- The tokens a device holds. -/
def tokI : sProp 𝕄 :=
  iprop(tok1 bar false (pred false c) ∗ tok1 bar true (pred true c) ∗ kinds fun k => tok1 k false (tgt k false c))

theorem toks_eq : (bigSep toks fun x => dutyTok ER x.1 x.2.1 x.2.2 : sProp 𝕄) = bigSep Finset.univ fun c => tokI c := by
  unfold toks
  rw [bigSep_groups]
  · rw [BI.bigSep_univ_prod]
    have e : ∀ d (p : PT), (bigSep ((Finset.Ico 0 (rnds (d, p).2.1.1)).map ⟨fun r => (cell (d, p).2.1.1 (d, p).1, r, (d, p).2.1.2), fun _ _ h => congrArg (fun t : GSem nD τ sig × ℕ × Bool => t.2.1) h⟩)
        fun x => dutyTok ER x.1 x.2.1 x.2.2 : sProp 𝕄) = tok1 p.1.1 p.1.2 d := fun d p => by rw [BI.bigSep_map]; rfl
    simp only [e]
    rw [bigSep_swap, BI.bigSep_congr fun (p : PT) _ => bigSep_tgt p.1.1 p.1.2 fun d => tok1 p.1.1 p.1.2 d, bigSep_swap]
    refine BI.bigSep_congr fun c _ => ?_
    rw [BI.bigSep_subtype (fun p : Kind × Bool => p.2 ∈ duts p.1) fun p => tok1 p.1 p.2 (tgt p.1 p.2 c)]
    show (bigSep PP fun p : Kind × Bool => tok1 p.1 p.2 (tgt p.1 p.2 c)) = tokI c
    rw [PP_eq, BI.bigSep_insert (by decide), BI.bigSep_insert (by decide), BI.bigSep_map]
    unfold tokI
    rw [← bigSep_own]
    rfl
  · intro x y hxy
    rw [Finset.disjoint_left]
    intro t h1 h2
    obtain ⟨r, -, rfl⟩ := Finset.mem_map.mp h1
    obtain ⟨r', -, h⟩ := Finset.mem_map.mp h2
    apply hxy
    have h3 := cell_inj (congrArg Prod.fst h)
    have h4 := congrArg (fun t : GSem nD τ sig × ℕ × Bool => t.2.2) h
    exact (Prod.ext h3.2 (Subtype.ext (Prod.ext h3.1 h4))).symm

/-! ## What a device takes into the kernel -/

/-- All the cells, -/
def invs : sProp 𝕄 := bigSep Finset.univ fun p : Kind × Dev nD => cellInv ER (Rd I) (K (cell p.1 p.2)) (cell p.1 p.2)

instance invs_persistent : BI.Persistent (invs I K) := by unfold invs; infer_instance

/-- a device's part before its own semaphores' cells are opened, -/
def ghost : sProp 𝕄 :=
  iprop(invs I K ∗ (bigSep Finset.univ fun k : SK => openTok ER (cell k.1 c)) ∗ atPos ER (cell bar c) 0 ∅ 0
    ∗ reached ER (cell bar (pred false c)) 0 ∗ reached ER (cell bar (pred true c)) 0 ∗ tokI c)
/-- and after. -/
def opened : sProp 𝕄 :=
  iprop(invs I K ∗ (kinds fun k => iprop(atPos ER (cell k c) 0 ∅ 0 ∗ reached ER (cell k c) 0)) ∗ atPos ER (cell bar c) 0 ∅ 0
    ∗ reached ER (cell bar (pred false c)) 0 ∗ reached ER (cell bar (pred true c)) 0 ∗ tokI c)

theorem open_one (k : Kind) : iprop(invs I K ∗ openTok ER (cell k c) ∗ semVal (cell k c) 0) ⊢ (|={Set.univ}=> iprop(atPos ER (cell k c) 0 ∅ 0 ∗ reached ER (cell k c) 0) : sProp 𝕄) := by
  iintro ⟨#HI, Ho, Hv⟩
  have h : (invs I K : sProp 𝕄) ⊢ cellInv ER (Rd I) (K (cell k c)) (cell k c) := by
    unfold invs
    exact BI.bigSep_elim (Φ := fun p : Kind × Dev nD => cellInv ER (Rd I) (K (cell p.1 p.2)) (cell p.1 p.2)) (Finset.mem_univ (k, c))
  iapply (Rounds.cell_open ER (Rd I) (g := cell k c) (Set.mem_univ (K (cell k c))))
  isplitr
  · iapply h; iexact HI
  isplitl [Ho]; · iexact Ho
  iexact Hv

theorem ghost_open : iprop(ghost I K c ∗ Pipeline.ownSems0 osem c) ⊢ (|={Set.univ}=> opened I K c : sProp 𝕄) := by
  unfold ghost opened Pipeline.ownSems0
  iintro ⟨⟨#HI, Ho, Hb, Hr1, Hr2, Ht⟩, Hv⟩
  have h : iprop(invs I K ∗ (bigSep Finset.univ fun k : SK => iprop(openTok ER (cell k.1 c) ∗ semVal (cell k.1 c) 0)))
      ⊢ (bigSep Finset.univ fun k : SK => iprop(|={Set.univ}=> (atPos ER (cell k.1 c) 0 ∅ 0 ∗ reached ER (cell k.1 c) 0)) : sProp 𝕄) :=
    BI.bigSep_with_persistent fun k _ => open_one I K c k.1
  have hp : iprop((bigSep Finset.univ fun k : SK => openTok ER (cell k.1 c)) ∗ bigSep Finset.univ fun k : SK => semVal (cell k.1 c) 0)
      ⊢ (bigSep Finset.univ fun k : SK => iprop(openTok ER (cell k.1 c) ∗ semVal (cell k.1 c) 0) : sProp 𝕄) := by rw [BI.bigSep_sep']
  ihave H := hp $$ [Ho Hv]
  · isplitl [Ho]; · iexact Ho
    iexact Hv
  ihave H2 := h $$ [H]
  · isplitr; · iexact HI
    iexact H
  ihave H3 := (BI.bigSep_fupd Finset.univ fun k : SK => (iprop(atPos ER (cell k.1 c) 0 ∅ 0 ∗ reached ER (cell k.1 c) 0) : sProp 𝕄)) $$ H2
  imod H3 with H3
  imodintro
  isplitr; · iexact HI
  isplitl [H3]
  · rw [← bigSep_own]; iexact H3
  isplitl [Hb]; · iexact Hb
  isplitl [Hr1]; · iexact Hr1
  isplitl [Hr2]; · iexact Hr2
  iexact Ht

end Cert.Proof.KernelIdealRun

end
-- ==== Proof.KernelIdealAssemble.lean ====
/-
  What a device holds at the launch, put together into what the kernel starts with, and what the kernel leaves, taken apart.
-/
module

public import proofs.«01_k».proof.Proof.KernelIdealDeal
public import proofs.«01_k».proof.Proof.KernelIdealOut

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kind

variable {F : FTy → Type} [FloatOps F]

local notation "𝕄" => MT nD τ sig ℕ (Elt F) ℕ UU ℕ

variable (I : Ins F) (K : GSem nD τ sig → ℕ) (c : Dev nD)

/-- The buffers of the kernel's own, at any contents. -/
def scratchI : sProp 𝕄 :=
  iprop(anyOwns c (accM false) ∗ anyOwns c (accM true) ∗ anyOwns c (recvM false) ∗ anyOwns c (recvM true)
    ∗ anyOwns c (agsM false) ∗ anyOwns c (agsM true) ∗ anyOwns c (agrM false) ∗ anyOwns c (agrM true)
    ∗ anyOwns c (Memref.whole cc0_scratch8 : Memref sig .tc .vmem S2x128x4096 .bf16) ∗ anyOwns c mxM
    ∗ anyOwns c (Memref.whole cc0_scratch10 : Memref sig .tc .vmem S5x8x128 .f32))

/-- The windows' buffers. -/
def winI : sProp 𝕄 := iprop(own c idxM (idxX c) ∗ own c ringM ringX ∗ own c xM (I.x c) ∗ own c wM (I.w c))

theorem tok1_one (k : Kind) (hk : rnds k = 1) (u : Bool) (d : Dev nD) : (tok1 k u d : sProp 𝕄) = dutyTok ER (cell k d) 0 u := by
  unfold tok1; rw [hk, show Finset.Ico 0 1 = {0} from rfl, BI.bigSep_singleton]

/-- A direction's cells. -/
theorem ring_intro (b : Bool) : iprop((atPos ER (cell (send b) c) 0 ∅ 0 ∗ reached ER (cell (send b) c) 0) ∗ (atPos ER (cell (recv b) c) 0 ∅ 0 ∗ reached ER (cell (recv b) c) 0)
      ∗ (atPos ER (cell (credit b) c) 0 ∅ 0 ∗ reached ER (cell (credit b) c) 0)
      ∗ tok1 (send b) false c ∗ tok1 (recv b) false (succ b c) ∗ tok1 (credit b) false (pred b c)
      ∗ (bigSep (Finset.Ico 0 62) fun r => cred (tallyAt (cell (recv b) c) r NE)) ∗ bigSep (Finset.Ico 0 60) fun r => cred (tallyAt (cell (credit b) c) r 1))
    ⊢ (iprop((tst b c 0 ∗ cst b c 0 ∗ pst b c 0) ∗ reached ER (cell (recv b) c) 0) : sProp 𝕄) := by
  unfold tst cst pst tok1
  iintro ⟨⟨HS, HS'⟩, ⟨HR, #HR'⟩, ⟨HC, HC'⟩, t1, t2, t3, c1, c2⟩
  isplitl
  · isplitl [HS HS' HR t1 t2 c1]
    · isplitl [HS]; · iexact HS
      isplitl [HS']; · iexact HS'
      isplitl [HR]; · iexact HR
      isplitl [t1]; · iexact t1
      isplitl [t2]; · iexact t2
      iexact c1
    isplitl [HC HC' c2]
    · isplitl [HC]; · iexact HC
      isplitl [HC']; · iexact HC'
      iexact c2
    iexact t3
  iexact HR'

theorem store_intro (b : Bool) : iprop((atPos ER (cell (store b) c) 0 ∅ 0 ∗ reached ER (cell (store b) c) 0) ∗ tok1 (store b) false c) ⊢ (sst c b 0 : sProp 𝕄) := by
  unfold sst tok1
  iintro ⟨⟨HS, HS'⟩, t⟩
  isplitl [HS]; · iexact HS
  isplitl [HS']; · iexact HS'
  iexact t

/-- The exchange's cells. -/
theorem mx_intro : iprop((bigSep Finset.univ fun k : Fin 5 => iprop(atPos ER (cell (mxs k) c) 0 ∅ 0 ∗ reached ER (cell (mxs k) c) 0))
      ∗ (bigSep Finset.univ fun k : Fin 5 => iprop(atPos ER (cell (mxr k) c) 0 ∅ 0 ∗ reached ER (cell (mxr k) c) 0))
      ∗ (bigSep Finset.univ fun k : Fin 5 => tok1 (mxs k) false c) ∗ (bigSep Finset.univ fun k : Fin 5 => tok1 (mxr k) false (hop c (2 ^ k.val)))
      ∗ (bigSep (Finset.Ico 0 5) fun j => cred (tallyAt (cell (mxr (fk j)) c) 0 NX)) ∗ bigSep Finset.univ fun k : Fin 5 => anyOwns c (mxrM k))
    ⊢ (iprop((bigSep (Finset.Ico 0 5) fun j => mxTok c j) ∗ rsSlots c 0) : sProp 𝕄) := by
  have hs : rsSlots c 0 = (bigSep (Finset.Ico 0 5) fun j => iprop(anyOwns c (mxrM (fk j)) ∗ reached ER (cell (mxr (fk j)) c) 0) : sProp 𝕄) := by
    unfold rsSlots
    rw [bigSep_five]
    refine BI.bigSep_congr fun j _ => ?_
    rw [Nat.zero_min, hop_zero]
    rfl
  have one (j : ℕ) (hj : j ∈ Finset.Ico 0 5) : iprop((atPos ER (cell (mxs (fk j)) c) 0 ∅ 0 ∗ reached ER (cell (mxs (fk j)) c) 0)
      ∗ (atPos ER (cell (mxr (fk j)) c) 0 ∅ 0 ∗ reached ER (cell (mxr (fk j)) c) 0)
      ∗ tok1 (mxs (fk j)) false c ∗ tok1 (mxr (fk j)) false (hop c (2 ^ (fk j).val)) ∗ cred (tallyAt (cell (mxr (fk j)) c) 0 NX) ∗ anyOwns c (mxrM (fk j)))
      ⊢ (iprop(mxTok c j ∗ anyOwns c (mxrM (fk j)) ∗ reached ER (cell (mxr (fk j)) c) 0) : sProp 𝕄) := by
    rw [tok1_one _ rfl, tok1_one _ rfl, fk_val (Finset.mem_Ico.mp hj).2]
    unfold mxTok
    iintro ⟨⟨HS, HS'⟩, ⟨HR, #HR'⟩, t1, t2, cr, A⟩
    isplitl [HS HS' HR t1 t2 cr]
    · isplitl [HS]; · iexact HS
      isplitl [HS']; · iexact HS'
      isplitl [t1]; · iexact t1
      isplitl [HR]; · iexact HR
      isplitl [t2]; · iexact t2
      iexact cr
    isplitl [A]; · iexact A
    iexact HR'
  rw [hs]
  rw [bigSep_five, bigSep_five, bigSep_five, bigSep_five, bigSep_five, ← BI.bigSep_sep', ← BI.bigSep_sep', ← BI.bigSep_sep', ← BI.bigSep_sep', ← BI.bigSep_sep', ← BI.bigSep_sep']
  exact BI.bigSep_mono one

/-- What the kernel starts with. -/
theorem start_intro : iprop(opened I K c ∗ levs ∗ credI c ∗ winI I c ∗ scratchI c ∗ anyOwns c (Memref.whole main_v31 : Memref sig .tc .hbm S4096x8192 .bf16) ∗ oweE c (O₀ c))
    ⊢ (iprop(ctx I K ∗ startI c I) : sProp 𝕄) := by
  unfold opened credI winI scratchI tokI kinds
  iintro ⟨⟨#HI, ⟨s0, r0, c0, z0, s1, r1, c1, z1, ms, mr⟩, pb, b0, b1, tb0, tb1, ts0, tr0, tc0, tz0, ts1, tr1, tc1, tz1, tms, tmr⟩, #HL, ⟨⟨⟨⟨⟨kr0, kr1⟩, kc0⟩, kc1⟩, km⟩, kb⟩,
    ⟨Hi, Hg, Hx, Hw⟩, ⟨A0, A1, V0, V1, E0, E1, N0, N1, Q, M, X⟩, HY, HO⟩
  ihave R0 := (ring_intro c false) $$ [s0 r0 c0 ts0 tr0 tc0 kr0 kc0]
  · isplitl [s0]; · iexact s0
    isplitl [r0]; · iexact r0
    isplitl [c0]; · iexact c0
    isplitl [ts0]; · iexact ts0
    isplitl [tr0]; · iexact tr0
    isplitl [tc0]; · iexact tc0
    isplitl [kr0]; · iexact kr0
    iexact kc0
  icases R0 with ⟨R0, g0⟩
  ihave R1 := (ring_intro c true) $$ [s1 r1 c1 ts1 tr1 tc1 kr1 kc1]
  · isplitl [s1]; · iexact s1
    isplitl [r1]; · iexact r1
    isplitl [c1]; · iexact c1
    isplitl [ts1]; · iexact ts1
    isplitl [tr1]; · iexact tr1
    isplitl [tc1]; · iexact tc1
    isplitl [kr1]; · iexact kr1
    iexact kc1
  icases R1 with ⟨R1, g1⟩
  ihave Z0 := (store_intro c false) $$ [z0 tz0]
  · isplitl [z0]; · iexact z0
    iexact tz0
  ihave Z1 := (store_intro c true) $$ [z1 tz1]
  · isplitl [z1]; · iexact z1
    iexact tz1
  ihave X := (slots_split c) $$ X
  ihave MX := (mx_intro c) $$ [ms mr tms tmr km X]
  · isplitl [ms]; · iexact ms
    isplitl [mr]; · iexact mr
    isplitl [tms]; · iexact tms
    isplitl [tmr]; · iexact tmr
    isplitl [km]; · iexact km
    iexact X
  icases MX with ⟨MT, MS⟩
  ihave Q := (q_split c) $$ Q
  icases Q with ⟨Q0, Q1⟩
  ihave HY := (out_split c) $$ HY
  icases HY with ⟨Y0, Y1⟩
  isplitr
  · unfold ctx
    isplitr
    · unfold invs; iexact HI
    iexact HL
  unfold startI ringAt barPre
  isplitl [Hi]; · iexact Hi
  isplitl [Hg]; · iexact Hg
  isplitl [Hx]; · iexact Hx
  isplitl [Hw]; · iexact Hw
  isplitl [A0]; · iexact A0
  isplitl [A1]; · iexact A1
  isplitl [E0]; · iexact E0
  isplitl [E1]; · iexact E1
  isplitl [V0 V1 N0 N1 g0 g1 pb kb tb0 tb1 b0 b1]
  · isplitl [V0]; · iexact V0
    isplitl [V1]; · iexact V1
    isplitl [N0]; · iexact N0
    isplitl [N1]; · iexact N1
    isplitl [g0]; · iexact g0
    isplitl [g1]; · iexact g1
    isplitl [pb]; · iexact pb
    isplitl [kb]; · iexact kb
    isplitl [tb0]
    · iapply (Entails.of_eq (tok1_one bar rfl false (pred false c))) $$ tb0
    isplitl [tb1]
    · iapply (Entails.of_eq (tok1_one bar rfl true (pred true c))) $$ tb1
    isplitl [b0]; · iexact b0
    iexact b1
  isplitl [Q0]; · iexact Q0
  isplitl [Q1]; · iexact Q1
  isplitl [M]; · iexact M
  isplitl [MS]; · iexact MS
  isplitl [R0 R1]
  · isplitl [R0]; · iexact R0
    iexact R1
  isplitl [Z0]; · iexact Z0
  isplitl [Z1]; · iexact Z1
  isplitl [MT]; · iexact MT
  isplitl [Y0]; · iexact Y0
  isplitl [Y1]; · iexact Y1
  iexact HO

/-- The kernel's own semaphores, back at zero. -/
theorem sems_elim : (semsI c : sProp 𝕄) ⊢ iprop(semVal (cell bar c) 0 ∗ Pipeline.ownSems0 osem c) := by
  have e : (Pipeline.ownSems0 osem c : sProp 𝕄) = kinds fun k => semVal (cell k c) 0 := bigSep_own fun k => semVal (cell k c) 0
  rw [e]
  unfold semsI kinds
  iintro ⟨b, ⟨a1, a2, a3, a4⟩, ⟨b1, b2, b3, b4⟩, m1, m2⟩
  isplitl [b]; · iexact b
  isplitl [a1]; · iexact a1
  isplitl [a2]; · iexact a2
  isplitl [a3]; · iexact a3
  isplitl [a4]; · iexact a4
  isplitl [b1]; · iexact b1
  isplitl [b2]; · iexact b2
  isplitl [b3]; · iexact b3
  isplitl [b4]; · iexact b4
  isplitl [m1]; · iexact m1
  iexact m2

/-- What the kernel leaves. -/
theorem end_elim : (endI c I : sProp 𝕄) ⊢ iprop(winI I c ∗ scratchI c ∗ (semVal (cell bar c) 0 ∗ Pipeline.ownSems0 osem c)
    ∗ own c (Memref.whole main_v31 : Memref sig .tc .hbm S4096x8192 .bf16) (outW I c) ∗ oweE c 0) := by
  unfold endI winI scratchI
  iintro ⟨Hi, Hg, Hx, Hw, A0, A1, V0, V1, E0, E1, N0, N1, Q0, Q1, M, X, HS, Y0, Y1, HO⟩
  ihave Q := (q_join c) $$ [Q0 Q1]
  · isplitl [Q0]; · iexact Q0
    iexact Q1
  ihave X := (slots_join c) $$ X
  ihave HS := (sems_elim c) $$ HS
  ihave Y := (out_join I c) $$ [Y0 Y1]
  · isplitl [Y0]; · iexact Y0
    iexact Y1
  isplitl [Hi Hg Hx Hw]
  · isplitl [Hi]; · iexact Hi
    isplitl [Hg]; · iexact Hg
    isplitl [Hx]; · iexact Hx
    iexact Hw
  isplitl [A0 A1 V0 V1 E0 E1 N0 N1 Q M X]
  · isplitl [A0]; · iexact A0
    isplitl [A1]; · iexact A1
    isplitl [V0]; · iexact V0
    isplitl [V1]; · iexact V1
    isplitl [E0]; · iexact E0
    isplitl [E1]; · iexact E1
    isplitl [N0]; · iexact N0
    isplitl [N1]; · iexact N1
    isplitl [Q]; · iexact Q
    isplitl [M]; · iexact M
    iexact X
  isplitl [HS]; · iexact HS
  isplitl [Y]; · iexact Y
  iexact HO

end Cert.Proof.KernelIdealRun

end
-- ==== Proof.KernelIdealRegion.lean ====
/-
  The kernel's region of the program: the pipeline stages the four inputs, the kernel runs, and every device's result is in its
  output buffer.
-/
module

public import proofs.«01_k».proof.Proof.KernelIdealAssemble
public import proofs.«01_k».proof.Proof.KernelIdealHost
public import Idealize.ShloMosaic.Lib.Pipeline.RegionTalk

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Kind

variable {F : FTy → Type} [FloatOps F]

local notation "𝕄" => MT nD τ sig ℕ (Elt F) ℕ UU ℕ

variable (m : (ℓ : Loc nD τ sig) → Buf (Elt F) ℓ) (c : Dev nD)

/-- The kernel's inputs. -/
def ins : Ins F := ⟨fun c => V1 m c main_arg0, fun c => V1 m c main_v2⟩

/-- What a device's barrier semaphore and ghost state give the kernel, its semaphores still closed, -/
def closedI : sProp 𝕄 := iprop((∃ K, ghost (ins m) K c) ∗ credI c)
/-- and opened. -/
def openI : sProp 𝕄 := iprop((∃ K, opened (ins m) K c) ∗ credI c ∗ levs)

/-- The kernel's output buffer. -/
abbrev outM : Memref sig .tc .hbm S4096x8192 .bf16 := Memref.whole main_v31

def before0 : sProp 𝕄 := iprop(openI m c ∗ scratchI c ∗ anyOwns c outM ∗ ∃ r, prngReg c r)
def after0 : sProp 𝕄 :=
  iprop((semVal (cell bar c) 0 ∗ Pipeline.ownSems0 osem c) ∗ scratchI c ∗ own c outM (outW (ins m) c) ∗ ∃ r, prngReg c r)

/-- The region's data. -/
def dat0 : Dat τ (Elt F) ℕ ℕ UU ℕ cfg0 c where
  A w := V1 m c (Proc.devRef .tc (Pipeline.arrRef spec0 w))
  after w _ := match w with
    | ⟨0, _⟩ => idxX c
    | ⟨1, _⟩ => ringX
    | ⟨2, _⟩ => (ins m).x c
    | ⟨3, _⟩ => (ins m).w c
  Φ t := if t.val = 0 then before0 m c else after0 m c
  q _ := fullShare
  owed t := if t.val = 0 then O₀ c else 0

def pdats : (p : Fin 1) → (c : Dev nD) → Dat τ (Elt F) ℕ ℕ UU ℕ (Pipeline.pin (pcfgs (F := F)) adm p) c
  | 0 => dat0 m

theorem Φ_first : (dat0 m c).Φ t0_0.castSucc = before0 m c := rfl
theorem Φ_next : (dat0 m c).Φ t0_0.succ = after0 m c := rfl
theorem owed_zero : (pdats (F := F) m 0 c).owed 0 = O₀ c := by
  show (if ((0 : Fin (cfg0.N + 1)).val = 0) then O₀ c else 0) = O₀ c; exact if_pos rfl
theorem owed_first : (dat0 (F := F) m c).owed t0_0.castSucc = O₀ c := by
  show (if (t0_0.castSucc : Fin (cfg0.N + 1)).val = 0 then O₀ c else 0) = O₀ c; exact if_pos rfl
theorem owed_last : (pdats (F := F) m 0 c).owed (Fin.last _) = 0 := by
  show (if (Fin.last cfg0.N).val = 0 then O₀ c else 0) = 0
  rw [Fin.val_last, if_neg (by rw [show cfg0.N = 1 from N_0]; decide)]

theorem owes_in {cfg : Pipeline.Cfg sig Λ₀} (dat : Dat τ (Elt F) ℕ ℕ UU ℕ cfg c) (t : Fin (cfg.N + 1))
    (O : CellTallies nD τ sig ℕ) (h0 : dat.owed t = O) (hr : dat.recorded t = Set.univ) : (oweE c O : sProp 𝕄) ⊢ dat.owesAt 0 t := by
  unfold oweE Dat.owesAt Pipeline.owesWithin Dat.bound; rw [h0, hr]
  iintro ⟨%W, HO⟩; iexists W; isplitr; · ipureintro; exact fun _ _ => Or.inl trivial
  iexact HO
theorem owes_out {cfg : Pipeline.Cfg sig Λ₀} (dat : Dat τ (Elt F) ℕ ℕ UU ℕ cfg c) (t : Fin (cfg.N + 1))
    (O : CellTallies nD τ sig ℕ) (h0 : dat.owed t = O) : (dat.owesAt 0 t : sProp 𝕄) ⊢ oweE c O := by
  unfold oweE Dat.owesAt Pipeline.owesWithin; rw [h0]
  iintro ⟨%W, -, HO⟩; iexists W; iexact HO

theorem before_0 (d) : (dat0 m c).before 0 t0_0 d = idxX c := by
  unfold Dat.before
  rw [if_pos (fetch0_0 _), ← V1_idx m c]
  funext j
  exact congrArg (V1 m c main_v30) (funext fun a => Fin.ext (by show 0 * _ + 1 * (j a).val = (j a).val; omega))
theorem before_1 (d) : (dat0 m c).before 1 t0_0 d = (ringX : S32.Idx → Elt F .i32) := by
  unfold Dat.before
  rw [if_pos (fetch0_1 _), ← V1_ring m c]
  funext j
  exact congrArg (V1 m c main_c_0) (funext fun a => Fin.ext (by show 0 * _ + 1 * (j a).val = (j a).val; omega))
theorem before_2 (d) : (dat0 m c).before 2 t0_0 d = (ins m).x c := by
  unfold Dat.before
  rw [if_pos (fetch0_2 _)]
  funext j
  exact congrArg (V1 m c main_arg0) (funext fun a => Fin.ext (by show 0 * _ + 1 * (j a).val = (j a).val; omega))
theorem before_3 (d) : (dat0 m c).before 3 t0_0 d = (ins m).w c := by
  unfold Dat.before
  rw [if_pos (fetch0_3 _)]
  funext j
  exact congrArg (V1 m c main_v2) (funext fun a => Fin.ext (by show 0 * _ + 1 * (j a).val = (j a).val; omega))

/-- The kernel's body, at the region's one point. -/
theorem body0 : BodyObligation (dat0 (F := F) m c) defs₀ 𝒱₀ 0 Set.univ := fun t => by
  obtain rfl := fin_N0 t
  rw [bigSep_W0, bigSep_W0, Φ_first, Φ_next]
  show iprop(before0 m c ∗ (dat0 m c).owesAt 0 t0_0.castSucc
      ∗ (∃ d, owns (c : Thread nD τ) idxM fullShare ((dat0 m c).before 0 t0_0 d)) ∗ (∃ d, owns (c : Thread nD τ) ringM fullShare ((dat0 m c).before 1 t0_0 d))
      ∗ (∃ d, owns (c : Thread nD τ) xM fullShare ((dat0 m c).before 2 t0_0 d)) ∗ (∃ d, owns (c : Thread nD τ) wM fullShare ((dat0 m c).before 3 t0_0 d)))
    ⊢ wp frame (wpE (defs₀ (F := F)) 𝒱₀ (c : Thread nD τ) none) Set.univ (cc0__ar_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v31) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17)
      fun _ => iprop(after0 m c ∗ (dat0 m c).owesAt 0 t0_0.succ ∗ owns (c : Thread nD τ) idxM fullShare (idxX c) ∗ owns (c : Thread nD τ) ringM fullShare ringX
        ∗ owns (c : Thread nD τ) xM fullShare ((ins m).x c) ∗ owns (c : Thread nD τ) wM fullShare ((ins m).w c))
  simp only [before_0, before_1, before_2, before_3]
  simp only [← own_eq]
  unfold before0 openI
  iintro ⟨⟨⟨⟨%K, Hg⟩, Hc, Hl⟩, Hs, Hy, Hp⟩, HO, ⟨%d0, Hi⟩, ⟨%d1, Hr⟩, ⟨%d2, Hx⟩, ⟨%d3, Hw⟩⟩
  ihave HO := (owes_out c (dat0 m c) _ (O₀ c) (owed_first m c)) $$ HO
  iapply (body_run c (ins m) K) $$ [Hg Hc Hl Hs Hy HO Hi Hr Hx Hw]
  · iapply (start_intro (ins m) K c)
    unfold winI
    isplitl [Hg]; · iexact Hg
    isplitl [Hl]; · iexact Hl
    isplitl [Hc]; · iexact Hc
    isplitl [Hi Hr Hx Hw]
    · isplitl [Hi]; · iexact Hi
      isplitl [Hr]; · iexact Hr
      isplitl [Hx]; · iexact Hx
      iexact Hw
    isplitl [Hs]; · iexact Hs
    isplitl [Hy]; · iexact Hy
    iexact HO
  iintro H
  ihave H := (end_elim (ins m) c) $$ H
  unfold winI after0
  icases H with ⟨⟨Hi, Hr, Hx, Hw⟩, Hs, Hv, Hy, HO⟩
  isplitl [Hv Hs Hy Hp]
  · isplitl [Hv]; · iexact Hv
    isplitl [Hs]; · iexact Hs
    isplitl [Hy]; · iexact Hy
    iexact Hp
  isplitl [HO]
  · iapply (owes_in c (dat0 m c) t0_0.succ 0 (owed_last m c) rfl) $$ HO
  isplitl [Hi]; · iexact Hi
  isplitl [Hr]; · iexact Hr
  isplitl [Hx]; · iexact Hx
  iexact Hw

end Cert.Proof.KernelIdealRun

end
-- ==== Proof.KernelIdealRecord.lean ====
/-
  The kernel's region as a segment of the program: what it is entered with, and what it leaves.
-/
module

public import proofs.«01_k».proof.Proof.KernelIdealRegion

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Kind

variable {F : FTy → Type} [FloatOps F]

local notation "𝕄" => MT nD τ sig ℕ (Elt F) ℕ UU ℕ

variable (m : (ℓ : Loc nD τ sig) → Buf (Elt F) ℓ) (c : Dev nD)

/-- What the region leaves in the output buffer. -/
def outsI : Outs (F := F) := fun _ r c => if h : r = main_v31 then h ▸ outW (ins m) c else m ((c : Thread nD τ).loc r)

/-- The buffers' contents at the end. -/
abbrev Vend (c : Dev nD) : Valuation τ sig (Elt F) := V2 m (outsI m) c

theorem Vend_out : Vend m c main_v31 = outW (ins m) c := by
  show Function.update (V1 m c) (Proc.devRef .tc main_v31) _ (Proc.devRef .tc main_v31) = _
  rw [Function.update_self]; rfl

/-- The buffer the kernel addresses itself, -/
abbrev Hs : Finset (DevRef τ sig) := {Proc.devRef .tc main_v31}
/-- and all the buffers no window stages. -/
abbrev Sr : Finset (DevRef τ sig) := Pipeline.ucRefs τ sig \ Pipeline.arrRefs spec0

theorem Hs_sub : Hs ⊆ Sr := by
  intro b hb
  rw [Finset.mem_singleton.mp hb]
  refine Finset.mem_sdiff.mpr ⟨Finset.mem_filter.mpr ⟨StableHlo.devRef_mem_tcRefs main_v31, by decide⟩, by decide⟩

theorem arr_sub : Pipeline.arrRefs (τ := τ) spec0 ⊆ Pipeline.ucRefs τ sig := Pipeline.arrRefs_sub_ucRefs spec0 (by decide)

theorem rest_same (b : DevRef τ sig) (hb : b ∈ Sr \ Hs) : Vend m c b = V1 m c b :=
  Function.update_of_ne (fun h => (Finset.mem_sdiff.mp hb).2 (Finset.mem_singleton.mpr h)) _ _

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem any_whole (b : Ref sig .tc) : (anyOwns c (Memref.whole b) : sProp 𝕄) = iprop(∃ f : Buf (Elt F) ((c : Thread nD τ).loc b), ((c : Thread nD τ).loc b) ↦{fullShare} f) := by
  unfold anyOwns; simp only [owns_whole]

theorem scratch_eq : (Pipeline.scopedRest spec0 c : sProp 𝕄) = scratchI c := by
  rw [scopedRest0_eq]
  unfold scratchI
  simp only [← any_whole]

theorem held_out (V : Valuation τ sig (Elt F)) : (StableHlo.held (c : Thread nD τ) Hs V : sProp 𝕄) = own c outM (V main_v31) := by
  unfold StableHlo.held
  rw [BI.bigSep_singleton, own_eq, owns_whole]

theorem open0 : iprop(closedI m c ∗ Pipeline.ownSems0 osem c ∗ levAts L lv) ⊢ (|={Set.univ}=> openI m c : sProp 𝕄) := by
  unfold closedI openI levs
  iintro ⟨⟨⟨%K, Hg⟩, Hc⟩, Hv, #Hl⟩
  imod (ghost_open (ins m) K c) $$ [Hg Hv] with H
  · isplitl [Hg]; · iexact Hg
    iexact Hv
  imodintro
  isplitl [H]; · iexists K; iexact H
  isplitl [Hc]; · iexact Hc
  iexact Hl

theorem in0 : iprop(Pipeline.scopedRest (Pipeline.pin (pcfgs (F := F)) adm 0).spec c ∗ (∃ r, prngReg c r) ∗ StableHlo.held (c.tc : Thread nD τ) Hs (V1 m c) ∗ openI m c)
    ⊢ (pdats m 0 c).Φ 0 := by
  rw [show (pdats m 0 c).Φ 0 = before0 m c from rfl]
  show iprop(Pipeline.scopedRest spec0 c ∗ (∃ r, prngReg c r) ∗ StableHlo.held (c : Thread nD τ) Hs (V1 m c) ∗ openI m c) ⊢ before0 m c
  rw [scratch_eq, held_out]
  unfold before0 anyOwns
  rw [own_eq]
  iintro ⟨Hs, Hp, Hy, Hx⟩
  isplitl [Hx]; · iexact Hx
  isplitl [Hs]; · iexact Hs
  isplitl [Hy]; · iexists _; iexact Hy
  iexact Hp

theorem out0 : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (Vend m c)
      ∗ Pipeline.ownSems0 osem c ∗ semVal (cell bar c) 0) := by
  rw [show (pdats m 0 c).Φ (Fin.last _) = after0 m c from rfl]
  show after0 m c ⊢ iprop(Pipeline.scopedRest spec0 c ∗ (∃ r, prngReg c r) ∗ StableHlo.held (c : Thread nD τ) Hs (Vend m c)
    ∗ Pipeline.ownSems0 osem c ∗ semVal (cell bar c) 0)
  rw [scratch_eq, held_out, Vend_out]
  unfold after0
  iintro ⟨⟨Hb, Ho⟩, Hs, Hy, Hp⟩
  isplitl [Hs]; · iexact Hs
  isplitl [Hp]; · iexact Hp
  isplitl [Hy]; · iexact Hy
  isplitl [Ho]; · iexact Ho
  iexact Hb

theorem cutD (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then O₀ c else 0 := rfl
  rw [e] at h
  split at h
  · exact O₀_above h
  · exact absurd h (Nat.lt_irrefl 0)

theorem stage_lv (w : Fin 4) (s : Fin (cfg0.win w).nbuf) : lv ((c : Thread nD τ), .dma ((cfg0.win w).sem s)) 0 ≤ 0 := by
  fin_cases w <;> exact Nat.le_refl 0

theorem arr_in (w : Fin cfg0.W) (t : ℕ) : (dat0 m c).arrAt w t = V1 m c (Proc.devRef .tc (Pipeline.arrRef spec0 w)) :=
  Dat.arrAt_in (dat0 m c) w (by revert w; decide) t

theorem arr_ne : ∀ w : Fin cfg0.W, (Proc.devRef .tc (Pipeline.arrRef spec0 w) : DevRef τ sig) ≠ Proc.devRef .tc main_v31 := by decide

theorem arr_end (w : Fin cfg0.W) (t : ℕ) : (dat0 m c).arrAt w t = Vend m c (Proc.devRef .tc (Pipeline.arrRef spec0 w)) :=
  (arr_in m c w t).trans (Function.update_of_ne (arr_ne w) _ _).symm

theorem shares (w : Fin cfg0.W) : (dat0 m c).share w = fullShare := by unfold Dat.share; split <;> rfl

theorem cuts : Pipeline.LevelCutOwed (pcfgs (F := F)) adm (pdats m) 0 L lv 0 fun _ => 0 where
  hι c w s := by rw [L_tc]; exact Finset.mem_range.mpr (by omega)
  hιb c w s := stage_lv c w s
  hD c t g i h := cutD m c t g i h

set_option backward.isDefEq.respectTransparency.types false in
/-- The region. -/
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    Hs Sr Hs_sub kit rfl (fun c => (body0 m c).loose)
    (fun _ => 0) O₀ (fun c => (owed_zero m c).trans (zero_add _).symm) (owed_last m) (fun _ => rfl)
    (shares m)
    (V1 m) (Vend m) (rest_same m)
    (closedI m) (fun c => semVal (cell bar c) 0) (openI m) (fun c => semVal (cell bar c) 0) (open0 m) (in0 m) (out0 m)
    (fun c => by iintro H; imodintro; iexact H)
    (fun _ => 0)
    (cuts m) (fun _ => iprop(emp)) (fun c w => arr_in m c w 0) (fun c w => arr_end m c w _)

/-- What rides along the host stretch, -/
def E0 (c : Dev nD) : sProp 𝕄 := iprop(closedI m c ∗ (∃ r, prngReg c r) ∗ oweE c (O₀ c))
/-- and what is left at the end. -/
def E1 (c : Dev nD) : sProp 𝕄 := iprop(semVal (cell bar c) 0 ∗ oweE c 0)

theorem reg_pre : iprop(StableHlo.held (c : Thread nD τ) (Pipeline.ucRefs τ sig) (V1 m c) ∗ E0 m c) ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) Sr (V1 m c) ∗ emp) ∗ closedI m c ∗ ∃ Wd, owes (c : Thread nD τ) (0 + O₀ c) Wd)
  rw [StableHlo.held_sub_split (c : Thread nD τ) arr_sub (V1 m c), zero_add]
  unfold E0 oweE
  iintro ⟨⟨Ha, Hr⟩, Hg, Hp, HO⟩
  isplitl [Ha]; · iexact Ha
  isplitl [Hp]; · iexact Hp
  isplitl [Hr]
  · isplitl [Hr]; · iexact Hr
    iempintro
  isplitl [Hg]; · iexact Hg
  iexact HO

theorem reg_post : (reg0 m).post c ⊢ iprop(StableHlo.held (c : Thread nD τ) (Pipeline.ucRefs τ sig) (Vend m c) ∗ E1 c) := by
  show iprop(StableHlo.held (c.tc : Thread nD τ) (Pipeline.arrRefs (τ := τ) (pcfgs (F := F) 0).spec) (Vend m c) ∗ (∃ r, prngReg c r)
    ∗ (StableHlo.held (c.tc : Thread nD τ) Sr (Vend m c) ∗ emp) ∗ semVal (cell bar c) 0 ∗ ∃ Wd, owes (c : Thread nD τ) (0 : CellTallies nD τ sig ℕ) Wd) ⊢ _
  rw [StableHlo.held_sub_split (c : Thread nD τ) arr_sub (Vend m c)]
  unfold E1 oweE
  iintro ⟨Ha, -, ⟨Hr, -⟩, Hb, HO⟩
  isplitl [Ha Hr]
  · isplitl [Ha]; · iexact Ha
    iexact Hr
  isplitl [Hb]; · iexact Hb
  iexact HO

end Cert.Proof.KernelIdealRun

end
-- ==== Proof.KernelIdealLaunch.lean ====
/-
  The kernel run: from any memory with the semaphores at zero every execution ends, the arguments as they were, every semaphore
  at zero, and the result of every device as computed from all the devices' inputs.
-/
module

public import proofs.«01_k».proof.Proof.KernelIdealRecord

@[expose] public section

noncomputable section

namespace Cert.Proof.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Kind

variable {F : FTy → Type} [FloatOps F]

local notation "𝕄" => MT nD τ sig ℕ (Elt F) ℕ UU ℕ

variable (m : (ℓ : Loc nD τ sig) → Buf (Elt F) ℓ) (ρ : Dev nD → PrngReg) (c : Dev nD)

theorem sep_pair (A B : Dev nD → sProp (MT nD τ sig ℕ (Elt F) ℕ UU ℕ)) :
    iprop(bigSep Finset.univ A ∗ bigSep Finset.univ B) ⊢ bigSep Finset.univ fun c => iprop(A c ∗ B c) := Entails.of_eq (BI.bigSep_sep' ..).symm
theorem sep_unpair (A B : Dev nD → sProp (MT nD τ sig ℕ (Elt F) ℕ UU ℕ)) :
    (bigSep Finset.univ fun c => iprop(A c ∗ B c)) ⊢ iprop(bigSep Finset.univ A ∗ bigSep Finset.univ B) := Entails.of_eq (BI.bigSep_sep' ..)

/-- The launch element. -/
def u₀ : UU :=
  (initOf (Pipeline.cells (Pipeline.pin (pcfgs (F := F)) adm) cellOf_inj) (Pipeline.launchToks (Pipeline.pin (pcfgs (F := F)) adm) cellOf_inj),
    launchOf barCells ownCells toks)

/-- All of a resource on the first device. -/
def first (X : sProp (MT nD τ sig ℕ (Elt F) ℕ UU ℕ)) (c : Dev nD) : sProp 𝕄 := if c = 0 then X else iprop(emp)

theorem bigSep_first (X : sProp (MT nD τ sig ℕ (Elt F) ℕ UU ℕ)) : bigSep Finset.univ (first X) = X := by
  rw [BI.bigSep_univ_at _ (0 : Dev nD), BI.bigSep_congr (s := Finset.univ.erase (0 : Dev nD)) (Ψ := fun _ => (BI.emp : sProp 𝕄))
      fun c hc => by unfold first; rw [if_neg (Finset.ne_of_mem_erase hc)]; rfl, BI.bigSep_emp_const]
  unfold first; rw [if_pos rfl]
  exact BI.equiv_iff.mp sep_emp

def Glaunch : Dev nD → sProp 𝕄 := first (BI.own (ER (launchOf barCells ownCells toks)))

/-- What all the devices know of the cells. -/
def records (κ : GSem nD τ sig → ℕ) : sProp 𝕄 :=
  iprop((bigSep (barCells ∪ ownCells) fun g => cellInv ER (Rd (ins m)) (κ g) g) ∗ bigSep barCells fun g => reached ER g 0)

instance records_persistent (κ : GSem nD τ sig → ℕ) : BI.Persistent (records m κ) := by unfold records; infer_instance

theorem records_invs (κ : GSem nD τ sig → ℕ) : (records m κ : sProp 𝕄) ⊢ invs (ins m) κ := by
  have h : ∀ p ∈ (Finset.univ : Finset (Kind × Dev nD)), (records m κ : sProp 𝕄) ⊢ cellInv ER (Rd (ins m)) (κ (cell p.1 p.2)) (cell p.1 p.2) := fun p _ => by
    have e : (bigSep (barCells ∪ ownCells) fun g => cellInv ER (Rd (ins m)) (κ g) g : sProp 𝕄) ⊢ cellInv ER (Rd (ins m)) (κ (cell p.1 p.2)) (cell p.1 p.2) :=
      BI.bigSep_elim (Φ := fun g => (cellInv ER (Rd (ins m)) (κ g) g : sProp 𝕄)) (cell_mem p.1 p.2)
    unfold records
    iintro ⟨#H, -⟩
    iapply e; iexact H
  unfold invs
  exact BI.bigSep_intro_persistent h

theorem records_reached (κ : GSem nD τ sig → ℕ) (d : Dev nD) : (records m κ : sProp 𝕄) ⊢ reached ER (cell bar d) 0 := by
  have e : (bigSep barCells fun g => reached ER g 0 : sProp 𝕄) ⊢ reached ER (cell bar d) 0 :=
    BI.bigSep_elim (Φ := fun g => (reached ER g 0 : sProp 𝕄)) (Finset.mem_map_of_mem barEmb (Finset.mem_univ d))
  unfold records
  iintro ⟨-, #H⟩
  iapply e; iexact H

/-- What stays with a device. -/
def linear (c : Dev nD) : sProp 𝕄 :=
  iprop(atPos ER (cell bar c) 0 ∅ 0 ∗ (bigSep Finset.univ fun k : SK => openTok ER (cell k.1 c)) ∗ tokI c)

theorem ghost_intro (κ : GSem nD τ sig → ℕ) : iprop(records m κ ∗ linear c) ⊢ (ghost (ins m) κ c : sProp 𝕄) := by
  unfold linear ghost
  iintro ⟨#HR, Hb, Ho, Ht⟩
  isplitr; · iapply (records_invs m κ); iexact HR
  isplitl [Ho]; · iexact Ho
  isplitl [Hb]; · iexact Hb
  isplitr; · iapply (records_reached m κ (pred false c)); iexact HR
  isplitr; · iapply (records_reached m κ (pred true c)); iexact HR
  iexact Ht

/-- The rest of a device's launch holdings. -/
def bundle (c : Dev nD) : sProp 𝕄 :=
  iprop(StableHlo.held (c : Thread nD τ) (Pipeline.ucRefs τ sig) (V0 m c) ∗ credI c ∗ owes (c : Thread nD τ) (O₀ c) ∅ ∗ ∃ r, prngReg c r)

abbrev T0 (c : Dev nD) : sProp 𝕄 := iprop(StableHlo.held (c : Thread nD τ) (Pipeline.ucRefs τ sig) (V0 m c) ∗ E0 m c)
abbrev Tend (c : Dev nD) : sProp 𝕄 := iprop(StableHlo.held (c : Thread nD τ) (Pipeline.ucRefs τ sig) (Vend m c) ∗ semVal (cell bar c) 0)

theorem T0_intro (κ : GSem nD τ sig → ℕ) : iprop(records m κ ∗ (linear c ∗ bundle m c)) ⊢ (T0 m c : sProp 𝕄) := by
  unfold bundle T0 E0 closedI oweE
  iintro ⟨#HR, Hl, Hh, Hc, HO, Hp⟩
  isplitl [Hh]; · iexact Hh
  isplitl [Hl Hc]
  · isplitl [Hl]
    · iexists κ
      iapply (ghost_intro m c κ)
      isplitr; · iexact HR
      iexact Hl
    iexact Hc
  isplitl [Hp]; · iexact Hp
  iexists ∅; iexact HO

theorem unscoped_eq : ∀ sm : SemLoc sig, sm.isScoped .tc = false → sm = locOf bar := by decide

theorem unscopedSems0_eq : (unscopedSems0 c : sProp 𝕄) = semVal (cell bar c) 0 := by
  unfold unscopedSems0
  rw [show (Finset.univ.filter fun sm : SemLoc sig => ¬ sm.isScoped .tc) = {locOf bar} from by decide, BI.bigSep_singleton]

theorem launch_core : iprop(unscopedBufs c (fun b => m ((c : Thread nD τ).loc b)) ∗ unscopedSems0 c
      ∗ owes (c : Thread nD τ) (O₀ c) ∅ ∗ Pipeline.launchCred O₀ c ∗ prngReg c (ρ c) ∗ Glaunch c)
    ⊢ (iprop(bundle m c ∗ (semVal (cell bar c) 0 ∗ Glaunch c)) : sProp 𝕄) := by
  rw [show (unscopedBufs c (fun b => m ((c : Thread nD τ).loc b)) : sProp 𝕄) = StableHlo.held (c : Thread nD τ) (Pipeline.ucRefs τ sig) (V0 m c)
    from (Pipeline.unscopedBufs_held (Ix := ℕ) (Name := ℕ) (U := UU) (Lvl := ℕ) c (V0 m c)), unscopedSems0_eq, creds_intro]
  unfold bundle
  iintro ⟨Hh, Hv, HO, Hc, Hp, HG⟩
  isplitl [Hh HO Hc Hp]
  · isplitl [Hh]; · iexact Hh
    isplitl [Hc]; · iexact Hc
    isplitl [HO]; · iexact HO
    iexists (ρ c); iexact Hp
  isplitl [Hv]; · iexact Hv
  iexact HG

theorem launch_cores :
    (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Glaunch c))
      ⊢ (iprop((bigSep Finset.univ fun c : Dev nD => bundle m c) ∗ (bigSep Finset.univ fun c : Dev nD => semVal (cell bar c) 0) ∗ bigSep Finset.univ (Glaunch (F := F))) : sProp 𝕄) := by
  refine BIBase.Entails.trans (BI.bigSep_mono fun c _ => launch_core m ρ c) ?_
  refine BIBase.Entails.trans (sep_unpair _ _) (BIClass.sep_mono .rfl (sep_unpair _ _))

theorem bar_vals : bigSep Finset.univ (fun c : Dev nD => (semVal (cell bar c) 0 : sProp 𝕄)) ⊢ bigSep barCells (fun g => (semVal g 0 : sProp 𝕄)) :=
  Entails.of_eq (BI.bigSep_map (s := Finset.univ) barEmb (Φ := fun g : GSem nD τ sig => (semVal g 0 : sProp 𝕄))).symm
theorem bar_ats : bigSep barCells (fun g => (atPos ER g 0 ∅ 0 : sProp 𝕄)) ⊢ bigSep Finset.univ (fun c : Dev nD => (atPos ER (cell bar c) 0 ∅ 0 : sProp 𝕄)) :=
  Entails.of_eq (BI.bigSep_map (s := Finset.univ) barEmb (Φ := fun g : GSem nD τ sig => (atPos ER g 0 ∅ 0 : sProp 𝕄)))
theorem own_opens : bigSep ownCells (fun g => (openTok ER g : sProp 𝕄))
    ⊢ bigSep Finset.univ (fun c : Dev nD => (bigSep Finset.univ fun k : SK => openTok ER (cell k.1 c) : sProp 𝕄)) :=
  Entails.of_eq (by rw [BI.bigSep_map, BI.bigSep_univ_prod]; rfl)
theorem first_all : bigSep Finset.univ (Glaunch (F := F)) ⊢ BI.own (ER (launchOf barCells ownCells toks)) := Entails.of_eq (bigSep_first _)
theorem toks_all : (bigSep toks fun x => dutyTok ER x.1 x.2.1 x.2.2 : sProp 𝕄) ⊢ bigSep Finset.univ fun c => tokI c := Entails.of_eq toks_eq

theorem linear_all :
    iprop((bigSep barCells fun g => atPos ER g 0 ∅ 0) ∗ (bigSep ownCells fun g => openTok ER g) ∗ bigSep toks fun x => dutyTok ER x.1 x.2.1 x.2.2)
      ⊢ (bigSep Finset.univ fun c : Dev nD => linear c : sProp 𝕄) := by
  unfold linear
  refine BIBase.Entails.trans (BIClass.sep_mono bar_ats (BIClass.sep_mono own_opens toks_all)) (BIBase.Entails.trans (BIClass.sep_mono .rfl (sep_pair _ _)) (sep_pair _ _))

/-- The whole launch element funds the cells. -/
theorem fund_all : iprop((bigSep Finset.univ fun c : Dev nD => semVal (cell bar c) 0) ∗ bigSep Finset.univ (Glaunch (F := F)))
    ⊢ (|={Set.univ}=> iprop(∃ κ, records m κ ∗ bigSep Finset.univ fun c : Dev nD => linear c) : sProp 𝕄) := by
  iintro ⟨Hv, HG⟩
  ihave Hu := first_all $$ HG
  imod (Rounds.fund_launch ER (Rd (ins m)) cells_disjoint (fun g _ h => h) toks) $$ [Hv Hu] with ⟨%κ, -, #Hinv, #Hr, Hat, Hopen, Htok⟩
  · isplitl [Hv]
    · iapply bar_vals $$ Hv
    · iexact Hu
  imodintro
  iexists κ
  isplitr
  · unfold records
    isplitr; · iexact Hinv
    iexact Hr
  iapply linear_all
  isplitl [Hat]; · iexact Hat
  isplitl [Hopen]; · iexact Hopen
  iexact Htok

theorem launch_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Glaunch c)) ∗ levAts L lv)
      ⊢ (|={Set.univ}=> bigSep Finset.univ (T0 m) : sProp 𝕄) := by
  iintro ⟨H, -⟩
  ihave H := (launch_cores m ρ) $$ H
  icases H with ⟨HB, H⟩
  imod (fund_all m) $$ H with ⟨%κ, #HR, HL⟩
  imodintro
  iapply (BI.bigSep_with_persistent (R := records m κ) (Φ := fun c => iprop(linear c ∗ bundle m c)) fun c _ => T0_intro m c κ)
  isplitr
  · iexact HR
  iapply (sep_pair _ _)
  isplitl [HL]; · iexact HL
  iexact HB

/-- The thread states between the items. -/
abbrev EE : Fin 2 → Dev nD → sProp 𝕄 := ![E0 m, E1]

set_option backward.isDefEq.respectTransparency.types false in
/-- The run. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v31) = outW (ins m) c) ∧ r.2.sem = fun _ => 0) := by
  refine Pipeline.θ_run_regions_kit_dev_sems (pcfgs (F := F)) adm (pdats m) 0 cellOf_inj EP defs₀ 𝒱₀ L lv m ρ main
    (segs m 𝒱₀ L lv (EE m) 0 (pdats m) (reg0 m))
    (fun c Q => by
      rewrite [main_chain c, Pipeline.Seg.run_eq_chain,
        show (segs m 𝒱₀ L lv (EE m) 0 (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne Glaunch (u₀ (F := F))
    (by
      unfold u₀ Glaunch
      iintro Hu
      ihave H := (ownU_pair _ _) $$ Hu
      icases H with ⟨HP, HX⟩
      imodintro
      isplitl [HP]; · iexact HP
      rw [bigSep_first]; iexact HX)
    (T₀ := T0 m) (Tₙ := Tend m)
    (hch := fun c => ⟨.rfl, reg_pre m c, (reg_post m c).trans (by
      unfold E1 oweE
      iintro ⟨Hh, Hb, HO⟩
      isplitl [Hh Hb]
      · isplitl [Hh]; · iexact Hh
        iexact Hb
      iexact HO)⟩)
    (hinit := launch_all m ρ)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v31) = outW (ins m) c) ∧ s.sem (cell bar c) = 0)
    (hfin := fun c s' => ?_)
    (hQ := fun s h hs => ⟨fun c => (h c).1, sem_eq_zero hs fun c sm hsm => by
      obtain rfl := unscoped_eq sm hsm
      exact (h c).2⟩)
  unfold Tend StableHlo.held
  iintro ⟨⟨Hh, Hb⟩, HSI⟩
  icombine HSI Hb gives %hb
  ihave Hr := (pointsTo_read_all (Pipeline.ucRefs τ sig) (fun b => ((c : Thread nD τ).1, b)) (Vend m c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V2_main_arg0 m (outsI m) c),
      (h (Proc.devRef .tc main_arg1) (Finset.mem_filter.mpr ⟨StableHlo.devRef_mem_tcRefs main_arg1, by decide⟩)).trans (V2_main_arg1 m (outsI m) c),
      (h (Proc.devRef .tc main_v31) (Finset.mem_filter.mpr ⟨StableHlo.devRef_mem_tcRefs main_v31, by decide⟩)).trans (Vend_out m c)⟩, by simpa using hb⟩
  iexact HSI

end Cert.Proof.KernelIdealRun

end
-- ==== Proof.ValueArith.lean ====
/-
  The arithmetic of the quantiser on the extended reals, apart from any program.

  Two ways of finding the step of the fp8 grid at a magnitude, as a chain of replacements and as a chain of maxima, are one
  function, and so are the two roundings built on them. Integers below 2¹⁵ survive rounding and conversion to 16 bits.
-/
module

public import Idealize.ShloMosaic.PureOps.Ideal.Laws
public import Idealize.ShloMosaic.Lib.IdealHost

@[expose] public section

noncomputable section

namespace Cert.Proof.Value

open Idealize.ShloMosaic Idealize.ShloMosaic.ValueIdx
open scoped BigOperators

/-! ## Words as reals -/

/-- The extended real of an f32 word. -/
abbrev kw (b : BitVec 32) : EReal := Ideal.ofBits .f32 b

/-- A power of two over 512. -/
def p2 (n : ℕ) : EReal := ((2 ^ n / 512 : ℝ) : EReal)

theorem kw_p0 : kw 0x3B000000#32 = p2 0 := by
  unfold kw p2; simp [Ideal.ofBits, Ideal.ieee, -EReal.coe_mul]; try norm_num
theorem kw_p1 : kw 0x3B800000#32 = p2 1 := by
  unfold kw p2; simp [Ideal.ofBits, Ideal.ieee, -EReal.coe_mul]; try norm_num
theorem kw_p2 : kw 0x3C000000#32 = p2 2 := by
  unfold kw p2; simp [Ideal.ofBits, Ideal.ieee, -EReal.coe_mul]; try norm_num
theorem kw_p3 : kw 0x3C800000#32 = p2 3 := by
  unfold kw p2; simp [Ideal.ofBits, Ideal.ieee, -EReal.coe_mul]; try norm_num
theorem kw_p4 : kw 0x3D000000#32 = p2 4 := by
  unfold kw p2; simp [Ideal.ofBits, Ideal.ieee, -EReal.coe_mul]; try norm_num
theorem kw_p5 : kw 0x3D800000#32 = p2 5 := by
  unfold kw p2; simp [Ideal.ofBits, Ideal.ieee, -EReal.coe_mul]; try norm_num
theorem kw_p6 : kw 0x3E000000#32 = p2 6 := by
  unfold kw p2; simp [Ideal.ofBits, Ideal.ieee, -EReal.coe_mul]; try norm_num
theorem kw_p7 : kw 0x3E800000#32 = p2 7 := by
  unfold kw p2; simp [Ideal.ofBits, Ideal.ieee, -EReal.coe_mul]; try norm_num
theorem kw_p8 : kw 0x3F000000#32 = p2 8 := by
  unfold kw p2; simp [Ideal.ofBits, Ideal.ieee, -EReal.coe_mul]; try norm_num
theorem kw_p9 : kw 0x3F800000#32 = p2 9 := by
  unfold kw p2; simp [Ideal.ofBits, Ideal.ieee, -EReal.coe_mul]; try norm_num
theorem kw_p10 : kw 0x40000000#32 = p2 10 := by
  unfold kw p2; simp [Ideal.ofBits, Ideal.ieee, -EReal.coe_mul]; try norm_num
theorem kw_p11 : kw 0x40800000#32 = p2 11 := by
  unfold kw p2; simp [Ideal.ofBits, Ideal.ieee, -EReal.coe_mul]; try norm_num
theorem kw_p12 : kw 0x41000000#32 = p2 12 := by
  unfold kw p2; simp [Ideal.ofBits, Ideal.ieee, -EReal.coe_mul]; try norm_num
theorem kw_p13 : kw 0x41800000#32 = p2 13 := by
  unfold kw p2; simp [Ideal.ofBits, Ideal.ieee, -EReal.coe_mul]; try norm_num
theorem kw_p14 : kw 0x42000000#32 = p2 14 := by
  unfold kw p2; simp [Ideal.ofBits, Ideal.ieee, -EReal.coe_mul]; try norm_num
theorem kw_p15 : kw 0x42800000#32 = p2 15 := by
  unfold kw p2; simp [Ideal.ofBits, Ideal.ieee, -EReal.coe_mul]; try norm_num
theorem kw_p16 : kw 0x43000000#32 = p2 16 := by
  unfold kw p2; simp [Ideal.ofBits, Ideal.ieee, -EReal.coe_mul]; try norm_num
theorem kw_p17 : kw 0x43800000#32 = p2 17 := by
  unfold kw p2; simp [Ideal.ofBits, Ideal.ieee, -EReal.coe_mul]; try norm_num
theorem kw_512 : kw 0x44000000#32 = ((512 : ℝ) : EReal) := by
  unfold kw; simp [Ideal.ofBits, Ideal.ieee, -EReal.coe_mul]; try norm_num
theorem kw_448 : kw 0x43E00000#32 = ((448 : ℝ) : EReal) := by
  unfold kw; simp [Ideal.ofBits, Ideal.ieee, -EReal.coe_mul]; try norm_num
theorem kw_917504 : kw 0x49600000#32 = ((917504 : ℝ) : EReal) := by
  unfold kw; simp [Ideal.ofBits, Ideal.ieee, -EReal.coe_mul]; try norm_num
theorem kw_2048 : kw 0x45000000#32 = ((2048 : ℝ) : EReal) := by
  unfold kw; simp [Ideal.ofBits, Ideal.ieee, -EReal.coe_mul]; try norm_num
theorem kw_1023 : kw 0x447FC000#32 = ((1023 : ℝ) : EReal) := by
  unfold kw; simp [Ideal.ofBits, Ideal.ieee, -EReal.coe_mul]; try norm_num
theorem kw_bot : kw 0xFF800000#32 = ⊥ := by unfold kw; simp [Ideal.ofBits, Ideal.ieee]
theorem kw_zero : kw 0x00000000#32 = 0 := Ideal.ofBits_zero_f32
theorem bf_2048 : Ideal.ofBits .bf16 0x4500#16 = ((2048 : ℝ) : EReal) := by
  simp [Ideal.ofBits, Ideal.ieee, -EReal.coe_mul]; try norm_num

/-! ## The step of the grid -/

/-- `g` where `a` reaches `t`, else `x`. -/
abbrev pick (a t g x : EReal) : EReal := Scalar.select (Ideal.cmp .oge a t) g x

theorem pick_eq (a t g x : EReal) : pick a t g x = if t ≤ a then g else x := by
  unfold pick Scalar.select Ideal.cmp
  by_cases h : t ≤ a <;> simp [h]

/-- The step as a chain of replacements, -/
def kst (a : EReal) : ℕ → EReal
  | 0 => p2 0
  | n + 1 => pick a (p2 (n + 4)) (p2 (n + 1)) (kst a n)
/-- and as a chain of maxima. -/
def rst (a : EReal) : ℕ → EReal
  | 0 => max (p2 0) (pick a (p2 3) (p2 0) 0)
  | n + 1 => max (rst a n) (pick a (p2 (n + 4)) (p2 (n + 1)) 0)

theorem p2_pos (n : ℕ) : 0 < p2 n := by unfold p2; exact EReal.coe_pos.mpr (by positivity)
theorem p2_mono {m n : ℕ} (h : m ≤ n) : p2 m ≤ p2 n := by
  unfold p2
  refine EReal.coe_le_coe_iff.mpr ?_
  have : (2 : ℝ) ^ m ≤ 2 ^ n := pow_le_pow_right₀ (by norm_num) h
  exact div_le_div_of_nonneg_right this (by norm_num)

theorem kst_mem (a : EReal) : ∀ n, ∃ m, m ≤ n ∧ kst a n = p2 m
  | 0 => ⟨0, le_rfl, rfl⟩
  | n + 1 => by
      obtain ⟨m, hm, e⟩ := kst_mem a n
      unfold kst; rw [pick_eq]
      split_ifs
      · exact ⟨n + 1, le_rfl, rfl⟩
      · exact ⟨m, Nat.le_succ_of_le hm, e⟩

theorem kst_eq_rst (a : EReal) : ∀ n, kst a n = rst a n
  | 0 => by
      unfold kst rst; rw [pick_eq]
      split_ifs
      · exact (max_self _).symm
      · exact (max_eq_left (p2_pos 0).le).symm
  | n + 1 => by
      obtain ⟨m, hm, e⟩ := kst_mem a n
      unfold kst rst
      rw [← kst_eq_rst a n, pick_eq, pick_eq, e]
      split_ifs
      · exact (max_eq_right (p2_mono (Nat.le_succ_of_le hm))).symm
      · exact (max_eq_left (p2_pos m).le).symm

theorem kst_low {a : EReal} (h : a < p2 3) : ∀ n, kst a n = p2 0
  | 0 => rfl
  | n + 1 => by
      unfold kst
      rw [pick_eq, if_neg (not_le.mpr (lt_of_lt_of_le h (p2_mono (by omega)))), kst_low h n]

/-! ## The rounded value -/

/-- To the nearest integer, ties to even. -/
abbrev rnd (x : EReal) : EReal := Ideal.liftRound Ideal.roundHalfEven x
/-- The magnitude. -/
abbrev mag (x : EReal) : EReal := max x (-x)

/-- A value rounded as the kernel does it, times a scale, -/
def kv (s o : EReal) : EReal :=
  let a := mag s
  let q := min (Scalar.select (Ideal.cmp .oge a (p2 3)) (rnd (Ideal.div a (kst a 14)) * kst a 14) (rnd (a * ((512 : ℝ) : EReal)) * p2 0)) ((448 : ℝ) : EReal)
  Scalar.select (Ideal.cmp .olt s 0) (0 - q) q * o
/-- and as the reference does it. -/
def rv (s o : EReal) : EReal :=
  Ideal.sign s * min (rnd (Ideal.div (mag s) (rst (mag s) 14)) * rst (mag s) 14) ((448 : ℝ) : EReal) * o

theorem p2_zero : p2 0 = ((1 / 512 : ℝ) : EReal) := by unfold p2; norm_num

theorem sel_eq (a : EReal) : Scalar.select (Ideal.cmp .oge a (p2 3)) (rnd (Ideal.div a (kst a 14)) * kst a 14) (rnd (a * ((512 : ℝ) : EReal)) * p2 0)
    = rnd (Ideal.div a (kst a 14)) * kst a 14 := by
  refine (pick_eq a (p2 3) _ _).trans ?_
  split_ifs with h
  · rfl
  · rw [kst_low (not_le.mp h), p2_zero, Ideal.div_coe (by norm_num)]
    norm_num

theorem rnd_zero : rnd 0 = 0 := by
  show Ideal.liftRound Ideal.roundHalfEven ((0 : ℝ) : EReal) = 0
  rw [Ideal.liftRound_coe]
  simp [Ideal.roundHalfEven]

/-- The two roundings agree. -/
theorem kv_eq_rv (s o : EReal) : kv s o = rv s o := by
  unfold kv rv
  simp only [sel_eq, ← kst_eq_rst]
  have hc : Ideal.cmp .olt s 0 = if s < 0 then 1#1 else 0#1 := by
    unfold Ideal.cmp; by_cases h : s < 0 <;> simp [h]
  rw [hc]
  rcases lt_trichotomy s 0 with h | h | h
  · rw [if_pos h, select_one, Ideal.sign_of_neg h, zero_sub, neg_one_mul]
  · subst h
    have e0 : Ideal.div (mag 0) (kst (mag 0) 14) = 0 := by
      obtain ⟨m, _, e⟩ := kst_mem (mag 0) 14
      rw [e, show mag 0 = 0 by simp [mag]]
      exact Ideal.zero_div (p2_pos m).ne'
    rw [if_neg (lt_irrefl _), select_zero, e0, rnd_zero, zero_mul, Ideal.sign_zero, zero_mul, min_eq_left (EReal.coe_nonneg.mpr (by norm_num))]
  · rw [if_neg (not_lt.mpr h.le), select_zero, Ideal.sign_of_pos h, one_mul]

/-! ## Integers -/

theorem rnd_int (n : ℤ) : rnd ((n : ℝ) : EReal) = ((n : ℝ) : EReal) := by
  unfold rnd
  rw [Ideal.liftRound_coe]
  simp [Ideal.roundHalfEven]

/-- An integer that fits in 16 bits is what its conversion reads. -/
theorem toInt_fix (n : ℤ) (h : |n| ≤ 32767) : (Ideal.fptosi 16 (rnd ((n : ℝ) : EReal))).toInt = n := by
  rw [rnd_int]
  unfold Ideal.fptosi
  rw [Ideal.toIntClamped_coe]
  have h' := abs_le.mp h
  simp only [Int.floor_intCast, Int.ceil_intCast, ite_self]
  rw [BitVec.toInt_ofInt]
  have : max (-((2 ^ (16 - 1) : ℕ) : ℤ)) (min (((2 ^ (16 - 1) : ℕ) : ℤ) - 1) n) = n := by
    rw [min_eq_right (by norm_num; omega), max_eq_right (by norm_num; omega)]
  rw [this]
  simp only [Int.bmod]
  omega

/-! ## Sums -/

/-- A nonnegative real factor goes into a sum. -/
theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert i s hi ih =>
      rw [Finset.sum_insert hi, Finset.sum_insert hi, ← ih]
      exact EReal.right_distrib_of_nonneg_of_ne_top (EReal.coe_nonneg.mpr hr) (EReal.coe_ne_top r) _ _

theorem sum_coe {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- What times a positive real is a real is that real's quotient. -/
theorem eq_div_of_mul {x : EReal} {r y : ℝ} (hr : 0 < r) (h : x * (r : EReal) = (y : EReal)) : x = ((y / r : ℝ) : EReal) := by
  induction x with
  | bot => rw [EReal.bot_mul_coe_of_pos hr] at h; exact absurd h (EReal.bot_ne_coe y)
  | top => rw [EReal.top_mul_coe_of_pos hr] at h; exact absurd h (EReal.top_ne_coe y)
  | coe x =>
      rw [← EReal.coe_mul, EReal.coe_eq_coe_iff] at h
      rw [EReal.coe_eq_coe_iff, ← h, mul_div_cancel_right₀ _ hr.ne']

theorem mag_coe (x : ℝ) : mag (x : EReal) = ((|x| : ℝ) : EReal) := by
  unfold mag
  rw [← EReal.coe_neg]
  exact (EReal.coe_strictMono.monotone.map_max (a := x) (b := -x)).symm

/-- A real the rounding fixes is an integer. -/
theorem int_of_rnd {x : EReal} (h : rnd x = x) {b : ℝ} (hb : mag x ≤ (b : EReal)) : ∃ n : ℤ, x = ((n : ℝ) : EReal) ∧ |(n : ℝ)| ≤ b := by
  induction x with
  | bot => exact absurd (le_trans (le_max_right _ _) hb) (by simp)
  | top => exact absurd (le_trans (le_max_left _ _) hb) (by simp)
  | coe x =>
      refine ⟨Ideal.roundHalfEven x, ?_, ?_⟩
      · rw [← h]; rfl
      · have e : ((Ideal.roundHalfEven x : ℤ) : ℝ) = x := EReal.coe_eq_coe_iff.mp h
        rw [e]
        rw [mag_coe, EReal.coe_le_coe_iff] at hb
        exact hb

/-! ## The scales -/

theorem div_real {x y : ℝ} (h : y ≠ 0) : Ideal.div (x : EReal) (y : EReal) = ((x / y : ℝ) : EReal) := by
  rw [Ideal.div_coe h, ← EReal.coe_mul]; congr 1; field_simp

/-- Both sides at an element: `n` over the scale of the greatest magnitude `A`, whatever `A` is. -/
theorem value_eq (n A : ℤ) (hA : |n| ≤ A) :
    kv (((n : ℝ) : EReal) * Ideal.div ((448 : ℝ) : EReal) ((A : ℝ) : EReal)) (Ideal.div ((A : ℝ) : EReal) ((917504 : ℝ) : EReal))
      = rv (Ideal.div ((n / 2048 : ℝ) : EReal) (Ideal.div ((A / 2048 : ℝ) : EReal) ((448 : ℝ) : EReal))) (Ideal.div ((A / 2048 : ℝ) : EReal) ((448 : ℝ) : EReal)) := by
  rw [div_real (x := A) (y := 917504) (by norm_num), div_real (x := A / 2048) (y := 448) (by norm_num)]
  have e : (A : ℝ) / 2048 / 448 = A / 917504 := by ring
  rw [e]
  by_cases h0 : A = 0
  · subst h0
    simp [kv, rv]
  · have hA0 : (A : ℝ) ≠ 0 := by exact_mod_cast h0
    rw [div_real hA0, div_real (div_ne_zero hA0 (by norm_num)), ← EReal.coe_mul, kv_eq_rv]
    congr 2
    field_simp
    ring

end Cert.Proof.Value

end
-- ==== Proof.ValueRead.lean ====
/-
  The kernel's payloads read at an index on the extended reals: the product, the running sum kept in 16 bits, the maximum and
  the rounded block.
-/
module

public import proofs.«01_k».proof.Proof.KernelIdealContents
public import proofs.«01_k».proof.Proof.ValueArith
public import Idealize.ShloMosaic.Lib.MatmulPlain
public import Idealize.ShloMosaic.Lib.Pipeline.Value

@[expose] public section

noncomputable section

namespace Cert.Proof.Value

open Cert.KernelIdeal Cert.KernelIdeal.Gen
open Idealize.ShloMosaic Idealize.ShloMosaic.ValueIdx Idealize.ShloMosaic.TcCoe
open Cert.Proof.KernelIdealRun
open scoped BigOperators

/-! ## Rounded values -/

/-- The chain of steps with its words as printed, -/
def stepW (a : EReal) : EReal := (pick a (kw 0x43800000#32) (kw 0x42000000#32) (pick a (kw 0x43000000#32) (kw 0x41800000#32) (pick a (kw 0x42800000#32) (kw 0x41000000#32) (pick a (kw 0x42000000#32) (kw 0x40800000#32) (pick a (kw 0x41800000#32) (kw 0x40000000#32) (pick a (kw 0x41000000#32) (kw 0x3F800000#32) (pick a (kw 0x40800000#32) (kw 0x3F000000#32) (pick a (kw 0x40000000#32) (kw 0x3E800000#32) (pick a (kw 0x3F800000#32) (kw 0x3E000000#32) (pick a (kw 0x3F000000#32) (kw 0x3D800000#32) (pick a (kw 0x3E800000#32) (kw 0x3D000000#32) (pick a (kw 0x3E000000#32) (kw 0x3C800000#32) (pick a (kw 0x3D800000#32) (kw 0x3C000000#32) (pick a (kw 0x3D000000#32) (kw 0x3B800000#32) (kw 0x3B000000#32)))))))))))))))
/-- and the rounding built on it. -/
def kvW (s o : EReal) : EReal :=
  Scalar.select (Ideal.cmp .olt s (kw 0x00000000#32))
    (kw 0x00000000#32 - min (Scalar.select (Ideal.cmp .oge (mag s) (kw 0x3C800000#32)) (rnd (Ideal.div (mag s) (stepW (mag s))) * stepW (mag s)) (rnd (mag s * kw 0x44000000#32) * kw 0x3B000000#32)) (kw 0x43E00000#32))
    (min (Scalar.select (Ideal.cmp .oge (mag s) (kw 0x3C800000#32)) (rnd (Ideal.div (mag s) (stepW (mag s))) * stepW (mag s)) (rnd (mag s * kw 0x44000000#32) * kw 0x3B000000#32)) (kw 0x43E00000#32)) * o

theorem stepW_eq (a : EReal) : stepW a = kst a 14 := by
  unfold stepW
  simp only [kw_p0, kw_p1, kw_p2, kw_p3, kw_p4, kw_p5, kw_p6, kw_p7, kw_p8, kw_p9, kw_p10, kw_p11, kw_p12, kw_p13, kw_p14, kw_p15, kw_p16, kw_p17]
  rfl
theorem kvW_eq (s o : EReal) : kvW s o = kv s o := by
  unfold kvW kv
  simp only [stepW_eq, kw_zero, kw_p3, kw_512, kw_p0, kw_448]

/-- The integer a 16-bit word holds, as an extended real. -/
abbrev zi (b : BitVec 16) : EReal := ((b.toInt : ℝ) : EReal)

variable (I : Ins Ideal)

theorem ag_false_zero (c : Dev nD) : ag I false 0 c = acc I false 31 c := by
  rw [ag]; unfold k0_pay22; exact shapeCast_self _ _
theorem ag_true_zero (c : Dev nD) : ag I true 0 c = acc I true 31 c := by
  rw [ag]; unfold k0_pay23; exact shapeCast_self _ _
theorem ag_zero (b : Bool) (c : Dev nD) : ag I b 0 c = acc I b 31 c := by
  cases b
  · exact ag_false_zero I c
  · exact ag_true_zero I c
theorem ag_succ (b : Bool) (s : ℕ) (c : Dev nD) : ag I b (s + 1) c = ag I b s (pred b c) := by
  cases b <;> exact shapeCast_self _ _

/-- A block stored under a leading axis and read back through it. -/
theorem back (v : FVec Ideal S128x4096 .bf16) (j : S128x4096.Idx) :
    shapeCast S1x128x4096 v shapeCasts_S128x4096_S1x128x4096 (Shape.reshapeEquiv squeezes_S1x128x4096_S128x4096.numel_eq j) = v j :=
  congrFun (shapeCast_shapeCast v shapeCasts_S128x4096_S1x128x4096 squeezes_S1x128x4096_S128x4096.numel_eq) j

/-- Where a stored block is read. -/
abbrev at3 (j : S128x4096.Idx) : S1x128x4096.Idx := Shape.reshapeEquiv squeezes_S1x128x4096_S128x4096.numel_eq j

/- The four places where the rounding is done, each with its scales and its block in hand left open. -/
variable (m v o : EReal) (g : IVec S128x4096 16) (j : S128x4096.Idx)

set_option maxRecDepth 8000 in
theorem q35 : k0_pay35 (F := Ideal) o (k0_pay29 (F := Ideal) m g) (k0_pay34 (F := Ideal) (k0_pay30 (F := Ideal) m g) (k0_pay31 (F := Ideal) m g) (k0_pay32 (F := Ideal) m g) (k0_pay33 (F := Ideal))) (at3 j)
    = kvW (zi (g j) * k0_pay27 (F := Ideal) m) o := by
  unfold k0_pay35 k0_pay34 k0_pay33 k0_pay32 k0_pay31 k0_pay30 k0_pay29
  refine (back _ j).trans ?_
  rfl
set_option maxRecDepth 8000 in
theorem q42 : k0_pay42 (F := Ideal) o (k0_pay36 (F := Ideal) v g) (k0_pay37 (F := Ideal) v g) (k0_pay40 (F := Ideal) (k0_pay37 (F := Ideal) v g) (k0_pay38 (F := Ideal) v g) (k0_pay39 (F := Ideal) v g)) (k0_pay41 (F := Ideal) (k0_pay37 (F := Ideal) v g)) (at3 j)
    = kvW (zi (g j) * v) o := by
  unfold k0_pay42 k0_pay41 k0_pay40 k0_pay39 k0_pay38 k0_pay37 k0_pay36
  refine (back _ j).trans ?_
  rfl
set_option maxRecDepth 8000 in
theorem q11 : k0_pay11 (F := Ideal) o (k0_pay9 (F := Ideal) (k0_pay6 (F := Ideal) v g) (k0_pay7 (F := Ideal) v g) (k0_pay8 (F := Ideal))) (k0_pay10 (F := Ideal) (k0_pay5 (F := Ideal) v g)) (at3 j)
    = kvW (zi (g j) * v) o := by
  unfold k0_pay11 k0_pay10 k0_pay9 k0_pay8 k0_pay7 k0_pay6 k0_pay5
  refine (back _ j).trans ?_
  rfl
set_option maxRecDepth 8000 in
theorem q16 : k0_pay16 (F := Ideal) o (k0_pay12 (F := Ideal) v g) (k0_pay13 (F := Ideal) v g) (k0_pay15 (F := Ideal) (k0_pay13 (F := Ideal) v g) (k0_pay14 (F := Ideal) v g)) (at3 j)
    = kvW (zi (g j) * v) o := by
  unfold k0_pay16 k0_pay15 k0_pay14 k0_pay13 k0_pay12
  refine (back _ j).trans ?_
  rfl

/-- The block a device stores is the block in hand, rounded. -/
theorem outT_apply (b : Bool) (t : ℕ) (c : Dev nD) :
    outT I b t c j = kv (zi (ag I b t c j) * isc I c) (osc I c) := by
  rw [← kvW_eq]
  match b, t with
  | false, 0 => unfold outT qv; exact q35 _ _ _ _
  | true, 0 => unfold outT qv; exact q42 _ _ _ _
  | false, s + 1 => rw [ag_succ]; unfold outT qv; exact q11 _ _ _ _
  | true, s + 1 => rw [ag_succ]; unfold outT qv; exact q16 _ _ _ _

/-! ## Sums -/

/-- A product of the kernel's at an index. -/
theorem dot_apply (x : FVec Ideal S128x128 .bf16) (w : FVec Ideal S128x4096 .bf16) (j : S128x4096.Idx) :
    matmul dot_S128x128_S128x4096_S128x4096_1_0_0_1_n_n none x w (constant S128x4096 .f32 0x00000000#32) j
      = ∑ k : Fin 128, x (ix2 (j 0) k) * w (ix2 k (j 1)) := by
  obtain ⟨r, l, rfl⟩ : ∃ (r : Fin 128) (l : Fin 4096), j = ix2 r l := ⟨_, _, eq_ix2 j⟩
  refine (Ideal.matmul_plain_apply (M := 128) (K := 128) (N := 4096) none x w (constant S128x4096 .f32 0x00000000#32) r l).trans ?_
  show kw 0x00000000#32 + _ = _
  rw [kw_zero, zero_add]

/-- The product a device adds at a step, for a stream and a chunk. -/
def pr (b : Bool) (i : Fin 32) (c : Dev nD) (j : S128x4096.Idx) : EReal :=
  ∑ k : Fin 128, rowsP I c i (ix2 (j 0) k) * (match b with | false => wl I c | true => wr I c) (ix2 k (j 1))

/-- The place of the chunk a stream's partial sum belongs to. -/
def cpl : Bool → ℕ → Dev nD → Fin 32
  | _, 0, c => iv c
  | false, s + 1, c => plc c (63 - s)
  | true, s + 1, c => plc c (1 + s)

theorem acc_zero (b : Bool) (c : Dev nD) (j : S128x4096.Idx) : acc I b 0 c j = Ideal.fptosi 16 (rnd (pr I b (iv c) c j)) := by
  cases b
  · unfold acc k0_pay19 pr
    simp only [shapeCast_self]
    rw [← dot_apply]
    rfl
  · unfold acc k0_pay21 k0_pay20 pr
    simp only [shapeCast_self]
    rw [← dot_apply]
    rfl

theorem acc_succ (b : Bool) (s : ℕ) (c : Dev nD) (j : S128x4096.Idx) :
    acc I b (s + 1) c j = Ideal.fptosi 16 (rnd (zi (acc I b s (pred b c) j) + pr I b (cpl b (s + 1) c) c j)) := by
  cases b
  · rw [acc]
    unfold k0_pay3 k0_pay1 pr cpl
    simp only [shapeCast_self]
    rw [← dot_apply]
    rfl
  · rw [acc]
    unfold k0_pay4 k0_pay2 pr cpl
    simp only [shapeCast_self]
    rw [← dot_apply]
    rfl

end Cert.Proof.Value

end
-- ==== Proof.ValueMax.lean ====
/-
  The running maximum of the exchange on the extended reals, as the least bound of the magnitudes.
-/
module

public import proofs.«01_k».proof.Proof.ValueRead

@[expose] public section

noncomputable section

namespace Cert.Proof.Value

open Cert.KernelIdeal Cert.KernelIdeal.Gen
open Idealize.ShloMosaic Idealize.ShloMosaic.ValueIdx Idealize.ShloMosaic.TcCoe
open Cert.Proof.KernelIdealRun
open scoped BigOperators

theorem one_idx (x y : S1.Idx) : x = y := by
  funext a
  have h : S1.size a = 1 := by revert a; decide
  exact Fin.ext (by have := (x a).isLt; have := (y a).isLt; omega)

/-- The maximum over a block's two axes lies under a bound as soon as every element does. -/
theorem redmax1 (src : FVec Ideal S1x128x4096 .f32) (h : S1x128x4096.Reduces [1, 2] S1) (hφ : FKind.Formats .f32)
    (hacc : 0xFF800000#32 = FKind.maximumf.neutral .f32 hφ) (j : S1.Idx) (z : EReal) :
    multiReduction .maximumf [1, 2] S1 src 0xFF800000#32 h hφ hacc j ≤ z ↔ ∀ i, src i ≤ z := by
  rw [multiReduction_maximumf_eq_fold]
  refine (Finset.fold_max_le (α := Shape.Idx S1x128x4096) (β := EReal) (s := Finset.univ.filter _) (c := z)).trans ?_
  constructor
  · rintro ⟨_, hi⟩ i
    exact hi i (Finset.mem_filter.mpr ⟨Finset.mem_univ _, one_idx _ _⟩)
  · intro hi
    exact ⟨(show kw 0xFF800000#32 ≤ z by rw [kw_bot]; exact bot_le), fun i _ => hi i⟩

/-- The maximum of a whole block, as the kernel takes it. -/
def bmax (v : FVec Ideal S128x4096 .f32) : EReal :=
  extractAt ![0, 0, 0] (shapeCast S1x1x1 (multiReduction .maximumf [1, 2] S1 (shapeCast S1x128x4096 v shapeCasts_S128x4096_S1x128x4096) 0xFF800000#32 reduces_S1x128x4096_S1 (.inl rfl) rfl) shapeCasts_S1_S1x1x1) inpos_S1x1x1_p0_0_0

theorem bmax_le (v : FVec Ideal S128x4096 .f32) (z : EReal) : bmax v ≤ z ↔ ∀ j, v j ≤ z := by
  unfold bmax extractAt shapeCast
  refine (redmax1 _ _ _ _ _ z).trans ⟨fun h j => ?_, fun h i => h _⟩
  have := h ((Shape.reshapeEquiv shapeCasts_S128x4096_S1x128x4096).symm j)
  rwa [Equiv.apply_symm_apply] at this

theorem smax (a b : Ideal .f32) : Scalar.maximumf a b = (max (a : EReal) (b : EReal) : EReal) := rfl

theorem pay24_eq (a b : IVec S128x4096 16) :
    k0_pay24 (F := Ideal) a b = (max (bmax (absf (sitofp .f32 a))) (bmax (absf (sitofp .f32 b))) : EReal) := by
  unfold k0_pay24 bmax
  dsimp only
  exact smax _ _

theorem abs_at (a : IVec S128x4096 16) (j : S128x4096.Idx) : absf (F := Ideal) (sitofp .f32 a) j = mag (zi (a j)) := rfl

theorem pay24_le (a b : IVec S128x4096 16) (z : EReal) :
    (k0_pay24 (F := Ideal) a b : EReal) ≤ z ↔ (∀ j, mag (zi (a j)) ≤ z) ∧ ∀ j, mag (zi (b j)) ≤ z := by
  rw [pay24_eq, max_le_iff, bmax_le, bmax_le]
  simp only [abs_at]

variable (I : Ins Ideal)

theorem mx_zero_le (c : Dev nD) (z : EReal) :
    mx I 0 c ≤ z ↔ (∀ j, mag (zi (acc I false 31 c j)) ≤ z) ∧ ∀ j, mag (zi (acc I true 31 c j)) ≤ z := by
  rw [mx]
  exact pay24_le _ _ z

theorem mx_succ (k : ℕ) (c : Dev nD) : mx I (k + 1) c = (max (mx I k c : EReal) (mx I k (bk c (2 ^ k))) : EReal) := rfl

theorem bk_bk (c : Dev nD) (a b : ℕ) : bk (bk c a) b = bk c (a + b) := by
  unfold bk; rw [hop_hop]; congr 1; ring

theorem mx_le (k : ℕ) : ∀ (c : Dev nD) (z : EReal), mx I k c ≤ z ↔ ∀ i < 2 ^ k, mx I 0 (bk c i) ≤ z := by
  induction k with
  | zero =>
    intro c z
    have e : bk c 0 = c := hop_zero c
    constructor
    · intro h i hi
      have : i = 0 := by omega
      subst this; rw [e]; exact h
    · intro h; have := h 0 (by omega); rwa [e] at this
  | succ k ih =>
    intro c z
    rw [mx_succ]
    refine (max_le_iff (α := EReal)).trans ?_
    rw [ih, ih]
    constructor
    · rintro ⟨h1, h2⟩ i hi
      by_cases hk : i < 2 ^ k
      · exact h1 i hk
      · have := h2 (i - 2 ^ k) (by rw [pow_succ] at hi; omega)
        rwa [bk_bk, show 2 ^ k + (i - 2 ^ k) = i by omega] at this
    · intro h
      refine ⟨fun i hi => h i (by rw [pow_succ]; omega), fun i hi => ?_⟩
      rw [bk_bk]; exact h _ (by rw [pow_succ]; omega)

/-- After five steps of the exchange the maximum takes in every device. -/
theorem mx_five_le (c : Dev nD) (z : EReal) : mx I 5 c ≤ z ↔ ∀ d, mx I 0 d ≤ z := by
  rw [mx_le]
  constructor
  · intro h d
    have e : bk c ((32 + (iv c).val - (iv d).val) % 32) = d := by
      refine iv_inj ?_
      unfold bk; rw [iv_hop]
      have := (iv c).isLt; have := (iv d).isLt
      omega
    have := h ((32 + (iv c).val - (iv d).val) % 32) (by have : (32 + (iv c).val - (iv d).val) % 32 < 32 := Nat.mod_lt _ (by decide); omega)
    rwa [e] at this
  · intro h i _; exact h _

end Cert.Proof.Value

end
-- ==== Proof.ValueSum.lean ====
/-
  The kernel's 16-bit sums as integers: when every device's product is a small integer, the partial sums are exact and the last one
  is the sum over all devices.
-/
module

public import proofs.«01_k».proof.Proof.ValueMax

@[expose] public section

noncomputable section

namespace Cert.Proof.Value

open Cert.KernelIdeal Cert.KernelIdeal.Gen
open Idealize.ShloMosaic Idealize.ShloMosaic.ValueIdx Idealize.ShloMosaic.TcCoe
open Cert.Proof.KernelIdealRun
open scoped BigOperators

/-- The row of the result a chunk's row is, -/
def row (i : Fin 32) (r : Fin 128) : Fin 4096 := ⟨128 * i.val + r.val, by omega⟩
/-- and the column. -/
def col (b : Bool) (l : Fin 4096) : Fin 8192 := ⟨(if b then 4096 else 0) + l.val, by cases b <;> simp <;> omega⟩

variable (I : Ins Ideal)

theorem rowsP_apply (c : Dev nD) (i : Fin 32) (r k : Fin 128) : rowsP I c i (ix2 r k) = I.x c (ix2 (row i r) k) := by
  refine congrArg (I.x c) (funext fun a => ?_)
  match a with
  | ⟨0, _⟩ => exact Fin.ext (by show 128 * i.val + 1 * r.val = 128 * i.val + r.val; omega)
  | ⟨1, _⟩ => exact Fin.ext (by show 0 + 1 * k.val = k.val; omega)
theorem wl_apply (c : Dev nD) (k : Fin 128) (l : Fin 4096) : wl I c (ix2 k l) = I.w c (ix2 k (col false l)) := by
  refine congrArg (I.w c) (funext fun a => ?_)
  match a with
  | ⟨0, _⟩ => exact Fin.ext (by show 0 + 1 * k.val = k.val; omega)
  | ⟨1, _⟩ => exact Fin.ext (by show 0 + 1 * l.val = 0 + l.val; omega)
theorem wr_apply (c : Dev nD) (k : Fin 128) (l : Fin 4096) : wr I c (ix2 k l) = I.w c (ix2 k (col true l)) := by
  refine congrArg (I.w c) (funext fun a => ?_)
  match a with
  | ⟨0, _⟩ => exact Fin.ext (by show 0 + 1 * k.val = k.val; omega)
  | ⟨1, _⟩ => exact Fin.ext (by show 4096 + 1 * l.val = 4096 + l.val; omega)

/-- Every device's product of its blocks is a small integer. -/
structure Small (P : Dev nD → Fin 4096 → Fin 8192 → ℤ) : Prop where
  /-- The product, -/
  eq : ∀ c r l, ∑ k : Fin 128, I.x c (ix2 r k) * I.w c (ix2 k l) = (((P c r l : ℤ) : ℝ) : EReal)
  /-- and its size. -/
  le : ∀ c r l, |P c r l| ≤ 1023

variable {I} {P : Dev nD → Fin 4096 → Fin 8192 → ℤ}

theorem pr_eq (h : Small I P) (b : Bool) (i : Fin 32) (c : Dev nD) (j : S128x4096.Idx) :
    pr I b i c j = (((P c (row i (j 0)) (col b (j 1)) : ℤ) : ℝ) : EReal) := by
  rw [← h.eq]
  unfold pr
  refine Finset.sum_congr rfl fun k _ => ?_
  cases b
  · exact congrArg₂ (· * ·) (rowsP_apply I c i (j 0) k) (wl_apply I c k (j 1))
  · exact congrArg₂ (· * ·) (rowsP_apply I c i (j 0) k) (wr_apply I c k (j 1))

/-- A stream's partial sum as an integer. -/
def acI (p : Dev nD → ℤ) (b : Bool) : ℕ → Dev nD → ℤ
  | 0, c => p c
  | s + 1, c => acI p b s (pred b c) + p c

theorem acI_le {p : Dev nD → ℤ} (hp : ∀ c, |p c| ≤ 1023) (b : Bool) (s : ℕ) : ∀ c, |acI p b s c| ≤ 1023 * (s + 1) := by
  induction s with
  | zero => intro c; rw [acI]; simpa using hp c
  | succ s ih =>
    intro c
    rw [acI]
    have h1 := ih (pred b c)
    have h2 := hp c
    have h3 := abs_add_le (acI p b s (pred b c)) (p c)
    push_cast
    linarith

theorem acI_sum (p : Dev nD → ℤ) (b : Bool) (s : ℕ) : ∀ c, acI p b s c = ∑ i ∈ Finset.range (s + 1), p (hop c (i * st (!b))) := by
  induction s with
  | zero => intro c; simp [acI, hop_zero]
  | succ s ih =>
    intro c
    rw [acI, ih, Finset.sum_range_succ' _ (s + 1)]
    refine congrArg₂ (· + ·) (Finset.sum_congr rfl fun i _ => ?_) ?_
    · unfold pred; rw [hop_hop]; congr 2; ring
    · simp [hop_zero]

theorem acI_last (p : Dev nD → ℤ) (b : Bool) (c : Dev nD) : acI p b 31 c = ∑ d, p d := by
  rw [acI_sum, Finset.sum_range]
  refine Function.Bijective.sum_comp (e := fun i : Fin 32 => hop c (i.val * st (!b))) ?_ p
  refine (Fintype.bijective_iff_injective_and_card _).mpr ⟨fun i i' h => ?_, rfl⟩
  have e := congrArg (fun d => (iv d).val) h
  simp only [iv_hop] at e
  have := i.isLt; have := i'.isLt; have := (iv c).isLt
  refine Fin.ext ?_
  cases b
  · simp only [Bool.not_false, st] at e; omega
  · simp only [Bool.not_true, st] at e; omega

theorem cpl_succ (b : Bool) (s : ℕ) (hs : s < 31) (c : Dev nD) : cpl b (s + 1) c = cpl b s (pred b c) := by
  refine Fin.ext ?_
  cases b <;> cases s <;> simp only [cpl, plc, pred, iv_hop, st, Bool.not_false, Bool.not_true] <;> omega

theorem acc_toInt (h : Small I P) (b : Bool) (s : ℕ) : s ≤ 31 → ∀ (c : Dev nD) (j : S128x4096.Idx),
    (acc I b s c j).toInt = acI (fun d => P d (row (cpl b s c) (j 0)) (col b (j 1))) b s c := by
  induction s with
  | zero =>
    intro _ c j
    rw [acc_zero, pr_eq h, toInt_fix _ (by have := h.le c (row (iv c) (j 0)) (col b (j 1)); omega)]
    cases b <;> rfl
  | succ s ih =>
    intro hs c j
    have hb := acI_le (p := fun d => P d (row (cpl b (s + 1) c) (j 0)) (col b (j 1))) (fun d => h.le d _ _) b (s + 1) c
    rw [acI] at hb
    rw [acc_succ, pr_eq h, zi, ih (by omega), ← cpl_succ b s (by omega), ← EReal.coe_add, ← Int.cast_add, toInt_fix, acI]
    refine hb.trans ?_
    push_cast
    have : (s : ℤ) + 1 ≤ 31 := by exact_mod_cast hs
    linarith

/-- The sum over all devices. -/
def tot (P : Dev nD → Fin 4096 → Fin 8192 → ℤ) (r : Fin 4096) (l : Fin 8192) : ℤ := ∑ d, P d r l

theorem acc_last (h : Small I P) (b : Bool) (c : Dev nD) (j : S128x4096.Idx) :
    (acc I b 31 c j).toInt = tot P (row (cpl b 31 c) (j 0)) (col b (j 1)) := by
  rw [acc_toInt h b 31 le_rfl, acI_last]; rfl

theorem ag_eq (b : Bool) (s : ℕ) : ∀ c, ag I b s c = acc I b 31 (hop c (s * st (!b))) := by
  induction s with
  | zero => intro c; rw [Nat.zero_mul, hop_zero]; exact ag_zero I b c
  | succ s ih =>
    intro c
    rw [ag_succ, ih]; unfold pred; rw [hop_hop]; congr 2; ring

theorem ag_toInt (h : Small I P) (b : Bool) (s : ℕ) (hs : s ≤ 31) (c : Dev nD) (j : S128x4096.Idx) :
    (ag I b s c j).toInt = tot P (row (place b c s) (j 0)) (col b (j 1)) := by
  rw [ag_eq, acc_last h]
  congr 2
  refine Fin.ext ?_
  cases b <;> simp only [cpl, plc, place, iv_hop, st, Bool.not_false, Bool.not_true] <;> omega

/-- The exchanged maximum is the least bound of all the sums' magnitudes. -/
theorem mx_tot (h : Small I P) (c : Dev nD) (z : EReal) :
    mx I 5 c ≤ z ↔ ∀ r l, mag (((tot P r l : ℤ) : ℝ) : EReal) ≤ z := by
  rw [mx_five_le]
  simp only [mx_zero_le, zi, acc_last h]
  constructor
  · intro hd r l
    have key (b : Bool) : ∃ d, cpl b 31 d = ⟨r.val / 128, by omega⟩ := by
      cases b
      · refine ⟨hop (rg ⟨r.val / 128, by omega⟩) 31, Fin.ext ?_⟩
        simp only [cpl, plc, iv_hop, iv_rg]; omega
      · refine ⟨hop (rg ⟨r.val / 128, by omega⟩) 1, Fin.ext ?_⟩
        simp only [cpl, plc, iv_hop, iv_rg]; omega
    have hr : row ⟨r.val / 128, by omega⟩ ⟨r.val % 128, by omega⟩ = r := Fin.ext (by simp only [row]; omega)
    by_cases hl : l.val < 4096
    · obtain ⟨d, e⟩ := key false
      have := (hd d).1 (ix2 ⟨r.val % 128, by omega⟩ ⟨l.val, hl⟩)
      rw [e] at this
      rwa [show row ⟨r.val / 128, by omega⟩ ((ix2 (⟨r.val % 128, by omega⟩ : Fin 128) (⟨l.val, hl⟩ : Fin 4096)) 0) = r from hr,
        show col false ((ix2 (⟨r.val % 128, by omega⟩ : Fin 128) (⟨l.val, hl⟩ : Fin 4096)) 1) = l from Fin.ext (by show 0 + l.val = l.val; omega)] at this
    · obtain ⟨d, e⟩ := key true
      have := (hd d).2 (ix2 ⟨r.val % 128, by omega⟩ ⟨l.val - 4096, by omega⟩)
      rw [e] at this
      rwa [show row ⟨r.val / 128, by omega⟩ ((ix2 (⟨r.val % 128, by omega⟩ : Fin 128) (⟨l.val - 4096, by omega⟩ : Fin 4096)) 0) = r from hr,
        show col true ((ix2 (⟨r.val % 128, by omega⟩ : Fin 128) (⟨l.val - 4096, by omega⟩ : Fin 4096)) 1) = l from Fin.ext (by show 4096 + (l.val - 4096) = l.val; omega)] at this
  · intro hd d
    exact ⟨fun j => hd _ _, fun j => hd _ _⟩

end Cert.Proof.Value

end
-- ==== Proof.ValueRef.lean ====
/-
  The reference's result at an element: the product divided by the scale, rounded to the step of its binade, and scaled back.
-/
module

public import proofs.«01_k».proof.Proof.Gen.ReferenceIdeal.Run
public import proofs.«01_k».proof.Proof.ValueArith
public import Idealize.ShloMosaic.Lib.StackMember

@[expose] public section

noncomputable section

namespace Cert.Proof.Value.Ref

open Cert.ReferenceIdeal Cert.ReferenceIdeal.Gen
open Idealize.ShloMosaic Idealize.ShloMosaic.ValueIdx Idealize.ShloMosaic.TcCoe
open Cert.Proof.Value
open scoped BigOperators

/-- An array of one word, -/
def full (b : BitVec 32) : FVec Ideal S4096x8192 .f32 := broadcastInDim S4096x8192 ![] bcast_S_S4096x8192 (constant S_ .f32 b)
/-- the scale, -/
def scT (Y : FVec Ideal S4096x8192 .f32) : FVec Ideal S_ .f32 :=
  Host.divf (Host.reduce FloatOps.maximumf (Host.absf Y) (constant S_ .f32 0xFF800000#32) reducesTo_S4096x8192_S_d0_1 h_S_) (constant S_ .f32 0x43E00000#32)
/-- the chain of steps, -/
def stepT (a : FVec Ideal S4096x8192 .f32) : FVec Ideal S4096x8192 .f32 :=
  (maximumf (maximumf (maximumf (maximumf (maximumf (maximumf (maximumf (maximumf (maximumf (maximumf (maximumf (maximumf (maximumf (maximumf (maximumf (full 0x3B000000#32) (select (cmpf .oge a (full 0x3C800000#32)) (full 0x3B000000#32) (full 0x00000000#32))) (select (cmpf .oge a (full 0x3D000000#32)) (full 0x3B800000#32) (full 0x00000000#32))) (select (cmpf .oge a (full 0x3D800000#32)) (full 0x3C000000#32) (full 0x00000000#32))) (select (cmpf .oge a (full 0x3E000000#32)) (full 0x3C800000#32) (full 0x00000000#32))) (select (cmpf .oge a (full 0x3E800000#32)) (full 0x3D000000#32) (full 0x00000000#32))) (select (cmpf .oge a (full 0x3F000000#32)) (full 0x3D800000#32) (full 0x00000000#32))) (select (cmpf .oge a (full 0x3F800000#32)) (full 0x3E000000#32) (full 0x00000000#32))) (select (cmpf .oge a (full 0x40000000#32)) (full 0x3E800000#32) (full 0x00000000#32))) (select (cmpf .oge a (full 0x40800000#32)) (full 0x3F000000#32) (full 0x00000000#32))) (select (cmpf .oge a (full 0x41000000#32)) (full 0x3F800000#32) (full 0x00000000#32))) (select (cmpf .oge a (full 0x41800000#32)) (full 0x40000000#32) (full 0x00000000#32))) (select (cmpf .oge a (full 0x42000000#32)) (full 0x40800000#32) (full 0x00000000#32))) (select (cmpf .oge a (full 0x42800000#32)) (full 0x41000000#32) (full 0x00000000#32))) (select (cmpf .oge a (full 0x43000000#32)) (full 0x41800000#32) (full 0x00000000#32))) (select (cmpf .oge a (full 0x43800000#32)) (full 0x42000000#32) (full 0x00000000#32)))
/-- the result from the quotient and the magnitude, -/
def outV (Y v a : FVec Ideal S4096x8192 .f32) : FVec Ideal S4096x8192 .bf16 :=
  truncf .bf16 (mulf (mulf (Host.sign v) (minimumf (mulf (Host.roundeven (Host.divf a (id (stepT a)))) (id (stepT a))) (full 0x43E00000#32))) (broadcastInDim S4096x8192 ![] bcast_S_S4096x8192 (scT Y))) bitsLt_bf16_f32
/-- and from the product. -/
def refOf (Y : FVec Ideal S4096x8192 .f32) : FVec Ideal S4096x8192 .bf16 :=
  outV Y (Host.divf Y (broadcastInDim S4096x8192 ![] bcast_S_S4096x8192 (scT Y))) (Host.absf (Host.divf Y (broadcastInDim S4096x8192 ![] bcast_S_S4096x8192 (scT Y))))

/-- The chain at an element, with its words. -/
def stepW (a : EReal) : EReal := max (max (max (max (max (max (max (max (max (max (max (max (max (max (max (kw 0x3B000000#32) (pick a (kw 0x3C800000#32) (kw 0x3B000000#32) (kw 0x00000000#32))) (pick a (kw 0x3D000000#32) (kw 0x3B800000#32) (kw 0x00000000#32))) (pick a (kw 0x3D800000#32) (kw 0x3C000000#32) (kw 0x00000000#32))) (pick a (kw 0x3E000000#32) (kw 0x3C800000#32) (kw 0x00000000#32))) (pick a (kw 0x3E800000#32) (kw 0x3D000000#32) (kw 0x00000000#32))) (pick a (kw 0x3F000000#32) (kw 0x3D800000#32) (kw 0x00000000#32))) (pick a (kw 0x3F800000#32) (kw 0x3E000000#32) (kw 0x00000000#32))) (pick a (kw 0x40000000#32) (kw 0x3E800000#32) (kw 0x00000000#32))) (pick a (kw 0x40800000#32) (kw 0x3F000000#32) (kw 0x00000000#32))) (pick a (kw 0x41000000#32) (kw 0x3F800000#32) (kw 0x00000000#32))) (pick a (kw 0x41800000#32) (kw 0x40000000#32) (kw 0x00000000#32))) (pick a (kw 0x42000000#32) (kw 0x40800000#32) (kw 0x00000000#32))) (pick a (kw 0x42800000#32) (kw 0x41000000#32) (kw 0x00000000#32))) (pick a (kw 0x43000000#32) (kw 0x41800000#32) (kw 0x00000000#32))) (pick a (kw 0x43800000#32) (kw 0x42000000#32) (kw 0x00000000#32))

theorem stepW_eq (a : EReal) : stepW a = rst a 14 := by
  unfold stepW
  simp only [kw_p0, kw_p1, kw_p2, kw_p3, kw_p4, kw_p5, kw_p6, kw_p7, kw_p8, kw_p9, kw_p10, kw_p11, kw_p12, kw_p13, kw_p14, kw_p15, kw_p16, kw_p17, kw_zero]
  rfl

theorem full_apply (b : BitVec 32) (i : S4096x8192.Idx) : full b i = kw b := rfl
set_option maxRecDepth 8000 in
theorem stepT_apply (a : FVec Ideal S4096x8192 .f32) (i : S4096x8192.Idx) : stepT a i = stepW (a i) := rfl

/-- The scale as a number. -/
def sc (Y : FVec Ideal S4096x8192 .f32) : EReal := scT Y ix0

theorem outV_apply (Y v a : FVec Ideal S4096x8192 .f32) (i : S4096x8192.Idx) :
    outV Y v a i = Ideal.sign (v i) * min (rnd (Ideal.div (a i) (stepT a i)) * stepT a i) (kw 0x43E00000#32) * sc Y := by
  unfold outV
  have hs : broadcastInDim S4096x8192 ![] bcast_S_S4096x8192 (scT Y) i = sc Y := broadcastInDim_scalar_apply bcast_S_S4096x8192 (scT Y) i
  rw [← hs, ← full_apply _ i]
  rfl

theorem refOf_apply (Y : FVec Ideal S4096x8192 .f32) (i : S4096x8192.Idx) : refOf Y i = rv (Ideal.div (Y i) (sc Y)) (sc Y) := by
  unfold refOf rv
  have e : (Host.divf Y (broadcastInDim S4096x8192 ![] bcast_S_S4096x8192 (scT Y))) i = Ideal.div (Y i) (sc Y) := by
    have hs : broadcastInDim S4096x8192 ![] bcast_S_S4096x8192 (scT Y) i = sc Y := broadcastInDim_scalar_apply bcast_S_S4096x8192 (scT Y) i
    rw [← hs]
    rfl
  have e' : Host.absf (Host.divf Y (broadcastInDim S4096x8192 ![] bcast_S_S4096x8192 (scT Y))) i = mag (Ideal.div (Y i) (sc Y)) := by
    rw [← e]; rfl
  rw [outV_apply, stepT_apply, stepW_eq, e, e', kw_448]

theorem idx_zero (x y : S_.Idx) : x = y := funext fun a => a.elim0

/-- The greatest magnitude as the reference takes it, -/
def am (Y : FVec Ideal S4096x8192 .f32) : FVec Ideal S_ .f32 :=
  Host.reduce FloatOps.maximumf (Host.absf Y) (constant S_ .f32 0xFF800000#32) reducesTo_S4096x8192_S_d0_1 h_S_
/-- and as a number. -/
def amv (Y : FVec Ideal S4096x8192 .f32) : EReal := am Y ix0

/-- The greatest magnitude, as the least bound of them all. -/
theorem amax_le (Y : FVec Ideal S4096x8192 .f32) (z : EReal) :
    amv Y ≤ z ↔ ∀ i, mag (Y i) ≤ z := by
  unfold amv am
  rw [Host.reduce_eq_fold]
  refine (Finset.fold_max_le (α := Shape.Idx S4096x8192) (β := EReal) (s := Finset.univ.filter _) (c := z)).trans ?_
  constructor
  · rintro ⟨_, hi⟩ i
    exact hi i (Finset.mem_filter.mpr ⟨Finset.mem_univ _, idx_zero _ _⟩)
  · intro hi
    exact ⟨(show kw 0xFF800000#32 ≤ z by rw [kw_bot]; exact bot_le), fun i _ => hi i⟩

theorem sc_eq (Y : FVec Ideal S4096x8192 .f32) (A : EReal) (h : ∀ z, A ≤ z ↔ ∀ i, mag (Y i) ≤ z) :
    sc Y = Ideal.div A ((448 : ℝ) : EReal) := by
  have e : amv Y = A :=
    le_antisymm ((amax_le Y A).mpr ((h A).mp le_rfl)) ((h _).mpr ((amax_le Y _).mp le_rfl))
  rw [← e, ← kw_448]
  rfl

/-- The reference's product, -/
def prodT (x : FVec Ideal S4096x4096 .bf16) (w : FVec Ideal S4096x8192 .bf16) : FVec Ideal S4096x8192 .f32 :=
  Host.dotGeneral dot_S4096x4096_S4096x8192_S4096x8192_1_0_0_1_n_n none x w
/-- and at an element. -/
theorem dot_apply (x : FVec Ideal S4096x4096 .bf16) (w : FVec Ideal S4096x8192 .bf16) (r : Fin 4096) (l : Fin 8192) :
    prodT x w (ix2 r l) = ∑ k : Fin 4096, x (ix2 r k) * w (ix2 k l) :=
  StackMember.dotGeneral_plain_apply (m := 4096) (k := 4096) (n := 8192) none x w r l

set_option maxRecDepth 8192 in
theorem res_eq (m : (ℓ : Loc nD τ sig) → Buf (Elt Ideal) ℓ) (c : Dev nD) :
    Cert.ReferenceIdeal.Value.res_main_v79 m c = refOf (prodT (m ((c.tc : Thread nD τ).loc main_arg0)) (m ((c.tc : Thread nD τ).loc main_arg1))) := by
  unfold Cert.ReferenceIdeal.Value.res_main_v79 refOf outV stepT scT full prodT
  rfl

end Cert.Proof.Value.Ref

end
-- ==== Proof.ValuePre.lean ====
/-
  What the precondition says of a device's blocks: each element of their product is a small multiple of one over 2048.
-/
module

public import proofs.«01_k».proof.Proof.Gen.Pre_on_the_grid_KernelIdeal
public import proofs.«01_k».proof.Proof.ValueArith
public import Idealize.ShloMosaic.Lib.StackMember
public import Idealize.ShloMosaic.Lib.ReduceAll
public import Idealize.ShloMosaic.Lib.Layout

@[expose] public section

noncomputable section

namespace Cert.Proof.Value.Pre

open Cert.Pre_on_the_grid_KernelIdeal Cert.Pre_on_the_grid_KernelIdeal.Gen
open Idealize.ShloMosaic Idealize.ShloMosaic.ValueIdx
open Cert.Proof.Value
open scoped BigOperators

variable (x : FVec Ideal S4096x128 .bf16) (w : FVec Ideal S128x8192 .bf16)

/-- The product of a device's blocks at an element. -/
def q (r : Fin 4096) (l : Fin 8192) : EReal := ∑ k : Fin 128, x (ix2 r k) * w (ix2 k l)

/-- The products times 2048. -/
def sq : FVec Ideal S4096x8192 .f32 :=
  mulf (Host.dotGeneral dot_S4096x128_S128x8192_S4096x8192_1_0_0_1_n_n none x w) (broadcastInDim S4096x8192 ![] Facts.bcast_S_S4096x8192 (constant S_ .f32 0x45000000#32))

theorem sq_apply (r : Fin 4096) (l : Fin 8192) : sq x w (ix2 r l) = q x w r l * ((2048 : ℝ) : EReal) := by
  have e : Host.dotGeneral dot_S4096x128_S128x8192_S4096x8192_1_0_0_1_n_n none x w (ix2 r l) = q x w r l :=
    StackMember.dotGeneral_plain_apply (m := 4096) (k := 128) (n := 8192) none x w r l
  rw [← kw_2048, ← e]
  rfl

theorem and_one (a b : BitVec 1) (h : a &&& b = 1#1) : a = 1#1 ∧ b = 1#1 := by revert a b; decide

instance scalar_sub : Subsingleton S_.Idx := ⟨fun a b => funext fun i => i.elim0⟩

theorem small (h : fn (F := Ideal) x w = fun _ => 1#1) (r : Fin 4096) (l : Fin 8192) :
    ∃ n : ℤ, q x w r l * ((2048 : ℝ) : EReal) = ((n : ℝ) : EReal) ∧ |n| ≤ 1023 := by
  have h0 : Host.reduce IntOp.andi (andi (cmpf .oeq (Host.roundeven (sq x w)) (sq x w))
      (cmpf .ole (Host.absf (sq x w)) (broadcastInDim S4096x8192 ![] Facts.bcast_S_S4096x8192 (constant S_ .f32 0x447FC000#32))))
      (constantI S_ 1 1#1) Facts.reducesTo_S4096x8192_S_d0_1 Facts.h_S_ ix0 = 1#1 := congrFun h ix0
  have h1 := Host.reduce_andi_all _ _ _ _ _ h0 (ix2 r l)
  obtain ⟨ha, hb⟩ := and_one _ _ h1
  have ha' : Ideal.cmp .oeq (rnd (sq x w (ix2 r l))) (sq x w (ix2 r l)) = 1#1 := ha
  have hb' : Ideal.cmp .ole (mag (sq x w (ix2 r l))) (kw 0x447FC000#32) = 1#1 := hb
  rw [kw_1023] at hb'
  have ea : rnd (sq x w (ix2 r l)) = sq x w (ix2 r l) := by
    by_contra hn
    unfold Ideal.cmp at ha'
    simp [hn] at ha'
  have eb : mag (sq x w (ix2 r l)) ≤ ((1023 : ℝ) : EReal) := by
    by_contra hn
    unfold Ideal.cmp at hb'
    simp only [hn, decide_false] at hb'
    exact absurd hb' (by decide)
  obtain ⟨n, e, hn⟩ := int_of_rnd ea eb
  rw [sq_apply] at e
  exact ⟨n, e, by exact_mod_cast hn⟩

/-- A sum over the whole contracted axis, device by device. -/
theorem sum_split (f : Fin 4096 → EReal) : ∑ i, f i = ∑ d : Fin 32, ∑ k : Fin 128, f ⟨d.val * 128 + k.val, by omega⟩ := by
  rw [← Fintype.sum_prod_type']
  refine ((Equiv.sum_comp (finProdFinEquiv (m := 32) (n := 128)) f).symm).trans (Finset.sum_congr rfl fun p _ => congrArg f (Fin.ext ?_))
  show p.2.val + 128 * p.1.val = p.1.val * 128 + p.2.val
  omega

/-- A device's block of `x` at an element, -/
theorem xblock (X : Shape.Idx ⟨2, ![4096, 4096]⟩ → EReal) (c : Fin 32) (r : Fin 4096) (k : Fin 128) :
    Layout.block ⟨2, ![4096, 128]⟩ ⟨2, ![4096, 4096]⟩ 1 32 c X (by decide) (ix2 r k) = X (ix2 r ⟨c.val * 128 + k.val, by omega⟩) := by
  rw [Layout.block_apply]
  refine congrArg X (funext fun a => ?_)
  match a with
  | ⟨0, _⟩ => rfl
  | ⟨1, _⟩ => rfl
/-- and of `w`. -/
theorem wblock (W : Shape.Idx ⟨2, ![4096, 8192]⟩ → EReal) (c : Fin 32) (k : Fin 128) (l : Fin 8192) :
    Layout.block ⟨2, ![128, 8192]⟩ ⟨2, ![4096, 8192]⟩ 0 32 c W (by decide) (ix2 k l) = W (ix2 ⟨c.val * 128 + k.val, by omega⟩ l) := by
  rw [Layout.block_apply]
  refine congrArg W (funext fun a => ?_)
  match a with
  | ⟨0, _⟩ => rfl
  | ⟨1, _⟩ => rfl

end Cert.Proof.Value.Pre

end
-- ==== Proof.ValueClaim.lean ====
/-
  The kernel's result is the reference's: both are the product over all devices, rounded to the steps of the greatest magnitude.
-/
module

public import proofs.«01_k».proof.Defs
public import proofs.«01_k».proof.Proof.KernelIdealLaunch
public import proofs.«01_k».proof.Proof.ValueSum
public import proofs.«01_k».proof.Proof.ValueRef
public import proofs.«01_k».proof.Proof.ValuePre

@[expose] public section

noncomputable section

namespace Cert.Proof.Value

open Cert.KernelIdeal Cert.KernelIdeal.Gen
open Idealize.ShloMosaic Idealize.ShloMosaic.ValueIdx Idealize.ShloMosaic.TcCoe Idealize.SL.Sem
open Cert.Proof.KernelIdealRun
open scoped BigOperators

section Kernel

variable {I : Ins Ideal} {P : Dev nD → Fin 4096 → Fin 8192 → ℤ}

/-- There is a greatest magnitude. -/
theorem exists_top (P : Dev nD → Fin 4096 → Fin 8192 → ℤ) : ∃ (r : Fin 4096) (l : Fin 8192), ∀ r' l', |tot P r' l'| ≤ |tot P r l| := by
  obtain ⟨p, hp⟩ := Finite.exists_max fun p : Fin 4096 × Fin 8192 => |tot P p.1 p.2|
  exact ⟨p.1, p.2, fun r' l' => hp (r', l')⟩

/-- An integer's magnitude. -/
theorem mag_int (n : ℤ) : mag ((n : ℝ) : EReal) = (((|n| : ℤ) : ℝ) : EReal) := by
  rw [mag_coe, Int.cast_abs]

theorem mx_eq (h : Small I P) (c : Dev nD) {r : Fin 4096} {l : Fin 8192} (ht : ∀ r' l', |tot P r' l'| ≤ |tot P r l|) :
    mx I 5 c = (((|tot P r l| : ℤ) : ℝ) : EReal) := by
  refine le_antisymm (α := EReal) ((mx_tot h c _).mpr fun r' l' => ?_) ?_
  · rw [mag_int]
    exact EReal.coe_le_coe_iff.mpr (Int.cast_le.mpr (ht r' l'))
  · rw [← mag_int]
    exact (mx_tot h c _).mp le_rfl r l

/-- Every element of the result lies in one chunk. -/
theorem in_chunk (r : Fin 4096) (l : Fin 8192) : ∃ (b : Bool) (i : Fin 32) (j : S128x4096.Idx),
    (outR (b, i)).emb j = ix2 r l ∧ row i (j 0) = r ∧ col b (j 1) = l := by
  refine ⟨decide (4096 ≤ l.val), ⟨r.val / 128, by omega⟩, ix2 ⟨r.val % 128, by omega⟩ ⟨l.val % 4096, by omega⟩, ?_, ?_, ?_⟩
  · funext a
    match a with
    | ⟨0, _⟩ => exact Fin.ext (by show 128 * (r.val / 128) + 1 * (r.val % 128) = r.val; omega)
    | ⟨1, _⟩ =>
      refine Fin.ext ?_
      show (if decide (4096 ≤ l.val) = true then 4096 else 0) + 1 * (l.val % 4096) = l.val
      by_cases hl : 4096 ≤ l.val <;> simp only [hl, decide_true, decide_false, if_true, Bool.false_eq_true, if_false] <;> omega
  · exact Fin.ext (by show 128 * (r.val / 128) + r.val % 128 = r.val; omega)
  · refine Fin.ext ?_
    show (if decide (4096 ≤ l.val) = true then 4096 else 0) + l.val % 4096 = l.val
    by_cases hl : 4096 ≤ l.val <;> simp only [hl, decide_true, decide_false, if_true, Bool.false_eq_true, if_false] <;> omega

theorem pay27_eq (a : EReal) : k0_pay27 (F := Ideal) a = Ideal.div (kw 0x43E00000#32) a := rfl
theorem pay28_eq (a : EReal) : k0_pay28 (F := Ideal) a = Ideal.div a (kw 0x49600000#32) := rfl
theorem isc_eq (I : Ins Ideal) (c : Dev nD) : isc I c = Ideal.div ((448 : ℝ) : EReal) (mx I 5 c) := by
  unfold isc; rw [pay27_eq, kw_448]
theorem osc_eq (I : Ins Ideal) (c : Dev nD) : osc I c = Ideal.div (mx I 5 c) ((917504 : ℝ) : EReal) := by
  unfold osc; rw [pay28_eq, kw_917504]

/-- The kernel's result at an element. -/
theorem outW_apply (h : Small I P) (c : Dev nD) {r0 : Fin 4096} {l0 : Fin 8192} (ht : ∀ r' l', |tot P r' l'| ≤ |tot P r0 l0|)
    (r : Fin 4096) (l : Fin 8192) :
    outW I c (ix2 r l) = kv (((tot P r l : ℤ) : ℝ) * Ideal.div ((448 : ℝ) : EReal) (((|tot P r0 l0| : ℤ) : ℝ) : EReal))
      (Ideal.div (((|tot P r0 l0| : ℤ) : ℝ) : EReal) ((917504 : ℝ) : EReal)) := by
  obtain ⟨b, i, j, e, er, el⟩ := in_chunk r l
  have hg : outW I c ((outR (b, i)).emb j) = outT I b (tOf b c i).val c j := Rect.glue_emb outR out_cov out_disj _ (b, i) j
  rw [← e, hg, outT_apply, zi, ag_toInt h b _ (by have := (tOf b c i).isLt; omega), place_tOf, er, el, isc_eq, osc_eq, mx_eq h c ht]

end Kernel

section Both

variable (m : (ℓ : Loc nD τ sig) → Buf (Elt Ideal) ℓ)

/-- A device's blocks as the run starts. -/
def xb (c : Dev nD) : FVec Ideal S4096x128 .bf16 := m ((c.tc : Thread nD τ).loc main_arg0)
def wb (c : Dev nD) : FVec Ideal S128x8192 .bf16 := m ((c.tc : Thread nD τ).loc main_arg1)

theorem ins_x (c : Dev nD) : (ins m).x c = xb m c := V1_of m c main_arg0 (by decide)
theorem ins_w (c : Dev nD) (j : S128x8192.Idx) : (ins m).w c j = wb m c j * ((2048 : ℝ) : EReal) := by
  have e : V1 m c main_v2 = mulf (F := Ideal) (wb m c) (broadcastInDim S128x8192 ![] bcast_S_S128x8192 (constant S_ .bf16 0x4500#16)) := by
    unfold_abbrev_sides
    after_results_simp
    rfl
  refine (congrFun e j).trans ?_
  rw [← bf_2048]
  rfl

/-- The precondition makes every device's product a small integer, and gives the product itself. -/
theorem small_of_pre (h : ∀ c, Cert.Pre_on_the_grid_KernelIdeal.fn (F := Ideal) (xb m c) (wb m c) = fun _ => 1#1) :
    ∃ P, Small (ins m) P ∧ ∀ c r l, Pre.q (xb m c) (wb m c) r l = ((((P c r l : ℤ) : ℝ) / 2048 : ℝ) : EReal) := by
  choose P hP hb using fun c r l => Pre.small (xb m c) (wb m c) (h c) r l
  refine ⟨P, ⟨fun c r l => ?_, hb⟩, fun c r l => eq_div_of_mul (by norm_num) (hP c r l)⟩
  rw [← hP, Pre.q, sum_mul_coe _ _ (by norm_num)]
  refine Finset.sum_congr rfl fun k _ => ?_
  rw [ins_x, ins_w, mul_assoc]

variable (X : FVec Ideal Cert.ReferenceIdeal.S4096x4096 .bf16) (W : FVec Ideal Cert.ReferenceIdeal.S4096x8192 .bf16)

/-- The reference's product is the devices' products added up. -/
theorem prod_eq (hx : ∀ c : Dev nD, xb m c = Layout.block ⟨2, ![4096, 128]⟩ ⟨2, ![4096, 4096]⟩ 1 32 c X (by decide))
    (hw : ∀ c : Dev nD, wb m c = Layout.block ⟨2, ![128, 8192]⟩ ⟨2, ![4096, 8192]⟩ 0 32 c W (by decide))
    {P : Dev nD → Fin 4096 → Fin 8192 → ℤ} (hq : ∀ c r l, Pre.q (xb m c) (wb m c) r l = ((((P c r l : ℤ) : ℝ) / 2048 : ℝ) : EReal))
    (r : Fin 4096) (l : Fin 8192) : Ref.prodT X W (ix2 r l) = ((((tot P r l : ℤ) : ℝ) / 2048 : ℝ) : EReal) := by
  rw [Ref.dot_apply, Pre.sum_split]
  have e (c : Dev nD) : ∑ k : Fin 128, X (ix2 r ⟨c.val * 128 + k.val, by have := c.isLt; simp only [nD] at this; omega⟩) * W (ix2 ⟨c.val * 128 + k.val, by have := c.isLt; simp only [nD] at this; omega⟩ l)
      = ((((P c r l : ℤ) : ℝ) / 2048 : ℝ) : EReal) := by
    rw [← hq, Pre.q]
    refine Finset.sum_congr rfl fun k _ => ?_
    rw [hx, hw]
    exact (congrArg₂ (· * ·) (Pre.xblock X c r k) (Pre.wblock W c k l)).symm
  refine (Finset.sum_congr rfl fun c _ => e c).trans ?_
  refine (sum_coe _ _).trans (congrArg _ ?_)
  unfold tot
  rw [Int.cast_sum, Finset.sum_div]

/-- Both results are one array. -/
theorem same (h : ∀ c, Cert.Pre_on_the_grid_KernelIdeal.fn (F := Ideal) (xb m c) (wb m c) = fun _ => 1#1)
    (hx : ∀ c : Dev nD, xb m c = Layout.block ⟨2, ![4096, 128]⟩ ⟨2, ![4096, 4096]⟩ 1 32 c X (by decide))
    (hw : ∀ c : Dev nD, wb m c = Layout.block ⟨2, ![128, 8192]⟩ ⟨2, ![4096, 8192]⟩ 0 32 c W (by decide)) (c : Dev nD) :
    outW (ins m) c = Ref.refOf (Ref.prodT X W) := by
  obtain ⟨P, hs, hq⟩ := small_of_pre m h
  obtain ⟨r0, l0, ht⟩ := exists_top P
  have hY := prod_eq m X W hx hw hq
  have hsc : Ref.sc (Ref.prodT X W) = Ideal.div ((((|tot P r0 l0| : ℤ) : ℝ) / 2048 : ℝ) : EReal) ((448 : ℝ) : EReal) := by
    have ha (r : Fin 4096) (l : Fin 8192) : mag (Ref.prodT X W (ix2 r l)) = ((((|tot P r l| : ℤ) : ℝ) / 2048 : ℝ) : EReal) := by
      rw [hY, mag_coe, abs_div, Int.cast_abs, abs_of_pos (show (0 : ℝ) < 2048 by norm_num)]
    refine Ref.sc_eq _ _ fun z => ⟨fun hz i => ?_, fun hz => ?_⟩
    · obtain ⟨r, l, rfl⟩ : ∃ (r : Fin 4096) (l : Fin 8192), i = ix2 r l := ⟨_, _, eq_ix2 i⟩
      rw [ha]
      refine le_trans (EReal.coe_le_coe_iff.mpr ?_) hz
      exact div_le_div_of_nonneg_right (Int.cast_le.mpr (ht r l)) (by norm_num)
    · rw [← ha]; exact hz _
  funext i
  obtain ⟨r, l, rfl⟩ : ∃ (r : Fin 4096) (l : Fin 8192), i = ix2 r l := ⟨_, _, eq_ix2 i⟩
  rw [outW_apply hs c ht, Ref.refOf_apply, hsc, hY, value_eq _ _ (ht r l)]

end Both

/-- The value claim. -/
theorem algebraic : Cert.algebraic_KernelIdeal_ReferenceIdeal_pre_on_the_grid_KernelIdeal := by
  intro m g m' g' hpre hin
  refine ⟨Cert.ReferenceIdeal.Value.res_main_v79 m' 0, ?_, ?_⟩
  · refine θ_run_mono (run_main m g) fun r h c => ⟨?_, (h.1 c).1, (h.1 c).2.1⟩
    rw [(h.1 c).2.2, Ref.res_eq]
    exact same m _ _ hpre (fun c => (hin c).1) (fun c => (hin c).2) c
  · exact θ_run_mono (Cert.ReferenceIdeal.Value.run (F := Ideal) m' g') fun r h => h 0

end Cert.Proof.Value

end
-- ==== Proof.lean ====
/-
  The claims, proved.
-/
module

public import proofs.«01_k».proof.Defs
public import proofs.«01_k».proof.Proof.Gen.ReferenceIdeal
public import proofs.«01_k».proof.Proof.Gen.ReferenceIdeal.Run
public import proofs.«01_k».proof.Proof.Gen.Pre_on_the_grid_KernelIdeal
public import proofs.«01_k».proof.Proof.Gen.Pre_on_the_grid_ReferenceIdeal
public import proofs.«01_k».proof.Proof.KernelLaunch
public import proofs.«01_k».proof.Proof.ValueClaim
public import Idealize.ShloMosaic.Lib.Quiescent

@[expose] public section

noncomputable section

namespace Cert.Proof

open Idealize.ShloMosaic
open Idealize.SL.Sem

theorem frame_Kernel : Cert.quiescent_Kernel := fun m g _ =>
  θ_run_mono (Cert.Proof.KernelRun.run_main m g) fun _ h => ⟨fun c => ⟨(h.1 c).1, (h.1 c).2.1⟩, h.2⟩

theorem frame_KernelIdeal : Cert.quiescent_KernelIdeal := fun m g _ =>
  θ_run_mono (Cert.Proof.KernelIdealRun.run_main m g) fun _ h => ⟨fun c => ⟨(h.1 c).1, (h.1 c).2.1⟩, h.2⟩

theorem frame_KernelIdeal_pre : Cert.quiescent_KernelIdeal_pre_on_the_grid_KernelIdeal := fun m g _ => frame_KernelIdeal m g trivial

theorem frame_ReferenceIdeal : Cert.quiescent_ReferenceIdeal := fun m g _ =>
  θ_run_mono (Cert.ReferenceIdeal.Value.run (F := Ideal) m g) fun r h =>
    ⟨fun c => ⟨(h c).2.1, (h c).2.2⟩, sem_eq_zero_of_no_sems (by decide) r.2⟩

theorem frame_ReferenceIdeal_pre : Cert.quiescent_ReferenceIdeal_pre_on_the_grid_ReferenceIdeal := fun m g _ => frame_ReferenceIdeal m g trivial

theorem claim : Cert.Claim :=
  ⟨Cert.Kernel.Gen.facts, Cert.KernelIdeal.Gen.facts, Cert.ReferenceIdeal.Gen.facts,
    Cert.Pre_on_the_grid_KernelIdeal.Gen.facts, Cert.Pre_on_the_grid_ReferenceIdeal.Gen.facts,
    frame_Kernel, frame_KernelIdeal, frame_KernelIdeal_pre, frame_ReferenceIdeal, frame_ReferenceIdeal_pre,
    trivial, Cert.Proof.Value.algebraic⟩

end Cert.Proof

end
